-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_y_finite [hPre_y_finite : Cert.Pre_y_finite.Facts] (m : (ℓ : Loc Cert.MergeIdeal.nD Cert.MergeIdeal.τ Cert.MergeIdeal.sig) → Buf (Elt Ideal) ℓ) : Prop :=
  ∀ c : Dev Cert.MergeIdeal.nD,
    (Cert.Pre_y_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19)) (m ((c.tc : Thread Cert.MergeIdeal.nD Cert.MergeIdeal.τ).loc Cert.MergeIdeal.main_arg20))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_y_finite [hPre_y_finite : Cert.Pre_y_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_y_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14)) (m ((c.tc : Thread Cert.MergeRefIdeal.nD Cert.MergeRefIdeal.τ).loc Cert.MergeRefIdeal.main_arg15)) (m ((c.tc : Thread Cert.MergeRefIdeal.nD Cert.MergeRefIdeal.τ).loc Cert.MergeRefIdeal.main_arg16)) (m ((c.tc : Thread Cert.MergeRefIdeal.nD Cert.MergeRefIdeal.τ).loc Cert.MergeRefIdeal.main_arg17)) (m ((c.tc : Thread Cert.MergeRefIdeal.nD Cert.MergeRefIdeal.τ).loc Cert.MergeRefIdeal.main_arg18)) (m ((c.tc : Thread Cert.MergeRefIdeal.nD Cert.MergeRefIdeal.τ).loc Cert.MergeRefIdeal.main_arg19)) (m ((c.tc : Thread Cert.MergeRefIdeal.nD Cert.MergeRefIdeal.τ).loc Cert.MergeRefIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16)
      ∧ r.2.mem ((c.tc : Thread Cert.Merge.nD Cert.Merge.τ).loc Cert.Merge.main_arg17) = m ((c.tc : Thread Cert.Merge.nD Cert.Merge.τ).loc Cert.Merge.main_arg17)
      ∧ r.2.mem ((c.tc : Thread Cert.Merge.nD Cert.Merge.τ).loc Cert.Merge.main_arg18) = m ((c.tc : Thread Cert.Merge.nD Cert.Merge.τ).loc Cert.Merge.main_arg18)
      ∧ r.2.mem ((c.tc : Thread Cert.Merge.nD Cert.Merge.τ).loc Cert.Merge.main_arg19) = m ((c.tc : Thread Cert.Merge.nD Cert.Merge.τ).loc Cert.Merge.main_arg19)
      ∧ r.2.mem ((c.tc : Thread Cert.Merge.nD Cert.Merge.τ).loc Cert.Merge.main_arg20) = m ((c.tc : Thread Cert.Merge.nD Cert.Merge.τ).loc Cert.Merge.main_arg20))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
      ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19)
      ∧ r.2.mem ((c.tc : Thread Cert.MergeIdeal.nD Cert.MergeIdeal.τ).loc Cert.MergeIdeal.main_arg20) = m ((c.tc : Thread Cert.MergeIdeal.nD Cert.MergeIdeal.τ).loc Cert.MergeIdeal.main_arg20))
      ∧ r.2.sem = fun _ => 0)

def quiescent_MergeIdeal_pre_y_finite [hMergeIdeal : Cert.MergeIdeal.Facts] [hPre_y_finite : Cert.Pre_y_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_y_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
      ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19)
      ∧ r.2.mem ((c.tc : Thread Cert.MergeIdeal.nD Cert.MergeIdeal.τ).loc Cert.MergeIdeal.main_arg20) = m ((c.tc : Thread Cert.MergeIdeal.nD Cert.MergeIdeal.τ).loc Cert.MergeIdeal.main_arg20))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16)
      ∧ r.2.mem ((c.tc : Thread Cert.MergeRefIdeal.nD Cert.MergeRefIdeal.τ).loc Cert.MergeRefIdeal.main_arg17) = m ((c.tc : Thread Cert.MergeRefIdeal.nD Cert.MergeRefIdeal.τ).loc Cert.MergeRefIdeal.main_arg17)
      ∧ r.2.mem ((c.tc : Thread Cert.MergeRefIdeal.nD Cert.MergeRefIdeal.τ).loc Cert.MergeRefIdeal.main_arg18) = m ((c.tc : Thread Cert.MergeRefIdeal.nD Cert.MergeRefIdeal.τ).loc Cert.MergeRefIdeal.main_arg18)
      ∧ r.2.mem ((c.tc : Thread Cert.MergeRefIdeal.nD Cert.MergeRefIdeal.τ).loc Cert.MergeRefIdeal.main_arg19) = m ((c.tc : Thread Cert.MergeRefIdeal.nD Cert.MergeRefIdeal.τ).loc Cert.MergeRefIdeal.main_arg19)
      ∧ r.2.mem ((c.tc : Thread Cert.MergeRefIdeal.nD Cert.MergeRefIdeal.τ).loc Cert.MergeRefIdeal.main_arg20) = m ((c.tc : Thread Cert.MergeRefIdeal.nD Cert.MergeRefIdeal.τ).loc Cert.MergeRefIdeal.main_arg20))
      ∧ r.2.sem = fun _ => 0)

def quiescent_MergeRefIdeal_pre_y_finite [hMergeRefIdeal : Cert.MergeRefIdeal.Facts] [hPre_y_finite : Cert.Pre_y_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_y_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16)
      ∧ r.2.mem ((c.tc : Thread Cert.MergeRefIdeal.nD Cert.MergeRefIdeal.τ).loc Cert.MergeRefIdeal.main_arg17) = m ((c.tc : Thread Cert.MergeRefIdeal.nD Cert.MergeRefIdeal.τ).loc Cert.MergeRefIdeal.main_arg17)
      ∧ r.2.mem ((c.tc : Thread Cert.MergeRefIdeal.nD Cert.MergeRefIdeal.τ).loc Cert.MergeRefIdeal.main_arg18) = m ((c.tc : Thread Cert.MergeRefIdeal.nD Cert.MergeRefIdeal.τ).loc Cert.MergeRefIdeal.main_arg18)
      ∧ r.2.mem ((c.tc : Thread Cert.MergeRefIdeal.nD Cert.MergeRefIdeal.τ).loc Cert.MergeRefIdeal.main_arg19) = m ((c.tc : Thread Cert.MergeRefIdeal.nD Cert.MergeRefIdeal.τ).loc Cert.MergeRefIdeal.main_arg19)
      ∧ r.2.mem ((c.tc : Thread Cert.MergeRefIdeal.nD Cert.MergeRefIdeal.τ).loc Cert.MergeRefIdeal.main_arg20) = m ((c.tc : Thread Cert.MergeRefIdeal.nD Cert.MergeRefIdeal.τ).loc Cert.MergeRefIdeal.main_arg20))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v12_0)) (v1 : (c : Dev Cert.ProjIdeal.nD) → Buf (Elt Ideal) ((c.tc : Thread Cert.ProjIdeal.nD Cert.ProjIdeal.τ).loc Cert.ProjIdeal.main_v12_1)) (v2 : (c : Dev Cert.ProjIdeal.nD) → Buf (Elt Ideal) ((c.tc : Thread Cert.ProjIdeal.nD Cert.ProjIdeal.τ).loc Cert.ProjIdeal.main_v12_2)) (v3 : (c : Dev Cert.ProjIdeal.nD) → Buf (Elt Ideal) ((c.tc : Thread Cert.ProjIdeal.nD Cert.ProjIdeal.τ).loc Cert.ProjIdeal.main_v12_3)) (v4 : (c : Dev Cert.ProjIdeal.nD) → Buf (Elt Ideal) ((c.tc : Thread Cert.ProjIdeal.nD Cert.ProjIdeal.τ).loc Cert.ProjIdeal.main_v12_4)) (v5 : (c : Dev Cert.ProjIdeal.nD) → Buf (Elt Ideal) ((c.tc : Thread Cert.ProjIdeal.nD Cert.ProjIdeal.τ).loc Cert.ProjIdeal.main_v12_5)) (v6 : (c : Dev Cert.ProjIdeal.nD) → Buf (Elt Ideal) ((c.tc : Thread Cert.ProjIdeal.nD Cert.ProjIdeal.τ).loc Cert.ProjIdeal.main_v12_6)) (v7 : (c : Dev Cert.ProjIdeal.nD) → Buf (Elt Ideal) ((c.tc : Thread Cert.ProjIdeal.nD Cert.ProjIdeal.τ).loc Cert.ProjIdeal.main_v12_7)) (v8 : (c : Dev Cert.ProjIdeal.nD) → Buf (Elt Ideal) ((c.tc : Thread Cert.ProjIdeal.nD Cert.ProjIdeal.τ).loc Cert.ProjIdeal.main_v12_8)) (v9 : (c : Dev Cert.ProjIdeal.nD) → Buf (Elt Ideal) ((c.tc : Thread Cert.ProjIdeal.nD Cert.ProjIdeal.τ).loc Cert.ProjIdeal.main_v12_9)) (v10 : (c : Dev Cert.ProjIdeal.nD) → Buf (Elt Ideal) ((c.tc : Thread Cert.ProjIdeal.nD Cert.ProjIdeal.τ).loc Cert.ProjIdeal.main_v12_10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v12_0) = v0 c
          ∧ r.2.mem ((c.tc : Thread Cert.ProjIdeal.nD Cert.ProjIdeal.τ).loc Cert.ProjIdeal.main_v12_1) = v1 c
          ∧ r.2.mem ((c.tc : Thread Cert.ProjIdeal.nD Cert.ProjIdeal.τ).loc Cert.ProjIdeal.main_v12_2) = v2 c
          ∧ r.2.mem ((c.tc : Thread Cert.ProjIdeal.nD Cert.ProjIdeal.τ).loc Cert.ProjIdeal.main_v12_3) = v3 c
          ∧ r.2.mem ((c.tc : Thread Cert.ProjIdeal.nD Cert.ProjIdeal.τ).loc Cert.ProjIdeal.main_v12_4) = v4 c
          ∧ r.2.mem ((c.tc : Thread Cert.ProjIdeal.nD Cert.ProjIdeal.τ).loc Cert.ProjIdeal.main_v12_5) = v5 c
          ∧ r.2.mem ((c.tc : Thread Cert.ProjIdeal.nD Cert.ProjIdeal.τ).loc Cert.ProjIdeal.main_v12_6) = v6 c
          ∧ r.2.mem ((c.tc : Thread Cert.ProjIdeal.nD Cert.ProjIdeal.τ).loc Cert.ProjIdeal.main_v12_7) = v7 c
          ∧ r.2.mem ((c.tc : Thread Cert.ProjIdeal.nD Cert.ProjIdeal.τ).loc Cert.ProjIdeal.main_v12_8) = v8 c
          ∧ r.2.mem ((c.tc : Thread Cert.ProjIdeal.nD Cert.ProjIdeal.τ).loc Cert.ProjIdeal.main_v12_9) = v9 c
          ∧ r.2.mem ((c.tc : Thread Cert.ProjIdeal.nD Cert.ProjIdeal.τ).loc Cert.ProjIdeal.main_v12_10) = v10 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v17) = v0 c
          ∧ r.2.mem ((c.tc : Thread Cert.ProjRefIdeal.nD Cert.ProjRefIdeal.τ).loc Cert.ProjRefIdeal.main_v27) = v1 c
          ∧ r.2.mem ((c.tc : Thread Cert.ProjRefIdeal.nD Cert.ProjRefIdeal.τ).loc Cert.ProjRefIdeal.main_v21) = v2 c
          ∧ r.2.mem ((c.tc : Thread Cert.ProjRefIdeal.nD Cert.ProjRefIdeal.τ).loc Cert.ProjRefIdeal.main_v28) = v3 c
          ∧ r.2.mem ((c.tc : Thread Cert.ProjRefIdeal.nD Cert.ProjRefIdeal.τ).loc Cert.ProjRefIdeal.main_v29) = v4 c
          ∧ r.2.mem ((c.tc : Thread Cert.ProjRefIdeal.nD Cert.ProjRefIdeal.τ).loc Cert.ProjRefIdeal.main_v30) = v5 c
          ∧ r.2.mem ((c.tc : Thread Cert.ProjRefIdeal.nD Cert.ProjRefIdeal.τ).loc Cert.ProjRefIdeal.main_v31) = v6 c
          ∧ r.2.mem ((c.tc : Thread Cert.ProjRefIdeal.nD Cert.ProjRefIdeal.τ).loc Cert.ProjRefIdeal.main_v32) = v7 c
          ∧ r.2.mem ((c.tc : Thread Cert.ProjRefIdeal.nD Cert.ProjRefIdeal.τ).loc Cert.ProjRefIdeal.main_v33) = v8 c
          ∧ r.2.mem ((c.tc : Thread Cert.ProjRefIdeal.nD Cert.ProjRefIdeal.τ).loc Cert.ProjRefIdeal.main_v25) = v9 c
          ∧ r.2.mem ((c.tc : Thread Cert.ProjRefIdeal.nD Cert.ProjRefIdeal.τ).loc Cert.ProjRefIdeal.main_v26) = v10 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Merge_MergeIdeal : Prop :=
  True

def algebraic_MergeIdeal_MergeRefIdeal_pre_y_finite [hMergeIdeal : Cert.MergeIdeal.Facts] [hMergeRefIdeal : Cert.MergeRefIdeal.Facts] [hPre_y_finite : Cert.Pre_y_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_y_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)
      ∧ m' ((c.tc : Thread Cert.MergeRefIdeal.nD Cert.MergeRefIdeal.τ).loc Cert.MergeRefIdeal.main_arg16) = m ((c.tc : Thread Cert.MergeIdeal.nD Cert.MergeIdeal.τ).loc Cert.MergeIdeal.main_arg16)
      ∧ m' ((c.tc : Thread Cert.MergeRefIdeal.nD Cert.MergeRefIdeal.τ).loc Cert.MergeRefIdeal.main_arg17) = m ((c.tc : Thread Cert.MergeIdeal.nD Cert.MergeIdeal.τ).loc Cert.MergeIdeal.main_arg17)
      ∧ m' ((c.tc : Thread Cert.MergeRefIdeal.nD Cert.MergeRefIdeal.τ).loc Cert.MergeRefIdeal.main_arg18) = m ((c.tc : Thread Cert.MergeIdeal.nD Cert.MergeIdeal.τ).loc Cert.MergeIdeal.main_arg18)
      ∧ m' ((c.tc : Thread Cert.MergeRefIdeal.nD Cert.MergeRefIdeal.τ).loc Cert.MergeRefIdeal.main_arg19) = m ((c.tc : Thread Cert.MergeIdeal.nD Cert.MergeIdeal.τ).loc Cert.MergeIdeal.main_arg19)
      ∧ m' ((c.tc : Thread Cert.MergeRefIdeal.nD Cert.MergeRefIdeal.τ).loc Cert.MergeRefIdeal.main_arg20) = m ((c.tc : Thread Cert.MergeIdeal.nD Cert.MergeIdeal.τ).loc Cert.MergeIdeal.main_arg20)) →
    ∃ (v0 : (c : Dev Cert.MergeIdeal.nD) → Buf (Elt Ideal) ((c.tc : Thread Cert.MergeIdeal.nD Cert.MergeIdeal.τ).loc Cert.MergeIdeal.main_v39_0)) (v1 : (c : Dev Cert.MergeIdeal.nD) → Buf (Elt Ideal) ((c.tc : Thread Cert.MergeIdeal.nD Cert.MergeIdeal.τ).loc Cert.MergeIdeal.main_v39_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v39_0) = v0 c
          ∧ r.2.mem ((c.tc : Thread Cert.MergeIdeal.nD Cert.MergeIdeal.τ).loc Cert.MergeIdeal.main_v39_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
          ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
          ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
          ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19)
          ∧ r.2.mem ((c.tc : Thread Cert.MergeIdeal.nD Cert.MergeIdeal.τ).loc Cert.MergeIdeal.main_arg20) = m ((c.tc : Thread Cert.MergeIdeal.nD Cert.MergeIdeal.τ).loc Cert.MergeIdeal.main_arg20))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v149) = v0 c
          ∧ r.2.mem ((c.tc : Thread Cert.MergeRefIdeal.nD Cert.MergeRefIdeal.τ).loc Cert.MergeRefIdeal.main_v150) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15)
          ∧ r.2.mem ((c.tc : Thread Cert.MergeRefIdeal.nD Cert.MergeRefIdeal.τ).loc Cert.MergeRefIdeal.main_arg16) = m' ((c.tc : Thread Cert.MergeRefIdeal.nD Cert.MergeRefIdeal.τ).loc Cert.MergeRefIdeal.main_arg16)
          ∧ r.2.mem ((c.tc : Thread Cert.MergeRefIdeal.nD Cert.MergeRefIdeal.τ).loc Cert.MergeRefIdeal.main_arg17) = m' ((c.tc : Thread Cert.MergeRefIdeal.nD Cert.MergeRefIdeal.τ).loc Cert.MergeRefIdeal.main_arg17)
          ∧ r.2.mem ((c.tc : Thread Cert.MergeRefIdeal.nD Cert.MergeRefIdeal.τ).loc Cert.MergeRefIdeal.main_arg18) = m' ((c.tc : Thread Cert.MergeRefIdeal.nD Cert.MergeRefIdeal.τ).loc Cert.MergeRefIdeal.main_arg18)
          ∧ r.2.mem ((c.tc : Thread Cert.MergeRefIdeal.nD Cert.MergeRefIdeal.τ).loc Cert.MergeRefIdeal.main_arg19) = m' ((c.tc : Thread Cert.MergeRefIdeal.nD Cert.MergeRefIdeal.τ).loc Cert.MergeRefIdeal.main_arg19)
          ∧ r.2.mem ((c.tc : Thread Cert.MergeRefIdeal.nD Cert.MergeRefIdeal.τ).loc Cert.MergeRefIdeal.main_arg20) = m' ((c.tc : Thread Cert.MergeRefIdeal.nD Cert.MergeRefIdeal.τ).loc Cert.MergeRefIdeal.main_arg20))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hPre_y_finite : Cert.Pre_y_finite.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeIdeal_pre_y_finite (hMergeIdeal := hMergeIdeal) (hPre_y_finite := hPre_y_finite)
    ∧ quiescent_MergeRefIdeal (hMergeRefIdeal := hMergeRefIdeal)
    ∧ quiescent_MergeRefIdeal_pre_y_finite (hMergeRefIdeal := hMergeRefIdeal) (hPre_y_finite := hPre_y_finite)
    ∧ preserves_Kernel_KernelIdeal
    ∧ algebraic_KernelIdeal_ReferenceIdeal (hKernelIdeal := hKernelIdeal) (hReferenceIdeal := hReferenceIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal_pre_y_finite (hMergeIdeal := hMergeIdeal) (hMergeRefIdeal := hMergeRefIdeal) (hPre_y_finite := hPre_y_finite)
-- ==== Pre_y_finite.lean ====
abbrev S1x16384x1024 : Shape := ⟨3, ![1, 16384, 1024]⟩
abbrev S1x16384x512 : Shape := ⟨3, ![1, 16384, 512]⟩
abbrev S16384x512 : Shape := ⟨2, ![16384, 512]⟩
abbrev S16384x2048 : Shape := ⟨2, ![16384, 2048]⟩
abbrev S1x1x16384x256 : Shape := ⟨4, ![1, 1, 16384, 256]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x256x1024 : Shape := ⟨3, ![1, 256, 1024]⟩
abbrev S1024 : Shape := ⟨1, ![1024]⟩
abbrev S_ : Shape := ⟨0, ![]⟩

class Facts : Prop where
  bcast_S_S1x16384x512 : S_.BroadcastsInDim S1x16384x512 (![] : Fin 0 → Fin S1x16384x512.rank)

variable [Facts]

def fn {F : FTy → Type} [FloatOps F] (main_arg0 : FVec F S1x16384x1024 .f32) (main_arg1 : FVec F S1x16384x512 .f32) (main_arg2 : FVec F S16384x512 .f32) (main_arg3 : FVec F S16384x512 .f32) (main_arg4 : FVec F S16384x512 .f32) (main_arg5 : FVec F S16384x2048 .f32) (main_arg6 : FVec F S1x1x16384x256 .f32) (main_arg7 : FVec F S1x512 .f32) (main_arg8 : FVec F S1x512 .f32) (main_arg9 : FVec F S1x512x1024 .f32) (main_arg10 : FVec F S1x512x1024 .f32) (main_arg11 : FVec F S1x1024x1024 .f32) (main_arg12 : FVec F S1x1024 .f32) (main_arg13 : FVec F S1x1024x5632 .f32) (main_arg14 : FVec F S1x3x5632 .f32) (main_arg15 : FVec F S1x5632 .f32) (main_arg16 : FVec F S1x2816x1024 .f32) (main_arg17 : FVec F S1x1024 .f32) (main_arg18 : FVec F S1x256x1024 .f32) (main_arg19 : FVec F S1x1024x1024 .f32) (main_arg20 : FVec F S1024 .f32) : IVec S1x16384x512 1 :=
  let main_v0 : FVec F S1x16384x512 .f32 := subf main_arg1 main_arg1
  let main_cst : FVec F S_ .f32 := constant S_ .f32 0x00000000#32
  let main_v1 : FVec F S1x16384x512 .f32 := broadcastInDim S1x16384x512 ![] bcast_S_S1x16384x512 main_cst
  let main_v2 : IVec S1x16384x512 1 := cmpf .oeq main_v0 main_v1
  main_v2
-- ==== Kernel.lean ====
abbrev S128x512 : Shape := ⟨2, ![128, 512]⟩
abbrev S128x8x64x64 : Shape := ⟨4, ![128, 8, 64, 64]⟩
abbrev S128x1x512 : Shape := ⟨3, ![128, 1, 512]⟩
abbrev S8x1x512 : Shape := ⟨3, ![8, 1, 512]⟩
abbrev S8x8x64x64 : Shape := ⟨4, ![8, 8, 64, 64]⟩
abbrev S8x4x64x128 : Shape := ⟨4, ![8, 4, 64, 128]⟩
abbrev S1x1x64x64 : Shape := ⟨4, ![1, 1, 64, 64]⟩
abbrev S64x64 : Shape := ⟨2, ![64, 64]⟩
abbrev S64x128 : Shape := ⟨2, ![64, 128]⟩
abbrev S1x1x64x128 : Shape := ⟨4, ![1, 1, 64, 128]⟩
abbrev S1x1x128 : Shape := ⟨3, ![1, 1, 128]⟩
abbrev S1x128 : Shape := ⟨2, ![1, 128]⟩
abbrev S64 : Shape := ⟨1, ![64]⟩
abbrev S64x1 : Shape := ⟨2, ![64, 1]⟩
abbrev S128 : Shape := ⟨1, ![128]⟩

abbrev nBuf : Space → Nat
  | .hbm => 15
  | .vmem => 19
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x8x64x64, .f32⟩
  | .hbm, ⟨7, _⟩ => ⟨S128x1x512, .f32⟩
  | .hbm, ⟨8, _⟩ => ⟨S128x1x512, .f32⟩
  | .hbm, ⟨9, _⟩ => ⟨S128x1x512, .f32⟩
  | .hbm, ⟨10, _⟩ => ⟨S128x1x512, .f32⟩
  | .hbm, ⟨11, _⟩ => ⟨S128x1x512, .f32⟩
  | .hbm, ⟨12, _⟩ => ⟨S128x1x512, .f32⟩
  | .hbm, ⟨13, _⟩ => ⟨S128x1x512, .f32⟩
  | .hbm, ⟨14, _⟩ => ⟨S128x8x64x64, .f32⟩
  | .local _ .vmem, ⟨0, _⟩ => ⟨S8x1x512, .f32⟩
  | .local _ .vmem, ⟨1, _⟩ => ⟨S8x1x512, .f32⟩
  | .local _ .vmem, ⟨2, _⟩ => ⟨S8x1x512, .f32⟩
  | .local _ .vmem, ⟨3, _⟩ => ⟨S8x1x512, .f32⟩
  | .local _ .vmem, ⟨4, _⟩ => ⟨S8x1x512, .f32⟩
  | .local _ .vmem, ⟨5, _⟩ => ⟨S8x1x512, .f32⟩
  | .local _ .vmem, ⟨6, _⟩ => ⟨S8x1x512, .f32⟩
  | .local _ .vmem, ⟨7, _⟩ => ⟨S8x1x512, .f32⟩
  | .local _ .vmem, ⟨8, _⟩ => ⟨S8x1x512, .f32⟩
  | .local _ .vmem, ⟨9, _⟩ => ⟨S8x1x512, .f32⟩
  | .local _ .vmem, ⟨10, _⟩ => ⟨S8x1x512, .f32⟩
  | .local _ .vmem, ⟨11, _⟩ => ⟨S8x1x512, .f32⟩
  | .local _ .vmem, ⟨12, _⟩ => ⟨S8x8x64x64, .f32⟩
  | .local _ .vmem, ⟨13, _⟩ => ⟨S8x8x64x64, .f32⟩
  | .local _ .vmem, ⟨14, _⟩ => ⟨S8x1x512, .f32⟩
  | .local _ .vmem, ⟨15, _⟩ => ⟨S8x1x512, .f32⟩
  | .local _ .vmem, ⟨16, _⟩ => ⟨S8x8x64x64, .f32⟩
  | .local _ .vmem, ⟨17, _⟩ => ⟨S8x8x64x64, .f32⟩
  | .local _ .vmem, ⟨18, _⟩ => ⟨S8x4x64x128, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 1], ![false, false]⟩

def k0_mult1 : BitVec 32 :=
  let c0_i32_1 : BitVec 32 := 0#32
  let c1_i32 : BitVec 32 := 1#32
  let v10 : BitVec 32 := Scalar.muli c0_i32_1 c1_i32
  v10
def k0_off1 : Fin 3 → Nat :=
  let c0 : Index := 0#32
  let c0_i32_1 : BitVec 32 := 0#32
  let c1_i32 : BitVec 32 := 1#32
  let v10 : BitVec 32 := Scalar.muli c0_i32_1 c1_i32
  let v11 : BitVec 32 := v10
  let v12 : Index := Scalar.indexCast v11
  let c0_2 : Index := 0#32
  ![0, v12.toNat, 0]
def k0_off2 : Fin 3 → Nat :=
  let c0_37 : Index := 0#32
  let c0_i32_1 : BitVec 32 := 0#32
  let c1_i32 : BitVec 32 := 1#32
  let v10 : BitVec 32 := Scalar.muli c0_i32_1 c1_i32
  let v11 : BitVec 32 := v10
  let v98 : Index := Scalar.indexCast v11
  let c128 : Index := 128#32
  ![0, v98.toNat, 128]
def k0_off3 : Fin 3 → Nat :=
  let c0_72 : Index := 0#32
  let c0_i32_1 : BitVec 32 := 0#32
  let c1_i32 : BitVec 32 := 1#32
  let v10 : BitVec 32 := Scalar.muli c0_i32_1 c1_i32
  let v11 : BitVec 32 := v10
  let v184 : Index := Scalar.indexCast v11
  let c256 : Index := 256#32
  ![0, v184.toNat, 256]
def k0_off4 : Fin 3 → Nat :=
  let c0_107 : Index := 0#32
  let c0_i32_1 : BitVec 32 := 0#32
  let c1_i32 : BitVec 32 := 1#32
  let v10 : BitVec 32 := Scalar.muli c0_i32_1 c1_i32
  let v11 : BitVec 32 := v10
  let v270 : Index := Scalar.indexCast v11
  let c384 : Index := 384#32
  ![0, v270.toNat, 384]
def k0_off5 : Fin 3 → Nat :=
  let c1_142 : Index := 1#32
  let c0_i32_1 : BitVec 32 := 0#32
  let c1_i32 : BitVec 32 := 1#32
  let v10 : BitVec 32 := Scalar.muli c0_i32_1 c1_i32
  let v11 : BitVec 32 := v10
  let v356 : Index := Scalar.indexCast v11
  let c0_143 : Index := 0#32
  ![1, v356.toNat, 0]
def k0_off6 : Fin 3 → Nat :=
  let c1_179 : Index := 1#32
  let c0_i32_1 : BitVec 32 := 0#32
  let c1_i32 : BitVec 32 := 1#32
  let v10 : BitVec 32 := Scalar.muli c0_i32_1 c1_i32
  let v11 : BitVec 32 := v10
  let v442 : Index := Scalar.indexCast v11
  let c128_180 : Index := 128#32
  ![1, v442.toNat, 128]
def k0_off7 : Fin 3 → Nat :=
  let c1_216 : Index := 1#32
  let c0_i32_1 : BitVec 32 := 0#32
  let c1_i32 : BitVec 32 := 1#32
  let v10 : BitVec 32 := Scalar.muli c0_i32_1 c1_i32
  let v11 : BitVec 32 := v10
  let v528 : Index := Scalar.indexCast v11
  let c256_217 : Index := 256#32
  ![1, v528.toNat, 256]
def k0_off8 : Fin 3 → Nat :=
  let c1_253 : Index := 1#32
  let c0_i32_1 : BitVec 32 := 0#32
  let c1_i32 : BitVec 32 := 1#32
  let v10 : BitVec 32 := Scalar.muli c0_i32_1 c1_i32
  let v11 : BitVec 32 := v10
  let v614 : Index := Scalar.indexCast v11
  let c384_254 : Index := 384#32
  ![1, v614.toNat, 384]
def k0_off9 : Fin 3 → Nat :=
  let c2_290 : Index := 2#32
  let c0_i32_1 : BitVec 32 := 0#32
  let c1_i32 : BitVec 32 := 1#32
  let v10 : BitVec 32 := Scalar.muli c0_i32_1 c1_i32
  let v11 : BitVec 32 := v10
  let v700 : Index := Scalar.indexCast v11
  let c0_291 : Index := 0#32
  ![2, v700.toNat, 0]
def k0_off10 : Fin 3 → Nat :=
  let c2_327 : Index := 2#32
  let c0_i32_1 : BitVec 32 := 0#32
  let c1_i32 : BitVec 32 := 1#32
  let v10 : BitVec 32 := Scalar.muli c0_i32_1 c1_i32
  let v11 : BitVec 32 := v10
  let v786 : Index := Scalar.indexCast v11
  let c128_328 : Index := 128#32
  ![2, v786.toNat, 128]
def k0_off11 : Fin 3 → Nat :=
  let c2_364 : Index := 2#32
  let c0_i32_1 : BitVec 32 := 0#32
  let c1_i32 : BitVec 32 := 1#32
  let v10 : BitVec 32 := Scalar.muli c0_i32_1 c1_i32
  let v11 : BitVec 32 := v10
  let v872 : Index := Scalar.indexCast v11
  let c256_365 : Index := 256#32
  ![2, v872.toNat, 256]
def k0_off12 : Fin 3 → Nat :=
  let c2_401 : Index := 2#32
  let c0_i32_1 : BitVec 32 := 0#32
  let c1_i32 : BitVec 32 := 1#32
  let v10 : BitVec 32 := Scalar.muli c0_i32_1 c1_i32
  let v11 : BitVec 32 := v10
  let v958 : Index := Scalar.indexCast v11
  let c384_402 : Index := 384#32
  ![2, v958.toNat, 384]
def k0_off13 : Fin 3 → Nat :=
  let c3_438 : Index := 3#32
  let c0_i32_1 : BitVec 32 := 0#32
  let c1_i32 : BitVec 32 := 1#32
  let v10 : BitVec 32 := Scalar.muli c0_i32_1 c1_i32
  let v11 : BitVec 32 := v10
  let v1044 : Index := Scalar.indexCast v11
  let c0_439 : Index := 0#32
  ![3, v1044.toNat, 0]
def k0_off14 : Fin 3 → Nat :=
  let c3_475 : Index := 3#32
  let c0_i32_1 : BitVec 32 := 0#32
  let c1_i32 : BitVec 32 := 1#32
  let v10 : BitVec 32 := Scalar.muli c0_i32_1 c1_i32
  let v11 : BitVec 32 := v10
  let v1130 : Index := Scalar.indexCast v11
  let c128_476 : Index := 128#32
  ![3, v1130.toNat, 128]
def k0_off15 : Fin 3 → Nat :=
  let c3_512 : Index := 3#32
  let c0_i32_1 : BitVec 32 := 0#32
  let c1_i32 : BitVec 32 := 1#32
  let v10 : BitVec 32 := Scalar.muli c0_i32_1 c1_i32
  let v11 : BitVec 32 := v10
  let v1216 : Index := Scalar.indexCast v11
  let c256_513 : Index := 256#32
  ![3, v1216.toNat, 256]
def k0_off16 : Fin 3 → Nat :=
  let c3_549 : Index := 3#32
  let c0_i32_1 : BitVec 32 := 0#32
  let c1_i32 : BitVec 32 := 1#32
  let v10 : BitVec 32 := Scalar.muli c0_i32_1 c1_i32
  let v11 : BitVec 32 := v10
  let v1302 : Index := Scalar.indexCast v11
  let c384_550 : Index := 384#32
  ![3, v1302.toNat, 384]
def k0_off17 : Fin 3 → Nat :=
  let c4 : Index := 4#32
  let c0_i32_1 : BitVec 32 := 0#32
  let c1_i32 : BitVec 32 := 1#32
  let v10 : BitVec 32 := Scalar.muli c0_i32_1 c1_i32
  let v11 : BitVec 32 := v10
  let v1388 : Index := Scalar.indexCast v11
  let c0_586 : Index := 0#32
  ![4, v1388.toNat, 0]
def k0_off18 : Fin 3 → Nat :=
  let c4_622 : Index := 4#32
  let c0_i32_1 : BitVec 32 := 0#32
  let c1_i32 : BitVec 32 := 1#32
  let v10 : BitVec 32 := Scalar.muli c0_i32_1 c1_i32
  let v11 : BitVec 32 := v10
  let v1474 : Index := Scalar.indexCast v11
  let c128_623 : Index := 128#32
  ![4, v1474.toNat, 128]
def k0_off19 : Fin 3 → Nat :=
  let c4_659 : Index := 4#32
  let c0_i32_1 : BitVec 32 := 0#32
  let c1_i32 : BitVec 32 := 1#32
  let v10 : BitVec 32 := Scalar.muli c0_i32_1 c1_i32
  let v11 : BitVec 32 := v10
  let v1560 : Index := Scalar.indexCast v11
  let c256_660 : Index := 256#32
  ![4, v1560.toNat, 256]
def k0_off20 : Fin 3 → Nat :=
  let c4_696 : Index := 4#32
  let c0_i32_1 : BitVec 32 := 0#32
  let c1_i32 : BitVec 32 := 1#32
  let v10 : BitVec 32 := Scalar.muli c0_i32_1 c1_i32
  let v11 : BitVec 32 := v10
  let v1646 : Index := Scalar.indexCast v11
  let c384_697 : Index := 384#32
  ![4, v1646.toNat, 384]
def k0_off21 : Fin 3 → Nat :=
  let c5 : Index := 5#32
  let c0_i32_1 : BitVec 32 := 0#32
  let c1_i32 : BitVec 32 := 1#32
  let v10 : BitVec 32 := Scalar.muli c0_i32_1 c1_i32
  let v11 : BitVec 32 := v10
  let v1732 : Index := Scalar.indexCast v11
  let c0_733 : Index := 0#32
  ![5, v1732.toNat, 0]
def k0_off22 : Fin 3 → Nat :=
  let c5_769 : Index := 5#32
  let c0_i32_1 : BitVec 32 := 0#32
  let c1_i32 : BitVec 32 := 1#32
  let v10 : BitVec 32 := Scalar.muli c0_i32_1 c1_i32
  let v11 : BitVec 32 := v10
  let v1818 : Index := Scalar.indexCast v11
  let c128_770 : Index := 128#32
  ![5, v1818.toNat, 128]
def k0_off23 : Fin 3 → Nat :=
  let c5_806 : Index := 5#32
  let c0_i32_1 : BitVec 32 := 0#32
  let c1_i32 : BitVec 32 := 1#32
  let v10 : BitVec 32 := Scalar.muli c0_i32_1 c1_i32
  let v11 : BitVec 32 := v10
  let v1904 : Index := Scalar.indexCast v11
  let c256_807 : Index := 256#32
  ![5, v1904.toNat, 256]
def k0_off24 : Fin 3 → Nat :=
  let c5_843 : Index := 5#32
  let c0_i32_1 : BitVec 32 := 0#32
  let c1_i32 : BitVec 32 := 1#32
  let v10 : BitVec 32 := Scalar.muli c0_i32_1 c1_i32
  let v11 : BitVec 32 := v10
  let v1990 : Index := Scalar.indexCast v11
  let c384_844 : Index := 384#32
  ![5, v1990.toNat, 384]
def k0_off25 : Fin 3 → Nat :=
  let c6 : Index := 6#32
  let c0_i32_1 : BitVec 32 := 0#32
  let c1_i32 : BitVec 32 := 1#32
  let v10 : BitVec 32 := Scalar.muli c0_i32_1 c1_i32
  let v11 : BitVec 32 := v10
  let v2076 : Index := Scalar.indexCast v11
  let c0_880 : Index := 0#32
  ![6, v2076.toNat, 0]
def k0_off26 : Fin 3 → Nat :=
  let c6_916 : Index := 6#32
  let c0_i32_1 : BitVec 32 := 0#32
  let c1_i32 : BitVec 32 := 1#32
  let v10 : BitVec 32 := Scalar.muli c0_i32_1 c1_i32
  let v11 : BitVec 32 := v10
  let v2162 : Index := Scalar.indexCast v11
  let c128_917 : Index := 128#32
  ![6, v2162.toNat, 128]
def k0_off27 : Fin 3 → Nat :=
  let c6_953 : Index := 6#32
  let c0_i32_1 : BitVec 32 := 0#32
  let c1_i32 : BitVec 32 := 1#32
  let v10 : BitVec 32 := Scalar.muli c0_i32_1 c1_i32
  let v11 : BitVec 32 := v10
  let v2248 : Index := Scalar.indexCast v11
  let c256_954 : Index := 256#32
  ![6, v2248.toNat, 256]
def k0_off28 : Fin 3 → Nat :=
  let c6_990 : Index := 6#32
  let c0_i32_1 : BitVec 32 := 0#32
  let c1_i32 : BitVec 32 := 1#32
  let v10 : BitVec 32 := Scalar.muli c0_i32_1 c1_i32
  let v11 : BitVec 32 := v10
  let v2334 : Index := Scalar.indexCast v11
  let c384_991 : Index := 384#32
  ![6, v2334.toNat, 384]
def k0_off29 : Fin 3 → Nat :=
  let c7 : Index := 7#32
  let c0_i32_1 : BitVec 32 := 0#32
  let c1_i32 : BitVec 32 := 1#32
  let v10 : BitVec 32 := Scalar.muli c0_i32_1 c1_i32
  let v11 : BitVec 32 := v10
  let v2420 : Index := Scalar.indexCast v11
  let c0_1027 : Index := 0#32
  ![7, v2420.toNat, 0]
def k0_off30 : Fin 3 → Nat :=
  let c7_1063 : Index := 7#32
  let c0_i32_1 : BitVec 32 := 0#32
  let c1_i32 : BitVec 32 := 1#32
  let v10 : BitVec 32 := Scalar.muli c0_i32_1 c1_i32
  let v11 : BitVec 32 := v10
  let v2506 : Index := Scalar.indexCast v11
  let c128_1064 : Index := 128#32
  ![7, v2506.toNat, 128]
def k0_off31 : Fin 3 → Nat :=
  let c7_1100 : Index := 7#32
  let c0_i32_1 : BitVec 32 := 0#32
  let c1_i32 : BitVec 32 := 1#32
  let v10 : BitVec 32 := Scalar.muli c0_i32_1 c1_i32
  let v11 : BitVec 32 := v10
  let v2592 : Index := Scalar.indexCast v11
  let c256_1101 : Index := 256#32
  ![7, v2592.toNat, 256]
def k0_off32 : Fin 3 → Nat :=
  let c7_1137 : Index := 7#32
  let c0_i32_1 : BitVec 32 := 0#32
  let c1_i32 : BitVec 32 := 1#32
  let v10 : BitVec 32 := Scalar.muli c0_i32_1 c1_i32
  let v11 : BitVec 32 := v10
  let v2678 : Index := Scalar.indexCast v11
  let c384_1138 : Index := 384#32
  ![7, v2678.toNat, 384]
def k0_cond2 (i : grid0.Coords) : BitVec 1 :=
  let arg1 : BitVec 32 := BitVec.ofNat 32 (i 1).val
  let c0_i32_1175 : BitVec 32 := 0#32
  let v2764 : BitVec 1 := Scalar.cmpi .eq arg1 c0_i32_1175
  let v2765 : BitVec 32 := Scalar.extui v2764
  let c0_i32_1176 : BitVec 32 := 0#32
  let v2766 : BitVec 1 := Scalar.cmpi .ne v2765 c0_i32_1176
  v2766

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x8x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S128x512 : Shape := ⟨2, ![128, 512]⟩
abbrev S128x8x64x64 : Shape := ⟨4, ![128, 8, 64, 64]⟩
abbrev S128x8x64 : Shape := ⟨3, ![128, 8, 64]⟩
abbrev S128x8x1x64 : Shape := ⟨4, ![128, 8, 1, 64]⟩
abbrev S128x8x64x1 : Shape := ⟨4, ![128, 8, 64, 1]⟩
abbrev S128x1x512 : Shape := ⟨3, ![128, 1, 512]⟩

abbrev nBuf : Space → Nat
  | .hbm => 31
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x8x64x64, .f32⟩
  | .hbm, ⟨7, _⟩ => ⟨S128x8x64, .f32⟩
  | .hbm, ⟨8, _⟩ => ⟨S128x8x64, .f32⟩
  | .hbm, ⟨9, _⟩ => ⟨S128x8x64, .f32⟩
  | .hbm, ⟨10, _⟩ => ⟨S128x8x64, .f32⟩
  | .hbm, ⟨11, _⟩ => ⟨S128x8x64, .f32⟩
  | .hbm, ⟨12, _⟩ => ⟨S128x8x64, .f32⟩
  | .hbm, ⟨13, _⟩ => ⟨S128x8x64, .f32⟩
  | .hbm, ⟨14, _⟩ => ⟨S128x8x1x64, .f32⟩
  | .hbm, ⟨15, _⟩ => ⟨S128x8x64x64, .f32⟩
  | .hbm, ⟨16, _⟩ => ⟨S128x8x64x64, .f32⟩
  | .hbm, ⟨17, _⟩ => ⟨S128x8x64x1, .f32⟩
  | .hbm, ⟨18, _⟩ => ⟨S128x8x1x64, .f32⟩
  | .hbm, ⟨19, _⟩ => ⟨S128x8x64x64, .f32⟩
  | .hbm, ⟨20, _⟩ => ⟨S128x8x64x64, .f32⟩
  | .hbm, ⟨21, _⟩ => ⟨S128x8x64x64, .f32⟩
  | .hbm, ⟨22, _⟩ => ⟨S128x8x64x64, .f32⟩
  | .hbm, ⟨23, _⟩ => ⟨S128x8x64x1, .f32⟩
  | .hbm, ⟨24, _⟩ => ⟨S128x8x1x64, .f32⟩
  | .hbm, ⟨25, _⟩ => ⟨S128x8x64x64, .f32⟩
  | .hbm, ⟨26, _⟩ => ⟨S128x8x64x64, .f32⟩
  | .hbm, ⟨27, _⟩ => ⟨S128x8x64x64, .f32⟩
  | .hbm, ⟨28, _⟩ => ⟨S128x8x64x64, .f32⟩
  | .hbm, ⟨29, _⟩ => ⟨S128x8x64, .f32⟩
  | .hbm, ⟨30, _⟩ => ⟨S128x1x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Proj.lean ====
abbrev S1x16384x1024 : Shape := ⟨3, ![1, 16384, 1024]⟩
abbrev S1x1024 : Shape := ⟨2, ![1, 1024]⟩
abbrev S1x1024x5144 : Shape := ⟨3, ![1, 1024, 5144]⟩
abbrev S1024x5144 : Shape := ⟨2, ![1024, 5144]⟩
abbrev S1024x3072 : Shape := ⟨2, ![1024, 3072]⟩
abbrev S1024x24 : Shape := ⟨2, ![1024, 24]⟩
abbrev S_ : Shape := ⟨0, ![]⟩
abbrev S1024x128 : Shape := ⟨2, ![1024, 128]⟩
abbrev S1024x2048 : Shape := ⟨2, ![1024, 2048]⟩
abbrev S1024x5248 : Shape := ⟨2, ![1024, 5248]⟩
abbrev S16384x1024 : Shape := ⟨2, ![16384, 1024]⟩
abbrev S1024 : Shape := ⟨1, ![1024]⟩
abbrev S16384x1792 : Shape := ⟨2, ![16384, 1792]⟩
abbrev S16384x512 : Shape := ⟨2, ![16384, 512]⟩
abbrev S16384x256 : Shape := ⟨2, ![16384, 256]⟩
abbrev S256x16384 : Shape := ⟨2, ![256, 16384]⟩
abbrev S16384x128 : Shape := ⟨2, ![16384, 128]⟩
abbrev S16384x2048 : Shape := ⟨2, ![16384, 2048]⟩
abbrev S256x1024 : Shape := ⟨2, ![256, 1024]⟩
abbrev S256x1792 : Shape := ⟨2, ![256, 1792]⟩
abbrev S256x512 : Shape := ⟨2, ![256, 512]⟩
abbrev S256x256 : Shape := ⟨2, ![256, 256]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S1024x1792 : Shape := ⟨2, ![1024, 1792]⟩
abbrev S1024x512 : Shape := ⟨2, ![1024, 512]⟩
abbrev S1024x256 : Shape := ⟨2, ![1024, 256]⟩

abbrev nBuf : Space → Nat
  | .hbm => 28
  | .vmem => 26
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x5144, .f32⟩
  | .hbm, ⟨3, _⟩ => ⟨S1024x5144, .f32⟩
  | .hbm, ⟨4, _⟩ => ⟨S1024x3072, .f32⟩
  | .hbm, ⟨5, _⟩ => ⟨S1024x5144, .f32⟩
  | .hbm, ⟨6, _⟩ => ⟨S1024x24, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x5144, .f32⟩
  | .hbm, ⟨11, _⟩ => ⟨S1024x2048, .f32⟩
  | .hbm, ⟨12, _⟩ => ⟨S1024x5248, .f32⟩
  | .hbm, ⟨13, _⟩ => ⟨S1024x5248, .bf16⟩
  | .hbm, ⟨14, _⟩ => ⟨S16384x1024, .f32⟩
  | .hbm, ⟨15, _⟩ => ⟨S1024, .f32⟩
  | .hbm, ⟨16, _⟩ => ⟨S1x1024, .f32⟩
  | .hbm, ⟨17, _⟩ => ⟨S16384x1792, .f32⟩
  | .hbm, ⟨18, _⟩ => ⟨S16384x512, .bf16⟩
  | .hbm, ⟨19, _⟩ => ⟨S16384x256, .f32⟩
  | .hbm, ⟨20, _⟩ => ⟨S16384x256, .bf16⟩
  | .hbm, ⟨21, _⟩ => ⟨S256x16384, .f32⟩
  | .hbm, ⟨22, _⟩ => ⟨S16384x256, .bf16⟩
  | .hbm, ⟨23, _⟩ => ⟨S256x16384, .f32⟩
  | .hbm, ⟨24, _⟩ => ⟨S16384x256, .bf16⟩
  | .hbm, ⟨25, _⟩ => ⟨S256x16384, .f32⟩
  | .hbm, ⟨26, _⟩ => ⟨S16384x128, .f32⟩
  | .hbm, ⟨27, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5248, .bf16⟩
  | .local _ .vmem, ⟨4, _⟩ => ⟨S256x1792, .f32⟩
  | .local _ .vmem, ⟨5, _⟩ => ⟨S256x1792, .f32⟩
  | .local _ .vmem, ⟨6, _⟩ => ⟨S256x512, .bf16⟩
  | .local _ .vmem, ⟨7, _⟩ => ⟨S256x512, .bf16⟩
  | .local _ .vmem, ⟨8, _⟩ => ⟨S256x256, .f32⟩
  | .local _ .vmem, ⟨9, _⟩ => ⟨S256x256, .f32⟩
  | .local _ .vmem, ⟨10, _⟩ => ⟨S256x256, .bf16⟩
  | .local _ .vmem, ⟨11, _⟩ => ⟨S256x256, .bf16⟩
  | .local _ .vmem, ⟨12, _⟩ => ⟨S256x256, .f32⟩
  | .local _ .vmem, ⟨13, _⟩ => ⟨S256x256, .f32⟩
  | .local _ .vmem, ⟨14, _⟩ => ⟨S256x256, .bf16⟩
  | .local _ .vmem, ⟨15, _⟩ => ⟨S256x256, .bf16⟩
  | .local _ .vmem, ⟨16, _⟩ => ⟨S256x256, .f32⟩
  | .local _ .vmem, ⟨17, _⟩ => ⟨S256x256, .f32⟩
  | .local _ .vmem, ⟨18, _⟩ => ⟨S256x256, .bf16⟩
  | .local _ .vmem, ⟨19, _⟩ => ⟨S256x256, .bf16⟩
  | .local _ .vmem, ⟨20, _⟩ => ⟨S256x256, .f32⟩
  | .local _ .vmem, ⟨21, _⟩ => ⟨S256x256, .f32⟩
  | .local _ .vmem, ⟨22, _⟩ => ⟨S256x128, .f32⟩
  | .local _ .vmem, ⟨23, _⟩ => ⟨S256x128, .f32⟩
  | .local _ .vmem, ⟨24, _⟩ => ⟨S256x2048, .f32⟩
  | .local _ .vmem, ⟨25, _⟩ => ⟨S256x2048, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v12_5 : Ref sig .tc := ⟨.hbm, 22, rfl⟩
abbrev main_v12_6 : Ref sig .tc := ⟨.hbm, 23, rfl⟩
abbrev main_v12_7 : Ref sig .tc := ⟨.hbm, 24, rfl⟩
abbrev main_v12_8 : Ref sig .tc := ⟨.hbm, 25, rfl⟩
abbrev main_v12_9 : Ref sig .tc := ⟨.hbm, 26, rfl⟩
abbrev main_v12_10 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5248 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjRefIdeal.lean ====
abbrev S1x16384x1024 : Shape := ⟨3, ![1, 16384, 1024]⟩
abbrev S1x1024 : Shape := ⟨2, ![1, 1024]⟩
abbrev S1x1024x5144 : Shape := ⟨3, ![1, 1024, 5144]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x5144 : Shape := ⟨2, ![1024, 5144]⟩
abbrev S1x16384x5144 : Shape := ⟨3, ![1, 16384, 5144]⟩
abbrev S16384x5144 : Shape := ⟨2, ![16384, 5144]⟩
abbrev S16384x1792 : Shape := ⟨2, ![16384, 1792]⟩
abbrev S16384x512 : Shape := ⟨2, ![16384, 512]⟩
abbrev S16384x256 : Shape := ⟨2, ![16384, 256]⟩
abbrev S16384x24 : Shape := ⟨2, ![16384, 24]⟩
abbrev S16384x128 : Shape := ⟨2, ![16384, 128]⟩
abbrev S16384x2048 : Shape := ⟨2, ![16384, 2048]⟩
abbrev S256x16384 : Shape := ⟨2, ![256, 16384]⟩

abbrev nBuf : Space → Nat
  | .hbm => 43
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x5144, .f32⟩
  | .hbm, ⟨3, _⟩ => ⟨S1024, .f32⟩
  | .hbm, ⟨4, _⟩ => ⟨S1x16384x1024, .f32⟩
  | .hbm, ⟨5, _⟩ => ⟨S_, .f32⟩
  | .hbm, ⟨6, _⟩ => ⟨S1x16384, .f32⟩
  | .hbm, ⟨7, _⟩ => ⟨S1x16384x1, .f32⟩
  | .hbm, ⟨8, _⟩ => ⟨S_, .f32⟩
  | .hbm, ⟨9, _⟩ => ⟨S1x16384x1, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S1x16384x1, .f32⟩
  | .hbm, ⟨15, _⟩ => ⟨S1x16384x1024, .f32⟩
  | .hbm, ⟨16, _⟩ => ⟨S1x16384x1024, .f32⟩
  | .hbm, ⟨17, _⟩ => ⟨S1x1x1024, .f32⟩
  | .hbm, ⟨18, _⟩ => ⟨S1x16384x1024, .f32⟩
  | .hbm, ⟨19, _⟩ => ⟨S1x16384x1024, .f32⟩
  | .hbm, ⟨20, _⟩ => ⟨S1024x5144, .f32⟩
  | .hbm, ⟨21, _⟩ => ⟨S1x16384x5144, .f32⟩
  | .hbm, ⟨22, _⟩ => ⟨S16384x5144, .f32⟩
  | .hbm, ⟨23, _⟩ => ⟨S16384x1792, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S16384x24, .f32⟩
  | .hbm, ⟨32, _⟩ => ⟨S_, .i32⟩
  | .hbm, ⟨33, _⟩ => ⟨S_, .f32⟩
  | .hbm, ⟨34, _⟩ => ⟨S16384x128, .f32⟩
  | .hbm, ⟨35, _⟩ => ⟨S16384x2048, .f32⟩
  | .hbm, ⟨36, _⟩ => ⟨S16384x512, .bf16⟩
  | .hbm, ⟨37, _⟩ => ⟨S16384x256, .bf16⟩
  | .hbm, ⟨38, _⟩ => ⟨S256x16384, .f32⟩
  | .hbm, ⟨39, _⟩ => ⟨S16384x256, .bf16⟩
  | .hbm, ⟨40, _⟩ => ⟨S256x16384, .f32⟩
  | .hbm, ⟨41, _⟩ => ⟨S16384x256, .bf16⟩
  | .hbm, ⟨42, _⟩ => ⟨S256x16384, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_call0_v0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Merge.lean ====
abbrev S1x16384x1024 : Shape := ⟨3, ![1, 16384, 1024]⟩
abbrev S1x16384x512 : Shape := ⟨3, ![1, 16384, 512]⟩
abbrev S16384x512 : Shape := ⟨2, ![16384, 512]⟩
abbrev S16384x2048 : Shape := ⟨2, ![16384, 2048]⟩
abbrev S1x1x16384x256 : Shape := ⟨4, ![1, 1, 16384, 256]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x256x1024 : Shape := ⟨3, ![1, 256, 1024]⟩
abbrev S1024 : Shape := ⟨1, ![1024]⟩
abbrev S512 : Shape := ⟨1, ![512]⟩
abbrev S_ : Shape := ⟨0, ![]⟩
abbrev S512x1 : Shape := ⟨2, ![512, 1]⟩
abbrev S512x512 : Shape := ⟨2, ![512, 512]⟩
abbrev S512x1024 : Shape := ⟨2, ![512, 1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S256x1024 : Shape := ⟨2, ![256, 1024]⟩
abbrev S16384x1024 : Shape := ⟨2, ![16384, 1024]⟩
abbrev S1x16384x256 : Shape := ⟨3, ![1, 16384, 256]⟩
abbrev S16384x256 : Shape := ⟨2, ![16384, 256]⟩
abbrev S8x128 : Shape := ⟨2, ![8, 128]⟩
abbrev S8x5632 : Shape := ⟨2, ![8, 5632]⟩
abbrev S256x512 : Shape := ⟨2, ![256, 512]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩
abbrev S256x1408 : Shape := ⟨2, ![256, 1408]⟩
abbrev S1024x1408 : Shape := ⟨2, ![1024, 1408]⟩
abbrev S1x1408 : Shape := ⟨2, ![1, 1408]⟩
abbrev S8x1408 : Shape := ⟨2, ![8, 1408]⟩
abbrev S1408x1024 : Shape := ⟨2, ![1408, 1024]⟩

abbrev nBuf : Space → Nat
  | .hbm => 80
  | .vmem => 34
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x2048, .f32⟩
  | .hbm, ⟨6, _⟩ => ⟨S1x1x16384x256, .f32⟩
  | .hbm, ⟨7, _⟩ => ⟨S1x512, .f32⟩
  | .hbm, ⟨8, _⟩ => ⟨S1x512, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S1x1024, .f32⟩
  | .hbm, ⟨13, _⟩ => ⟨S1x1024x5632, .f32⟩
  | .hbm, ⟨14, _⟩ => ⟨S1x3x5632, .f32⟩
  | .hbm, ⟨15, _⟩ => ⟨S1x5632, .f32⟩
  | .hbm, ⟨16, _⟩ => ⟨S1x2816x1024, .f32⟩
  | .hbm, ⟨17, _⟩ => ⟨S1x1024, .f32⟩
  | .hbm, ⟨18, _⟩ => ⟨S1x256x1024, .f32⟩
  | .hbm, ⟨19, _⟩ => ⟨S1x1024x1024, .f32⟩
  | .hbm, ⟨20, _⟩ => ⟨S1024, .f32⟩
  | .hbm, ⟨21, _⟩ => ⟨S512, .f32⟩
  | .hbm, ⟨22, _⟩ => ⟨S1x512, .f32⟩
  | .hbm, ⟨23, _⟩ => ⟨S512, .f32⟩
  | .hbm, ⟨24, _⟩ => ⟨S1x512, .f32⟩
  | .hbm, ⟨25, _⟩ => ⟨S512, .i32⟩
  | .hbm, ⟨26, _⟩ => ⟨S_, .i32⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S512, .i32⟩
  | .hbm, ⟨35, _⟩ => ⟨S512, .i32⟩
  | .hbm, ⟨36, _⟩ => ⟨S_, .i32⟩
  | .hbm, ⟨37, _⟩ => ⟨S512, .i32⟩
  | .hbm, ⟨38, _⟩ => ⟨S512, .i1⟩
  | .hbm, ⟨39, _⟩ => ⟨S512, .i1⟩
  | .hbm, ⟨40, _⟩ => ⟨S_, .i32⟩
  | .hbm, ⟨41, _⟩ => ⟨S512, .i32⟩
  | .hbm, ⟨42, _⟩ => ⟨S512, .i32⟩
  | .hbm, ⟨43, _⟩ => ⟨S512, .i32⟩
  | .hbm, ⟨44, _⟩ => ⟨S512x1, .i32⟩
  | .hbm, ⟨45, _⟩ => ⟨S1x512, .i32⟩
  | .hbm, ⟨46, _⟩ => ⟨S512x512, .i32⟩
  | .hbm, ⟨47, _⟩ => ⟨S512x512, .i32⟩
  | .hbm, ⟨48, _⟩ => ⟨S512x512, .i1⟩
  | .hbm, ⟨49, _⟩ => ⟨S512x512, .bf16⟩
  | .hbm, ⟨50, _⟩ => ⟨S512x1024, .f32⟩
  | .hbm, ⟨51, _⟩ => ⟨S512x1024, .bf16⟩
  | .hbm, ⟨52, _⟩ => ⟨S512x1024, .f32⟩
  | .hbm, ⟨53, _⟩ => ⟨S512x1024, .bf16⟩
  | .hbm, ⟨54, _⟩ => ⟨S1024x1024, .f32⟩
  | .hbm, ⟨55, _⟩ => ⟨S1024x1024, .bf16⟩
  | .hbm, ⟨56, _⟩ => ⟨S1024, .f32⟩
  | .hbm, ⟨57, _⟩ => ⟨S1x1024, .f32⟩
  | .hbm, ⟨58, _⟩ => ⟨S1024x5632, .f32⟩
  | .hbm, ⟨59, _⟩ => ⟨S1024x5632, .bf16⟩
  | .hbm, ⟨60, _⟩ => ⟨S3x5632, .f32⟩
  | .hbm, ⟨61, _⟩ => ⟨S5632, .f32⟩
  | .hbm, ⟨62, _⟩ => ⟨S1x5632, .f32⟩
  | .hbm, ⟨63, _⟩ => ⟨S2816x1024, .f32⟩
  | .hbm, ⟨64, _⟩ => ⟨S2816x1024, .bf16⟩
  | .hbm, ⟨65, _⟩ => ⟨S1024, .f32⟩
  | .hbm, ⟨66, _⟩ => ⟨S1x1024, .f32⟩
  | .hbm, ⟨67, _⟩ => ⟨S256x1024, .f32⟩
  | .hbm, ⟨68, _⟩ => ⟨S256x1024, .bf16⟩
  | .hbm, ⟨69, _⟩ => ⟨S1024x1024, .f32⟩
  | .hbm, ⟨70, _⟩ => ⟨S1024x1024, .bf16⟩
  | .hbm, ⟨71, _⟩ => ⟨S1x1024, .f32⟩
  | .hbm, ⟨72, _⟩ => ⟨S16384x1024, .f32⟩
  | .hbm, ⟨73, _⟩ => ⟨S16384x512, .f32⟩
  | .hbm, ⟨74, _⟩ => ⟨S1x16384x256, .f32⟩
  | .hbm, ⟨75, _⟩ => ⟨S16384x256, .f32⟩
  | .hbm, ⟨76, _⟩ => ⟨S_, .f32⟩
  | .hbm, ⟨77, _⟩ => ⟨S8x128, .f32⟩
  | .hbm, ⟨78, _⟩ => ⟨S16384x1024, .f32⟩
  | .hbm, ⟨79, _⟩ => ⟨S8x5632, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x2048, .f32⟩
  | .local _ .vmem, ⟨11, _⟩ => ⟨S256x2048, .f32⟩
  | .local _ .vmem, ⟨12, _⟩ => ⟨S256x256, .f32⟩
  | .local _ .vmem, ⟨13, _⟩ => ⟨S256x256, .f32⟩
  | .local _ .vmem, ⟨14, _⟩ => ⟨S8x128, .f32⟩
  | .local _ .vmem, ⟨15, _⟩ => ⟨S1x512, .f32⟩
  | .local _ .vmem, ⟨16, _⟩ => ⟨S1x512, .f32⟩
  | .local _ .vmem, ⟨17, _⟩ => ⟨S512x512, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S1024x5632, .bf16⟩
  | .local _ .vmem, ⟨23, _⟩ => ⟨S3x5632, .f32⟩
  | .local _ .vmem, ⟨24, _⟩ => ⟨S1x5632, .f32⟩
  | .local _ .vmem, ⟨25, _⟩ => ⟨S2816x1024, .bf16⟩
  | .local _ .vmem, ⟨26, _⟩ => ⟨S1x1024, .f32⟩
  | .local _ .vmem, ⟨27, _⟩ => ⟨S256x1024, .bf16⟩
  | .local _ .vmem, ⟨28, _⟩ => ⟨S1024x1024, .bf16⟩
  | .local _ .vmem, ⟨29, _⟩ => ⟨S1x1024, .f32⟩
  | .local _ .vmem, ⟨30, _⟩ => ⟨S256x1024, .f32⟩
  | .local _ .vmem, ⟨31, _⟩ => ⟨S256x1024, .f32⟩
  | .local _ .vmem, ⟨32, _⟩ => ⟨S8x5632, .f32⟩
  | .local _ .vmem, ⟨33, _⟩ => ⟨S8x5632, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst : Ref sig .tc := ⟨.hbm, 76, rfl⟩
abbrev main_v38 : Ref sig .tc := ⟨.hbm, 77, rfl⟩
abbrev main_v39_0 : Ref sig .tc := ⟨.hbm, 78, rfl⟩
abbrev main_v39_1 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg21_0 : Ref sig .tc := ⟨.vmem, 28, rfl⟩
abbrev cc0_stg22_0 : Ref sig .tc := ⟨.vmem, 29, rfl⟩
abbrev cc0_stg23_0 : Ref sig .tc := ⟨.vmem, 30, rfl⟩
abbrev cc0_stg23_1 : Ref sig .tc := ⟨.vmem, 31, rfl⟩
abbrev cc0_stg24_0 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27
abbrev cc0_sem21_0 : DmaSem sig := 28
abbrev cc0_sem22_0 : DmaSem sig := 29
abbrev cc0_sem23_0 : DmaSem sig := 30
abbrev cc0_sem23_1 : DmaSem sig := 31
abbrev cc0_sem24_0 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x5632 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x5632 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2816x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S8x5632 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== MergeRefIdeal.lean ====
abbrev S1x16384x1024 : Shape := ⟨3, ![1, 16384, 1024]⟩
abbrev S1x16384x512 : Shape := ⟨3, ![1, 16384, 512]⟩
abbrev S16384x512 : Shape := ⟨2, ![16384, 512]⟩
abbrev S16384x2048 : Shape := ⟨2, ![16384, 2048]⟩
abbrev S1x1x16384x256 : Shape := ⟨4, ![1, 1, 16384, 256]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x256x1024 : Shape := ⟨3, ![1, 256, 1024]⟩
abbrev S1024 : Shape := ⟨1, ![1024]⟩
abbrev S16384x8x64 : Shape := ⟨3, ![16384, 8, 64]⟩
abbrev S_ : Shape := ⟨0, ![]⟩
abbrev S16384x8 : Shape := ⟨2, ![16384, 8]⟩
abbrev S16384x8x1 : Shape := ⟨3, ![16384, 8, 1]⟩
abbrev S512 : Shape := ⟨1, ![512]⟩
abbrev S16384x1024 : Shape := ⟨2, ![16384, 1024]⟩
abbrev S512x1024 : Shape := ⟨2, ![512, 1024]⟩
abbrev S1024x1024 : Shape := ⟨2, ![1024, 1024]⟩
abbrev S16384 : Shape := ⟨1, ![16384]⟩
abbrev S16384x1 : Shape := ⟨2, ![16384, 1]⟩
abbrev S1024x5632 : Shape := ⟨2, ![1024, 5632]⟩
abbrev S16384x5632 : Shape := ⟨2, ![16384, 5632]⟩
abbrev S2x5632 : Shape := ⟨2, ![2, 5632]⟩
abbrev S16386x5632 : Shape := ⟨2, ![16386, 5632]⟩
abbrev S5632 : Shape := ⟨1, ![5632]⟩
abbrev S3x5632 : Shape := ⟨2, ![3, 5632]⟩
abbrev S16384x2816 : Shape := ⟨2, ![16384, 2816]⟩
abbrev S2816x1024 : Shape := ⟨2, ![2816, 1024]⟩
abbrev S1x16384x256 : Shape := ⟨3, ![1, 16384, 256]⟩
abbrev S16384x256 : Shape := ⟨2, ![16384, 256]⟩
abbrev S256x1024 : Shape := ⟨2, ![256, 1024]⟩
abbrev S8x5632 : Shape := ⟨2, ![8, 5632]⟩

abbrev nBuf : Space → Nat
  | .hbm => 202
  | .vmem => 0
  | .smem => 0
  | _ => 0

abbrev hbmTy0_0 (i : Nat) : BufTy := match i % 128 with
  | 0 => ⟨S1x16384x1024, .f32⟩
  | 1 => ⟨S1x16384x512, .f32⟩
  | 2 => ⟨S16384x512, .f32⟩
  | 3 => ⟨S16384x512, .f32⟩
  | 4 => ⟨S16384x512, .f32⟩
  | 5 => ⟨S16384x2048, .f32⟩
  | 6 => ⟨S1x1x16384x256, .f32⟩
  | 7 => ⟨S1x512, .f32⟩
  | 8 => ⟨S1x512, .f32⟩
  | 9 => ⟨S1x512x1024, .f32⟩
  | 10 => ⟨S1x512x1024, .f32⟩
  | 11 => ⟨S1x1024x1024, .f32⟩
  | 12 => ⟨S1x1024, .f32⟩
  | 13 => ⟨S1x1024x5632, .f32⟩
  | 14 => ⟨S1x3x5632, .f32⟩
  | 15 => ⟨S1x5632, .f32⟩
  | 16 => ⟨S1x2816x1024, .f32⟩
  | 17 => ⟨S1x1024, .f32⟩
  | 18 => ⟨S1x256x1024, .f32⟩
  | 19 => ⟨S1x1024x1024, .f32⟩
  | 20 => ⟨S1024, .f32⟩
  | 21 => ⟨S16384x8x64, .f32⟩
  | 22 => ⟨S_, .f32⟩
  | 23 => ⟨S16384x8, .f32⟩
  | 24 => ⟨S16384x8x1, .f32⟩
  | 25 => ⟨S_, .f32⟩
  | 26 => ⟨S16384x8x1, .f32⟩
  | 27 => ⟨S16384x8x1, .f32⟩
  | 28 => ⟨S16384x8x64, .f32⟩
  | 29 => ⟨S16384x8x64, .f32⟩
  | 30 => ⟨S16384x8x64, .f32⟩
  | 31 => ⟨S_, .f32⟩
  | 32 => ⟨S16384x8, .f32⟩
  | 33 => ⟨S16384x8x1, .f32⟩
  | 34 => ⟨S_, .f32⟩
  | 35 => ⟨S16384x8x1, .f32⟩
  | 36 => ⟨S16384x8x1, .f32⟩
  | 37 => ⟨S16384x8x64, .f32⟩
  | 38 => ⟨S16384x8x64, .f32⟩
  | 39 => ⟨S_, .f32⟩
  | 40 => ⟨S16384x8x1, .f32⟩
  | 41 => ⟨S16384x8x1, .f32⟩
  | 42 => ⟨S16384x8x1, .f32⟩
  | 43 => ⟨S16384x8x64, .f32⟩
  | 44 => ⟨S16384x8x64, .f32⟩
  | 45 => ⟨S16384x512, .f32⟩
  | 46 => ⟨S512, .f32⟩
  | 47 => ⟨S1x512, .f32⟩
  | 48 => ⟨S16384x512, .f32⟩
  | 49 => ⟨S16384x512, .f32⟩
  | 50 => ⟨S512, .f32⟩
  | 51 => ⟨S1x512, .f32⟩
  | 52 => ⟨S16384x512, .f32⟩
  | 53 => ⟨S16384x512, .f32⟩
  | 54 => ⟨S16384x512, .f32⟩
  | 55 => ⟨S16384x512, .f32⟩
  | 56 => ⟨S16384x1024, .f32⟩
  | 57 => ⟨S16384x1024, .f32⟩
  | 58 => ⟨S16384x1024, .f32⟩
  | 59 => ⟨S16384x1024, .f32⟩
  | 60 => ⟨S_, .f32⟩
  | 61 => ⟨S16384x1024, .f32⟩
  | 62 => ⟨S16384x1024, .f32⟩
  | 63 => ⟨S_, .f32⟩
  | 64 => ⟨S16384x1024, .f32⟩
  | 65 => ⟨S16384x1024, .f32⟩
  | 66 => ⟨S512x1024, .f32⟩
  | 67 => ⟨S16384x1024, .f32⟩
  | 68 => ⟨S16384x1024, .f32⟩
  | 69 => ⟨S16384x1024, .f32⟩
  | 70 => ⟨S16384x1024, .f32⟩
  | 71 => ⟨S_, .f32⟩
  | 72 => ⟨S16384x1024, .f32⟩
  | 73 => ⟨S16384x1024, .f32⟩
  | 74 => ⟨S_, .f32⟩
  | 75 => ⟨S16384x1024, .f32⟩
  | 76 => ⟨S16384x1024, .f32⟩
  | 77 => ⟨S512x1024, .f32⟩
  | 78 => ⟨S16384x1024, .f32⟩
  | 79 => ⟨S16384x1024, .f32⟩
  | 80 => ⟨S16384x1024, .f32⟩
  | 81 => ⟨S16384x1024, .f32⟩
  | 82 => ⟨S1024x1024, .f32⟩
  | 83 => ⟨S16384x1024, .f32⟩
  | 84 => ⟨S16384x1024, .f32⟩
  | 85 => ⟨S1024, .f32⟩
  | 86 => ⟨S16384x1024, .f32⟩
  | 87 => ⟨S_, .f32⟩
  | 88 => ⟨S16384, .f32⟩
  | 89 => ⟨S16384x1, .f32⟩
  | 90 => ⟨S_, .f32⟩
  | 91 => ⟨S16384x1, .f32⟩
  | 92 => ⟨S16384x1, .f32⟩
  | 93 => ⟨S_, .f32⟩
  | 94 => ⟨S16384x1, .f32⟩
  | 95 => ⟨S16384x1, .f32⟩
  | 96 => ⟨S16384x1, .f32⟩
  | 97 => ⟨S16384x1024, .f32⟩
  | 98 => ⟨S16384x1024, .f32⟩
  | 99 => ⟨S1x1024, .f32⟩
  | 100 => ⟨S16384x1024, .f32⟩
  | 101 => ⟨S16384x1024, .f32⟩
  | 102 => ⟨S1024x5632, .f32⟩
  | 103 => ⟨S16384x5632, .f32⟩
  | 104 => ⟨S_, .f32⟩
  | 105 => ⟨S2x5632, .f32⟩
  | 106 => ⟨S16386x5632, .f32⟩
  | 107 => ⟨S5632, .f32⟩
  | 108 => ⟨S3x5632, .f32⟩
  | 109 => ⟨S1x5632, .f32⟩
  | 110 => ⟨S5632, .f32⟩
  | 111 => ⟨S16384x5632, .f32⟩
  | 112 => ⟨S1x5632, .f32⟩
  | 113 => ⟨S16384x5632, .f32⟩
  | 114 => ⟨S16384x5632, .f32⟩
  | 115 => ⟨S_, .f32⟩
  | 116 => ⟨S16384x5632, .f32⟩
  | 117 => ⟨S16384x5632, .f32⟩
  | 118 => ⟨S3x5632, .f32⟩
  | 119 => ⟨S1x5632, .f32⟩
  | 120 => ⟨S5632, .f32⟩
  | 121 => ⟨S16384x5632, .f32⟩
  | 122 => ⟨S1x5632, .f32⟩
  | 123 => ⟨S16384x5632, .f32⟩
  | 124 => ⟨S16384x5632, .f32⟩
  | 125 => ⟨S16384x5632, .f32⟩
  | 126 => ⟨S3x5632, .f32⟩
  | 127 => ⟨S1x5632, .f32⟩
  | _ => ⟨S1x16384x1024, .f32⟩

abbrev hbmTy0_1 (i : Nat) : BufTy := match i % 128 with
  | 0 => ⟨S5632, .f32⟩
  | 1 => ⟨S16384x5632, .f32⟩
  | 2 => ⟨S1x5632, .f32⟩
  | 3 => ⟨S16384x5632, .f32⟩
  | 4 => ⟨S16384x5632, .f32⟩
  | 5 => ⟨S16384x5632, .f32⟩
  | 6 => ⟨S1x5632, .f32⟩
  | 7 => ⟨S16384x5632, .f32⟩
  | 8 => ⟨S16384x5632, .f32⟩
  | 9 => ⟨S16384x2816, .f32⟩
  | 10 => ⟨S16384x2816, .f32⟩
  | 11 => ⟨S16384x2816, .f32⟩
  | 12 => ⟨S16384x2816, .f32⟩
  | 13 => ⟨S_, .f32⟩
  | 14 => ⟨S16384x2816, .f32⟩
  | 15 => ⟨S16384x2816, .f32⟩
  | 16 => ⟨S_, .f32⟩
  | 17 => ⟨S16384x2816, .f32⟩
  | 18 => ⟨S16384x2816, .f32⟩
  | 19 => ⟨S16384x2816, .f32⟩
  | 20 => ⟨S16384x2816, .f32⟩
  | 21 => ⟨S2816x1024, .f32⟩
  | 22 => ⟨S16384x1024, .f32⟩
  | 23 => ⟨S16384x1024, .f32⟩
  | 24 => ⟨S1x16384x256, .f32⟩
  | 25 => ⟨S16384x256, .f32⟩
  | 26 => ⟨S256x1024, .f32⟩
  | 27 => ⟨S16384x1024, .f32⟩
  | 28 => ⟨S1024, .f32⟩
  | 29 => ⟨S16384x1024, .f32⟩
  | 30 => ⟨S_, .f32⟩
  | 31 => ⟨S16384, .f32⟩
  | 32 => ⟨S16384x1, .f32⟩
  | 33 => ⟨S_, .f32⟩
  | 34 => ⟨S16384x1, .f32⟩
  | 35 => ⟨S16384x1, .f32⟩
  | 36 => ⟨S_, .f32⟩
  | 37 => ⟨S16384x1, .f32⟩
  | 38 => ⟨S16384x1, .f32⟩
  | 39 => ⟨S16384x1, .f32⟩
  | 40 => ⟨S16384x1024, .f32⟩
  | 41 => ⟨S16384x1024, .f32⟩
  | 42 => ⟨S1x1024, .f32⟩
  | 43 => ⟨S16384x1024, .f32⟩
  | 44 => ⟨S16384x1024, .f32⟩
  | 45 => ⟨S1024x1024, .f32⟩
  | 46 => ⟨S16384x1024, .f32⟩
  | 47 => ⟨S16384x1024, .f32⟩
  | 48 => ⟨S16384x1024, .f32⟩
  | 49 => ⟨S_, .f32⟩
  | 50 => ⟨S16384x1024, .f32⟩
  | 51 => ⟨S16384x1024, .f32⟩
  | 52 => ⟨S_, .f32⟩
  | 53 => ⟨S16384x1024, .f32⟩
  | 54 => ⟨S16384x1024, .f32⟩
  | 55 => ⟨S16384x1024, .f32⟩
  | 56 => ⟨S16384x1024, .f32⟩
  | 57 => ⟨S16384x1024, .f32⟩
  | 58 => ⟨S_, .f32⟩
  | 59 => ⟨S16384, .f32⟩
  | 60 => ⟨S16384x1, .f32⟩
  | 61 => ⟨S_, .f32⟩
  | 62 => ⟨S16384x1, .f32⟩
  | 63 => ⟨S16384x1, .f32⟩
  | 64 => ⟨S_, .f32⟩
  | 65 => ⟨S16384x1, .f32⟩
  | 66 => ⟨S16384x1, .f32⟩
  | 67 => ⟨S16384x1, .f32⟩
  | 68 => ⟨S16384x1024, .f32⟩
  | 69 => ⟨S16384x1024, .f32⟩
  | 70 => ⟨S1x1024, .f32⟩
  | 71 => ⟨S16384x1024, .f32⟩
  | 72 => ⟨S16384x1024, .f32⟩
  | 73 => ⟨S8x5632, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_cst_0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_cst_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_8 : Ref sig .tc := ⟨.hbm, 87, rfl⟩
abbrev main_v57 : Ref sig .tc := ⟨.hbm, 88, rfl⟩
abbrev main_v58 : Ref sig .tc := ⟨.hbm, 89, rfl⟩
abbrev main_cst_9 : Ref sig .tc := ⟨.hbm, 90, rfl⟩
abbrev main_v59 : Ref sig .tc := ⟨.hbm, 91, rfl⟩
abbrev main_v60 : Ref sig .tc := ⟨.hbm, 92, rfl⟩
abbrev main_cst_10 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_11 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_12 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_call0_v0 : Ref sig .tc := ⟨.hbm, 139, rfl⟩
abbrev main_call0_v1 : Ref sig .tc := ⟨.hbm, 140, rfl⟩
abbrev main_call0_cst : Ref sig .tc := ⟨.hbm, 141, rfl⟩
abbrev main_call0_v2 : Ref sig .tc := ⟨.hbm, 142, rfl⟩
abbrev main_call0_v3 : Ref sig .tc := ⟨.hbm, 143, rfl⟩
abbrev main_call0_cst_0 : Ref sig .tc := ⟨.hbm, 144, rfl⟩
abbrev main_call0_v4 : Ref sig .tc := ⟨.hbm, 145, rfl⟩
abbrev main_call0_v5 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_13 : Ref sig .tc := ⟨.hbm, 158, rfl⟩
abbrev main_v115 : Ref sig .tc := ⟨.hbm, 159, rfl⟩
abbrev main_v116 : Ref sig .tc := ⟨.hbm, 160, rfl⟩
abbrev main_cst_14 : Ref sig .tc := ⟨.hbm, 161, rfl⟩
abbrev main_v117 : Ref sig .tc := ⟨.hbm, 162, rfl⟩
abbrev main_v118 : Ref sig .tc := ⟨.hbm, 163, rfl⟩
abbrev main_cst_15 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_16 : Ref sig .tc := ⟨.hbm, 177, rfl⟩
abbrev main_v131 : Ref sig .tc := ⟨.hbm, 178, rfl⟩
abbrev main_v132 : Ref sig .tc := ⟨.hbm, 179, rfl⟩
abbrev main_cst_17 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_cst_18 : Ref sig .tc := ⟨.hbm, 186, rfl⟩
abbrev main_v138 : Ref sig .tc := ⟨.hbm, 187, rfl⟩
abbrev main_v139 : Ref sig .tc := ⟨.hbm, 188, rfl⟩
abbrev main_cst_19 : Ref sig .tc := ⟨.hbm, 189, rfl⟩
abbrev main_v140 : Ref sig .tc := ⟨.hbm, 190, rfl⟩
abbrev main_v141 : Ref sig .tc := ⟨.hbm, 191, rfl⟩
abbrev main_cst_20 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩

abbrev nD : Nat := 1
abbrev τ : Topo := Topo.v7x

variable {F : FTy → Type} [FloatOps F]
-- ==== Proof.Scan.Unit.lean ====
module

public import proofs.«01_k».proof.Proof.Gen.KernelIdeal.Frame
public import proofs.«01_k».proof.Proof.Gen.KernelIdeal.Value
import all proofs.«01_k».proof.Proof.Gen.KernelIdeal.Frame.RunA

public import Idealize.ShloMosaic.Lib.Pointwise

@[expose] public section
set_option maxRecDepth 16384
set_option maxHeartbeats 2000000
noncomputable section
namespace Cert.KernelIdeal.Gen
open Idealize.ShloMosaic Idealize.ShloMosaic.TcCoe Idealize.ShloMosaic.Tactic
variable {F : FTy → Type} [FloatOps F]

/-- Unit `u` of a block: sequence `u / 4`, heads `2 (u % 4)` and `2 (u % 4) + 1`. Its lanes of a token's row, -/
def rowOff (u : Fin 32) : Fin 3 → ℕ := ![u.val / 4, 0, u.val % 4 * 128]
theorem rowOff_inb : ∀ u : Fin 32, ∀ a, rowOff u a + S1x1x128.size a ≤ S8x1x512.size a := by decide +kernel
def rowRect (u : Fin 32) : Rect S8x1x512 := Rect.unit (rowOff u) S1x1x128.size (rowOff_inb u)

/-- and its tile of the scratch that holds the state. -/
def tileOff (u : Fin 32) : Fin 4 → ℕ := ![u.val / 4, u.val % 4, 0, 0]
theorem tileOff_inb : ∀ u : Fin 32, ∀ a, tileOff u a + S1x1x64x128.size a ≤ S8x4x64x128.size a := by decide +kernel
def tileRect (u : Fin 32) : Rect S8x4x64x128 := Rect.unit (tileOff u) S1x1x64x128.size (tileOff_inb u)

/-- The state of a unit after the token. -/
def stepS (w k v a b : Vec F S1x1x128 .f32) (s : Vec F S1x1x64x128 .f32) : FVec F S64x128 .f32 :=
  k0_pay155 k0_pay146 k0_pay147 (k0_pay149 w) (k0_pay150 k) (k0_pay151 v) (k0_pay152 b) (k0_pay153 s) (k0_pay154 a s) (FloatOps.ofBits FTy.f32 0#32)

/-- The output row of a unit. -/
def stepY (r w k v a b : Vec F S1x1x128 .f32) (s : Vec F S1x1x64x128 .f32) : FVec F S1x1x128 .f32 :=
  k0_pay160 k0_pay146 k0_pay147
    (k0_pay157 k0_pay146 k0_pay147 (k0_pay148 r) (k0_pay149 w) (k0_pay150 k) (k0_pay151 v) (k0_pay152 b) (k0_pay153 s) (k0_pay154 a s) (FloatOps.ofBits FTy.f32 0#32))
    (k0_pay158 k0_pay146 k0_pay147 (k0_pay148 r) (k0_pay149 w) (k0_pay150 k) (k0_pay151 v) (k0_pay152 b) (k0_pay153 s) (k0_pay154 a s) (FloatOps.ofBits FTy.f32 0#32))

/-- The masks, as conditions on the lane. -/
theorem mask_lo : ∀ x : Fin 128, IntOp.cmpi CmpIPredicate.slt (BitVec.ofNat 32 x.val) 64#32 = if x.val < 64 then 1#1 else 0#1 := by
  decide +kernel
theorem mask_diag : ∀ (x : Fin 128) (i : Fin 64),
    IntOp.cmpi CmpIPredicate.eq (IntOp.andi (BitVec.ofNat 32 x.val) 63#32) (BitVec.ofNat 32 i.val) = if x.val % 64 = i.val then 1#1 else 0#1 := by
  decide +kernel

theorem select_ite {α : Type} (p : Prop) [Decidable p] (x y : α) : Scalar.select (if p then 1#1 else 0#1) x y = if p then x else y := by
  split <;> rfl

/-- Lane `j` of the head that lane `l` belongs to. -/
def lane (l : Fin 128) (j : Fin 64) : Fin 128 := ⟨l.val / 64 * 64 + j.val, by omega⟩

/-- The sum over the half of the lanes that `l` is in. -/
theorem seg_sum (f : Fin 128 → EReal) (l : Fin 128) :
    (if l.val < 64 then ∑ x : Fin 128, (if x.val < 64 then f x else 0) else ∑ x : Fin 128, (if x.val < 64 then 0 else f x))
      = ∑ j : Fin 64, f (lane l j) := by
  have cut (g : Fin 128 → EReal) : ∑ x, g x = ∑ j : Fin 64, g (Fin.castAdd 64 j) + ∑ j : Fin 64, g (Fin.natAdd 64 j) := Fin.sum_univ_add (a := 64) (b := 64) g
  split
  · rename_i h
    rw [cut]
    have hz : ∑ j : Fin 64, (if (Fin.natAdd 64 j).val < 64 then f (Fin.natAdd 64 j) else 0) = 0 :=
      Finset.sum_eq_zero fun j _ => if_neg (by simp)
    rw [hz, add_zero]
    refine Finset.sum_congr rfl fun j _ => ?_
    rw [if_pos (by simp)]
    congr 1
    apply Fin.ext
    simp only [lane, Fin.val_castAdd]
    omega
  · rename_i h
    rw [cut]
    have hz : ∑ j : Fin 64, (if (Fin.castAdd 64 j).val < 64 then 0 else f (Fin.castAdd 64 j)) = 0 :=
      Finset.sum_eq_zero fun j _ => if_pos (by simp)
    rw [hz, zero_add]
    refine Finset.sum_congr rfl fun j _ => ?_
    rw [if_neg (by simp)]
    congr 1
    apply Fin.ext
    simp only [lane, Fin.val_natAdd]
    omega

/-- A head's part of the diagonal holds one value. -/
theorem diag_sum (v : Fin 128 → EReal) (i : Fin 64) (l : Fin 128) :
    ∑ j : Fin 64, (if (lane l j).val % 64 = i.val then v (lane l j) else 0) = v (lane l i) := by
  rw [Finset.sum_eq_single i]
  · exact if_pos (by simp only [lane]; omega)
  · intro j _ hj
    refine if_neg fun h => hj (Fin.ext ?_)
    simp only [lane] at h
    omega
  · intro h; exact absurd (Finset.mem_univ i) h

/-- The state after the token, at row `i` and lane `l`: the decayed state, the correction along `b`, and `v kᵀ`. -/
theorem stepS_apply (w k v a b : Vec Ideal S1x1x128 .f32) (s : Vec Ideal S1x1x64x128 .f32) (i : Fin 64) (l : Fin 128) :
    stepS w k v a b s (ix2 i l) = s (ix4 0 0 i l) * w (ix3 0 0 l)
      + (∑ j : Fin 64, s (ix4 0 0 i (lane l j)) * a (ix3 0 0 (lane l j))) * b (ix3 0 0 l) + v (ix3 0 0 (lane l i)) * k (ix3 0 0 l) := by
  pointwise [stepS, k0_pay155, k0_pay154, k0_pay146, k0_pay147, k0_pay149, k0_pay150, k0_pay151, k0_pay152, k0_pay153]
  simp only [mask_lo, mask_diag, select_ite]
  rw [seg_sum (fun x => s (ix4 0 0 i x) * a (ix3 0 0 x)), seg_sum (fun x => if x.val % 64 = i.val then v (ix3 0 0 x) else 0),
    diag_sum (fun x => v (ix3 0 0 x))]

/-- The output at lane `l`: the row of the new state that `l` names, times `r`. -/
theorem stepY_apply (r w k v a b : Vec Ideal S1x1x128 .f32) (s : Vec Ideal S1x1x64x128 .f32) (l : Fin 128) :
    stepY r w k v a b s (ix3 0 0 l) = ∑ j : Fin 64, stepS w k v a b s (ix2 ⟨l.val % 64, by omega⟩ (lane l j)) * r (ix3 0 0 (lane l j)) := by
  dsimp only [stepY, stepS, k0_pay157, k0_pay158, k0_pay156]
  generalize k0_pay155 (F := Ideal) k0_pay146 k0_pay147 (k0_pay149 w) (k0_pay150 k) (k0_pay151 v) (k0_pay152 b) (k0_pay153 s) (k0_pay154 a s) (FloatOps.ofBits FTy.f32 0#32) = S
  pointwise [k0_pay160, k0_pay146, k0_pay147, k0_pay148]
  simp only [mask_lo, mask_diag, select_ite]
  have seg (x : Fin 64) := seg_sum (fun y => S (ix2 x y) * r (ix3 0 0 y)) l
  simp only [seg]
  rw [Finset.sum_eq_single (⟨l.val % 64, by omega⟩ : Fin 64)]
  · exact if_pos rfl
  · intro i _ hi
    exact if_neg fun h => hi (Fin.ext h.symm)
  · intro h; exact absurd (Finset.mem_univ _) h
end Cert.KernelIdeal.Gen
-- ==== Proof.Scan.Runs.lean ====
module

public import proofs.«01_k».proof.Proof.Gen.KernelIdeal.Frame
public import proofs.«01_k».proof.Proof.Gen.KernelIdeal.Value
public import proofs.«01_k».proof.Proof.Scan.Unit
import all proofs.«01_k».proof.Proof.Gen.KernelIdeal.Frame.RunA

@[expose] public section
set_option maxRecDepth 16384
set_option maxHeartbeats 2000000
noncomputable section
namespace Cert.KernelIdeal.Gen
open Idealize.ShloMosaic Idealize.ShloMosaic.TcCoe Idealize.ShloMosaic.Tactic
variable {F : FTy → Type} [FloatOps F]

/-- A head of a unit in the state arrays. -/
def headOff (u : Fin 32) (e : Fin 2) : Fin 4 → ℕ := ![u.val / 4, u.val % 4 * 2 + e.val, 0, 0]
theorem headOff_inb : ∀ (u : Fin 32) (e : Fin 2), ∀ a, headOff u e a + S1x1x64x64.size a ≤ S8x8x64x64.size a := by decide +kernel
def headRect (u : Fin 32) (e : Fin 2) : Rect S8x8x64x64 := Rect.unit (headOff u e) S1x1x64x64.size (headOff_inb u e)

section
variable (arg2 : Memref sig .tc .vmem S8x1x512 .f32) (harg2 : arg2.IsWhole) (arg3 : Memref sig .tc .vmem S8x1x512 .f32) (harg3 : arg3.IsWhole) (arg4 : Memref sig .tc .vmem S8x1x512 .f32) (harg4 : arg4.IsWhole) (arg5 : Memref sig .tc .vmem S8x1x512 .f32) (harg5 : arg5.IsWhole) (arg6 : Memref sig .tc .vmem S8x1x512 .f32) (harg6 : arg6.IsWhole) (arg7 : Memref sig .tc .vmem S8x1x512 .f32) (harg7 : arg7.IsWhole)
  (arg8 : Memref sig .tc .vmem S8x8x64x64 .f32) (harg8 : arg8.IsWhole)
  (arg9 : Memref sig .tc .vmem S8x1x512 .f32) (harg9 : arg9.IsWhole) (arg10 : Memref sig .tc .vmem S8x8x64x64 .f32) (harg10 : arg10.IsWhole) (arg11 : Memref sig .tc .vmem S8x4x64x128 .f32) (harg11 : arg11.IsWhole)
  (x0 x1 x2 x3 x4 x5 : Vec F S8x1x512 .f32) (x6 : Vec F S8x8x64x64 .f32)

/-- A unit's lanes of a row, as its load reads them. -/
def ldRow (m : Memref sig .tc .vmem S8x1x512 .f32) (hm : m.IsWhole) (x : Vec F S8x1x512 .f32) (u : Fin 32) : Vec F S1x1x128 .f32 :=
  View.readAt (Elt F) m.view (rowRect u).toLoadRect (hm.unread x)

/-- A head's state of a unit, as the copy's load reads it. -/
def ldHead (u : Fin 32) (e : Fin 2) : Vec F S1x1x64x64 .f32 :=
  View.readAt (Elt F) arg8.view (headRect u e).toLoadRect (harg8.unread x6)

/-- The copy of the argument to the scratch: each unit's tile holds its two heads side by side. -/
def copied : (n : ℕ) → n ≤ 32 → List (View.Piece (Elt F) S8x4x64x128 .f32)
  | 0, _ => []
  | n + 1, h => ⟨tileRect ⟨n, h⟩, k0_pay145 (shapeCast S64x64 (ldHead arg8 harg8 x6 ⟨n, h⟩ 0) shapeCasts_S1x1x64x64_S64x64) (ldHead arg8 harg8 x6 ⟨n, h⟩ 1)⟩ ::
      copied n (Nat.le_of_succ_le h)

/-- The scratch after the units below `n`: what the copy of the argument left, then each unit's new state over its tile. -/
def hist : (n : ℕ) → n ≤ 32 → List (View.Piece (Elt F) S8x4x64x128 .f32)
  | 0, _ => copied arg8 harg8 x6 32 le_rfl
  | n + 1, h => ⟨tileRect ⟨n, h⟩, k0_pay159 (stepS (ldRow arg3 harg3 x1 ⟨n, h⟩) (ldRow arg4 harg4 x2 ⟨n, h⟩) (ldRow arg5 harg5 x3 ⟨n, h⟩)
      (ldRow arg6 harg6 x4 ⟨n, h⟩) (ldRow arg7 harg7 x5 ⟨n, h⟩) (arg11.view.readCov (hist n (Nat.le_of_succ_le h)) (tileRect ⟨n, h⟩).toLoadRect))⟩ :: hist n (Nat.le_of_succ_le h)

/-- The state that unit `u` reads. -/
def stateOf (u : Fin 32) : Vec F S1x1x64x128 .f32 :=
  arg11.view.readCov (hist arg3 harg3 arg4 harg4 arg5 harg5 arg6 harg6 arg7 harg7 arg8 harg8 arg11 x1 x2 x3 x4 x5 x6 u.val u.isLt.le) (tileRect u).toLoadRect

/-- The result state of a unit as read back. -/
def stateAfter (u : Fin 32) : Vec F S1x1x64x128 .f32 :=
  arg11.view.readCov (hist arg3 harg3 arg4 harg4 arg5 harg5 arg6 harg6 arg7 harg7 arg8 harg8 arg11 x1 x2 x3 x4 x5 x6 32 le_rfl) (tileRect u).toLoadRect

/-- The stores to the output, newest first. -/
def pieces7 : (n : ℕ) → n ≤ 32 → List (View.Piece (Elt F) S8x1x512 .f32)
  | 0, _ => []
  | n + 1, h => ⟨rowRect ⟨n, h⟩, stepY (ldRow arg2 harg2 x0 ⟨n, h⟩) (ldRow arg3 harg3 x1 ⟨n, h⟩) (ldRow arg4 harg4 x2 ⟨n, h⟩) (ldRow arg5 harg5 x3 ⟨n, h⟩)
      (ldRow arg6 harg6 x4 ⟨n, h⟩) (ldRow arg7 harg7 x5 ⟨n, h⟩) (stateOf arg3 harg3 arg4 harg4 arg5 harg5 arg6 harg6 arg7 harg7 arg8 harg8 arg11 x1 x2 x3 x4 x5 x6 ⟨n, h⟩)⟩ :: pieces7 n (Nat.le_of_succ_le h)

/-- The stores to the state's output, newest first. -/
def pieces8 : (n : ℕ) → n ≤ 32 → List (View.Piece (Elt F) S8x8x64x64 .f32)
  | 0, _ => []
  | n + 1, h => ⟨headRect ⟨n, h⟩ 1, k0_pay144 (stateAfter arg3 harg3 arg4 harg4 arg5 harg5 arg6 harg6 arg7 harg7 arg8 harg8 arg11 x1 x2 x3 x4 x5 x6 ⟨n, h⟩)⟩ ::
      ⟨headRect ⟨n, h⟩ 0, k0_pay143 (stateAfter arg3 harg3 arg4 harg4 arg5 harg5 arg6 harg6 arg7 harg7 arg8 harg8 arg11 x1 x2 x3 x4 x5 x6 ⟨n, h⟩)⟩ :: pieces8 n (Nat.le_of_succ_le h)

variable (c : Dev nD) (i : grid0.Coords) (hc0 : cond0_0 i) (hc1 : cond0_1 i)
theorem run_7 : (kernelRun0_A c i arg2 harg2 arg3 harg3 arg4 harg4 arg5 harg5 arg6 harg6 arg7 harg7 arg8 harg8 arg9 harg9 arg10 harg10 arg11 harg11 hc0 hc1 x0 x1 x2 x3 x4 x5 x6).1
    = pieces7 arg2 harg2 arg3 harg3 arg4 harg4 arg5 harg5 arg6 harg6 arg7 harg7 arg8 harg8 arg11 x0 x1 x2 x3 x4 x5 x6 32 le_rfl := by
  sl_kernel_rfl
theorem run_8 : (kernelRun0_A c i arg2 harg2 arg3 harg3 arg4 harg4 arg5 harg5 arg6 harg6 arg7 harg7 arg8 harg8 arg9 harg9 arg10 harg10 arg11 harg11 hc0 hc1 x0 x1 x2 x3 x4 x5 x6).2.1
    = pieces8 arg3 harg3 arg4 harg4 arg5 harg5 arg6 harg6 arg7 harg7 arg8 harg8 arg11 x1 x2 x3 x4 x5 x6 32 le_rfl := by
  sl_kernel_rfl
end
end Cert.KernelIdeal.Gen
-- ==== Proof.Scan.Block.lean ====
module

public import proofs.«01_k».proof.Proof.Scan.Runs
public import Idealize.ShloMosaic.Lib.WholeRead

@[expose] public section
set_option maxRecDepth 16384
set_option maxHeartbeats 2000000
noncomputable section
namespace Cert.KernelIdeal.Gen
open Idealize.ShloMosaic Idealize.ShloMosaic.TcCoe Idealize.ShloMosaic.Tactic

/-- Column `j` of head `h` in a token's row. -/
def col (h : Fin 8) (j : Fin 64) : Fin 512 := ⟨h.val * 64 + j.val, by omega⟩
/-- The head and the place within it of a column. -/
def headOf (c : Fin 512) : Fin 8 := ⟨c.val / 64, by omega⟩
def placeOf (c : Fin 512) : Fin 64 := ⟨c.val % 64, by omega⟩

/-- The sequence of a unit, -/
def seqOf (u : Fin 32) : Fin 8 := ⟨u.val / 4, by omega⟩
/-- the column of its lane `l`, -/
def colOf (u : Fin 32) (l : Fin 128) : Fin 512 := ⟨u.val % 4 * 128 + l.val, by omega⟩
/-- and the head that its lane `l` belongs to. -/
def unitHead (u : Fin 32) (l : Fin 128) : Fin 8 := ⟨u.val % 4 * 2 + l.val / 64, by omega⟩
def low (l : Fin 128) : Fin 64 := ⟨l.val % 64, by omega⟩

section
variable (arg2 : Memref sig .tc .vmem S8x1x512 .f32) (harg2 : arg2.IsWhole) (arg3 : Memref sig .tc .vmem S8x1x512 .f32) (harg3 : arg3.IsWhole) (arg4 : Memref sig .tc .vmem S8x1x512 .f32) (harg4 : arg4.IsWhole) (arg5 : Memref sig .tc .vmem S8x1x512 .f32) (harg5 : arg5.IsWhole) (arg6 : Memref sig .tc .vmem S8x1x512 .f32) (harg6 : arg6.IsWhole) (arg7 : Memref sig .tc .vmem S8x1x512 .f32) (harg7 : arg7.IsWhole)
  (arg8 : Memref sig .tc .vmem S8x8x64x64 .f32) (harg8 : arg8.IsWhole)
  (arg9 : Memref sig .tc .vmem S8x1x512 .f32) (harg9 : arg9.IsWhole) (arg10 : Memref sig .tc .vmem S8x8x64x64 .f32) (harg10 : arg10.IsWhole) (arg11 : Memref sig .tc .vmem S8x4x64x128 .f32) (harg11 : arg11.IsWhole)
  (x0 x1 x2 x3 x4 x5 : Vec Ideal S8x1x512 .f32) (x6 : Vec Ideal S8x8x64x64 .f32)

/-- The recurrence on a block: head `h` of sequence `q`, at row `i` and column `j`. -/
def blkS (q h : Fin 8) (i j : Fin 64) : EReal :=
  x6 (ix4 q h i j) * x1 (ix3 q 0 (col h j))
    + (∑ j' : Fin 64, x6 (ix4 q h i j') * x4 (ix3 q 0 (col h j'))) * x5 (ix3 q 0 (col h j))
    + x3 (ix3 q 0 (col h i)) * x2 (ix3 q 0 (col h j))

/-- The output of a block. -/
def blkY (q h : Fin 8) (i : Fin 64) : EReal := ∑ j : Fin 64, blkS x1 x2 x3 x4 x5 x6 q h i j * x0 (ix3 q 0 (col h j))

theorem tile_disjoint (u v : Fin 32) (h : u ≠ v) : Disjoint (tileRect v).set (tileRect u).toLoadRect.set := by
  have hs : ∀ u v : Fin 32, u ≠ v → ∃ a : Fin 4, tileOff v a + S1x1x64x128.size a ≤ tileOff u a ∨ tileOff u a + S1x1x64x128.size a ≤ tileOff v a := by
    decide +kernel
  obtain ⟨a, ha⟩ := hs u v h
  have hp : ∀ a : Fin 4, 0 < S1x1x64x128.size a := by decide
  refine LoadRect.disjoint_of_separated (tileRect v).toLoadRect (tileRect u).toLoadRect a ?_
  have := hp a
  refine ha.imp (fun h => .inr ?_) (fun h => .inr ?_)
  · show tileOff v a + 1 * (S1x1x64x128.size a - 1) < tileOff u a
    omega
  · show tileOff u a + 1 * (S1x1x64x128.size a - 1) < tileOff v a
    omega

/-- A unit's tile as the copy leaves it. -/
def copiedTile (u : Fin 32) : Vec Ideal S1x1x64x128 .f32 :=
  k0_pay145 (shapeCast S64x64 (ldHead arg8 harg8 x6 u 0) shapeCasts_S1x1x64x64_S64x64) (ldHead arg8 harg8 x6 u 1)

theorem read_copied (u : Fin 32) : ∀ (n : ℕ) (h : n ≤ 32), u.val < n →
    arg11.view.readCov (copied arg8 harg8 x6 n h) (tileRect u).toLoadRect = copiedTile arg8 harg8 x6 u
  | n + 1, h, hu => by
    by_cases e : u = ⟨n, h⟩
    · subst e
      exact View.readCov_cons_toLoadRect _ _ _ _
    · refine (View.readCov_cons_of_disjoint arg11.view ⟨tileRect ⟨n, h⟩, _⟩ (copied arg8 harg8 x6 n (Nat.le_of_succ_le h)) (tileRect u).toLoadRect (tile_disjoint u ⟨n, h⟩ e)).trans ?_
      exact read_copied u n _ (by have : u.val ≠ n := fun h' => e (Fin.ext h'); omega)

/-- A unit's tile after its step. -/
def newTile (u : Fin 32) : Vec Ideal S1x1x64x128 .f32 :=
  k0_pay159 (stepS (ldRow arg3 harg3 x1 u) (ldRow arg4 harg4 x2 u) (ldRow arg5 harg5 x3 u) (ldRow arg6 harg6 x4 u) (ldRow arg7 harg7 x5 u)
    (stateOf arg3 harg3 arg4 harg4 arg5 harg5 arg6 harg6 arg7 harg7 arg8 harg8 arg11 x1 x2 x3 x4 x5 x6 u))

theorem read_hist (u : Fin 32) : ∀ (n : ℕ) (h : n ≤ 32),
    arg11.view.readCov (hist arg3 harg3 arg4 harg4 arg5 harg5 arg6 harg6 arg7 harg7 arg8 harg8 arg11 x1 x2 x3 x4 x5 x6 n h) (tileRect u).toLoadRect
      = if u.val < n then newTile arg3 harg3 arg4 harg4 arg5 harg5 arg6 harg6 arg7 harg7 arg8 harg8 arg11 x1 x2 x3 x4 x5 x6 u else copiedTile arg8 harg8 x6 u
  | 0, h => by rw [if_neg (Nat.not_lt_zero _)]; exact read_copied arg8 harg8 arg11 x6 u 32 le_rfl u.isLt
  | n + 1, h => by
    by_cases e : u = ⟨n, h⟩
    · subst e
      rw [if_pos (Nat.lt_succ_self n)]
      exact View.readCov_cons_toLoadRect _ _ _ _
    · have hne : u.val ≠ n := fun h' => e (Fin.ext h')
      refine (View.readCov_cons_of_disjoint arg11.view ⟨tileRect ⟨n, h⟩, _⟩ (hist arg3 harg3 arg4 harg4 arg5 harg5 arg6 harg6 arg7 harg7 arg8 harg8 arg11 x1 x2 x3 x4 x5 x6 n (Nat.le_of_succ_le h)) (tileRect u).toLoadRect (tile_disjoint u ⟨n, h⟩ e)).trans ?_
      rw [read_hist u n]
      exact if_congr (by omega) rfl rfl

theorem stateOf_eq (u : Fin 32) : stateOf arg3 harg3 arg4 harg4 arg5 harg5 arg6 harg6 arg7 harg7 arg8 harg8 arg11 x1 x2 x3 x4 x5 x6 u = copiedTile arg8 harg8 x6 u :=
  (read_hist arg3 harg3 arg4 harg4 arg5 harg5 arg6 harg6 arg7 harg7 arg8 harg8 arg11 x1 x2 x3 x4 x5 x6 u u.val u.isLt.le).trans (if_neg (Nat.lt_irrefl _))

theorem stateAfter_eq (u : Fin 32) : stateAfter arg3 harg3 arg4 harg4 arg5 harg5 arg6 harg6 arg7 harg7 arg8 harg8 arg11 x1 x2 x3 x4 x5 x6 u = newTile arg3 harg3 arg4 harg4 arg5 harg5 arg6 harg6 arg7 harg7 arg8 harg8 arg11 x1 x2 x3 x4 x5 x6 u :=
  (read_hist arg3 harg3 arg4 harg4 arg5 harg5 arg6 harg6 arg7 harg7 arg8 harg8 arg11 x1 x2 x3 x4 x5 x6 u 32 le_rfl).trans (if_pos u.isLt)

/-- A row's load at a lane. -/
theorem ldRow_apply (m : Memref sig .tc .vmem S8x1x512 .f32) (hm : m.IsWhole) (x : Vec Ideal S8x1x512 .f32) (u : Fin 32) (l : Fin 128) :
    ldRow m hm x u (ix3 0 0 l) = x (ix3 (seqOf u) 0 (colOf u l)) := by
  refine (hm.readAt_unread x _ _).trans (congrArg x ?_)
  funext a
  apply Fin.ext
  fin_cases a
  · exact Nat.add_zero _
  · rfl
  · show u.val % 4 * 128 + 1 * l.val = u.val % 4 * 128 + l.val
    omega

theorem headRect_idx (u : Fin 32) (e : Fin 2) (i j : Fin 64) :
    (headRect u e).emb (ix4 0 0 i j) = ix4 (seqOf u) (unitHead u ⟨e.val * 64, by omega⟩) i j := by
  funext a
  apply Fin.ext
  fin_cases a
  · exact Nat.add_zero _
  · show u.val % 4 * 2 + e.val + 1 * 0 = u.val % 4 * 2 + e.val * 64 / 64
    omega
  · show 0 + 1 * i.val = i.val
    omega
  · show 0 + 1 * j.val = j.val
    omega

theorem ldHead_apply (u : Fin 32) (e : Fin 2) (i j : Fin 64) :
    ldHead arg8 harg8 x6 u e (ix4 0 0 i j) = x6 (ix4 (seqOf u) (unitHead u ⟨e.val * 64, by omega⟩) i j) :=
  (harg8.readAt_unread x6 _ _).trans (congrArg x6 (headRect_idx u e i j))

theorem copiedTile_apply (u : Fin 32) (i : Fin 64) (l : Fin 128) :
    copiedTile arg8 harg8 x6 u (ix4 0 0 i l) = x6 (ix4 (seqOf u) (unitHead u l) i (low l)) := by
  pointwise [copiedTile, k0_pay145]
  split
  · rw [ldHead_apply]
    have h1 : unitHead u ⟨(0 : Fin 2).val * 64, by omega⟩ = unitHead u l := Fin.ext (by simp only [unitHead]; omega)
    have h2 : (⟨l.val, by omega⟩ : Fin 64) = low l := Fin.ext (by simp only [low]; omega)
    rw [h1, ← h2]
  · rw [ldHead_apply]
    have h1 : unitHead u ⟨(1 : Fin 2).val * 64, by decide⟩ = unitHead u l := Fin.ext (by show u.val % 4 * 2 + 64 / 64 = u.val % 4 * 2 + l.val / 64; omega)
    have h2 : (⟨l.val - 64, by omega⟩ : Fin 64) = low l := Fin.ext (by simp only [low]; omega)
    rw [h1, ← h2]

theorem tileStep_apply (u : Fin 32) (i : Fin 64) (l : Fin 128) :
    stepS (ldRow arg3 harg3 x1 u) (ldRow arg4 harg4 x2 u) (ldRow arg5 harg5 x3 u) (ldRow arg6 harg6 x4 u) (ldRow arg7 harg7 x5 u)
      (stateOf arg3 harg3 arg4 harg4 arg5 harg5 arg6 harg6 arg7 harg7 arg8 harg8 arg11 x1 x2 x3 x4 x5 x6 u) (ix2 i l) = blkS x1 x2 x3 x4 x5 x6 (seqOf u) (unitHead u l) i (low l) := by
  rw [stateOf_eq, stepS_apply]
  simp only [copiedTile_apply, ldRow_apply, blkS]
  have hc : colOf u l = col (unitHead u l) (low l) := Fin.ext (by simp only [colOf, col, unitHead, low]; omega)
  have hl (j : Fin 64) : colOf u (lane l j) = col (unitHead u l) j := Fin.ext (by simp only [colOf, col, unitHead, lane]; omega)
  have hh (j : Fin 64) : unitHead u (lane l j) = unitHead u l := Fin.ext (by simp only [unitHead, lane]; omega)
  have hj (j : Fin 64) : low (lane l j) = j := Fin.ext (by simp only [low, lane]; omega)
  simp only [hc, hl, hh, hj]

/-- Every store to the output holds `blkY` at the places it covers. -/
theorem pieces7_apply : ∀ (n : ℕ) (h : n ≤ 32), ∀ p ∈ pieces7 arg2 harg2 arg3 harg3 arg4 harg4 arg5 harg5 arg6 harg6 arg7 harg7 arg8 harg8 arg11 x0 x1 x2 x3 x4 x5 x6 n h, ∀ x : p.1.shape.Idx,
    p.2 x = blkY x0 x1 x2 x3 x4 x5 x6 (p.1.emb x 0) (headOf (p.1.emb x 2)) (placeOf (p.1.emb x 2))
  | 0, _, _, hp, _ => absurd hp List.not_mem_nil
  | n + 1, h, p, hp, x => by
    rcases List.mem_cons.mp hp with rfl | hp
    · obtain ⟨l, rfl⟩ : ∃ l : Fin 128, x = ix3 0 0 l := ⟨x 2, (eq_ix3 x).trans (by congr 1 <;> exact Subsingleton.elim (α := Fin 1) _ _)⟩
      have e : (rowRect ⟨n, h⟩).emb (ix3 0 0 l) = ix3 (seqOf ⟨n, h⟩) 0 (colOf ⟨n, h⟩ l) := by
        funext a
        apply Fin.ext
        fin_cases a
        · exact Nat.add_zero _
        · rfl
        · show n % 4 * 128 + 1 * l.val = n % 4 * 128 + l.val
          omega
      show stepY (F := Ideal) _ _ _ _ _ _ _ (ix3 0 0 l) = blkY x0 x1 x2 x3 x4 x5 x6 ((rowRect ⟨n, h⟩).emb (ix3 0 0 l) 0) (headOf ((rowRect ⟨n, h⟩).emb (ix3 0 0 l) 2))
        (placeOf ((rowRect ⟨n, h⟩).emb (ix3 0 0 l) 2))
      rw [e, stepY_apply]
      simp only [tileStep_apply, ldRow_apply]
      show _ = blkY x0 x1 x2 x3 x4 x5 x6 (seqOf ⟨n, h⟩) (headOf (colOf ⟨n, h⟩ l)) (placeOf (colOf ⟨n, h⟩ l))
      refine Finset.sum_congr rfl fun j _ => ?_
      have h1 : unitHead ⟨n, h⟩ (lane l j) = headOf (colOf ⟨n, h⟩ l) := Fin.ext (by simp only [unitHead, lane, headOf, colOf]; omega)
      have h2 : (⟨l.val % 64, by omega⟩ : Fin 64) = placeOf (colOf ⟨n, h⟩ l) := Fin.ext (by simp only [placeOf, colOf]; omega)
      have h3 : low (lane l j) = j := Fin.ext (by simp only [low, lane]; omega)
      have h4 : colOf ⟨n, h⟩ (lane l j) = col (headOf (colOf ⟨n, h⟩ l)) j := Fin.ext (by simp only [colOf, col, headOf, lane]; omega)
      rw [h1, h2, h3, h4]
    · exact pieces7_apply n _ p hp x

/-- A unit's state read back at the end. -/
theorem stateAfter_apply (u : Fin 32) (i : Fin 64) (l : Fin 128) :
    stateAfter arg3 harg3 arg4 harg4 arg5 harg5 arg6 harg6 arg7 harg7 arg8 harg8 arg11 x1 x2 x3 x4 x5 x6 u (ix4 0 0 i l) = blkS x1 x2 x3 x4 x5 x6 (seqOf u) (unitHead u l) i (low l) := by
  rw [stateAfter_eq, ← tileStep_apply arg3 harg3 arg4 harg4 arg5 harg5 arg6 harg6 arg7 harg7 arg8 harg8 arg11 x1 x2 x3 x4 x5 x6 u i l]
  unfold newTile
  generalize stepS (F := Ideal) _ _ _ _ _ _ = S
  pointwise [k0_pay159]

/-- The two halves of a unit's state, as stored for its two heads. -/
theorem even_apply (u : Fin 32) (i j : Fin 64) :
    k0_pay143 (stateAfter arg3 harg3 arg4 harg4 arg5 harg5 arg6 harg6 arg7 harg7 arg8 harg8 arg11 x1 x2 x3 x4 x5 x6 u) (ix4 0 0 i j) = blkS x1 x2 x3 x4 x5 x6 (seqOf u) (unitHead u ⟨(0 : Fin 2).val * 64, by decide⟩) i j := by
  pointwise [k0_pay143, k0_pay142]
  rw [stateAfter_apply]
  have h1 : unitHead u ⟨j.val, by omega⟩ = unitHead u ⟨(0 : Fin 2).val * 64, by decide⟩ := Fin.ext (by show u.val % 4 * 2 + j.val / 64 = u.val % 4 * 2 + 0 / 64; omega)
  have h2 : low ⟨j.val, by omega⟩ = j := Fin.ext (by simp only [low]; omega)
  rw [h1, h2]
  rfl

theorem odd_apply (u : Fin 32) (i j : Fin 64) :
    k0_pay144 (stateAfter arg3 harg3 arg4 harg4 arg5 harg5 arg6 harg6 arg7 harg7 arg8 harg8 arg11 x1 x2 x3 x4 x5 x6 u) (ix4 0 0 i j) = blkS x1 x2 x3 x4 x5 x6 (seqOf u) (unitHead u ⟨(1 : Fin 2).val * 64, by decide⟩) i j := by
  pointwise [k0_pay144, k0_pay142]
  rw [stateAfter_apply]
  have h1 : unitHead u ⟨64 + j.val, by omega⟩ = unitHead u ⟨(1 : Fin 2).val * 64, by decide⟩ := Fin.ext (by show u.val % 4 * 2 + (64 + j.val) / 64 = u.val % 4 * 2 + 64 / 64; omega)
  have h2 : low ⟨64 + j.val, by omega⟩ = j := Fin.ext (by simp only [low]; omega)
  rw [h1, h2]
  rfl

/-- Every store to the state's output holds `blkS` at the places it covers. -/
theorem pieces8_apply : ∀ (n : ℕ) (h : n ≤ 32), ∀ p ∈ pieces8 arg3 harg3 arg4 harg4 arg5 harg5 arg6 harg6 arg7 harg7 arg8 harg8 arg11 x1 x2 x3 x4 x5 x6 n h, ∀ x : p.1.shape.Idx,
    p.2 x = blkS x1 x2 x3 x4 x5 x6 (p.1.emb x 0) (p.1.emb x 1) (p.1.emb x 2) (p.1.emb x 3)
  | 0, _, _, hp, _ => absurd hp List.not_mem_nil
  | n + 1, h, p, hp, x => by
    rcases List.mem_cons.mp hp with rfl | hp
    · obtain ⟨i, j, rfl⟩ : ∃ i j : Fin 64, x = ix4 0 0 i j := ⟨x 2, x 3, (eq_ix4 x).trans (by congr 1 <;> exact Subsingleton.elim (α := Fin 1) _ _)⟩
      exact (odd_apply arg3 harg3 arg4 harg4 arg5 harg5 arg6 harg6 arg7 harg7 arg8 harg8 arg11 x1 x2 x3 x4 x5 x6 ⟨n, h⟩ i j).trans
        (congrArg (fun y : S8x8x64x64.Idx => blkS x1 x2 x3 x4 x5 x6 (y 0) (y 1) (y 2) (y 3)) (headRect_idx ⟨n, h⟩ 1 i j)).symm
    · rcases List.mem_cons.mp hp with rfl | hp
      · obtain ⟨i, j, rfl⟩ : ∃ i j : Fin 64, x = ix4 0 0 i j := ⟨x 2, x 3, (eq_ix4 x).trans (by congr 1 <;> exact Subsingleton.elim (α := Fin 1) _ _)⟩
        exact (even_apply arg3 harg3 arg4 harg4 arg5 harg5 arg6 harg6 arg7 harg7 arg8 harg8 arg11 x1 x2 x3 x4 x5 x6 ⟨n, h⟩ i j).trans
          (congrArg (fun y : S8x8x64x64.Idx => blkS x1 x2 x3 x4 x5 x6 (y 0) (y 1) (y 2) (y 3)) (headRect_idx ⟨n, h⟩ 0 i j)).symm
      · exact pieces8_apply n _ p hp x

variable (c : Dev nD) (i : grid0.Coords) (hc0 : cond0_0 i) (hc1 : cond0_1 i)

/-- What a grid point leaves in the output's block, -/
theorem out7_apply (y : S8x1x512.Idx) : out0_A_7 c i arg2 harg2 arg3 harg3 arg4 harg4 arg5 harg5 arg6 harg6 arg7 harg7 arg8 harg8 arg9 harg9 arg10 harg10 arg11 harg11 hc0 hc1 x0 x1 x2 x3 x4 x5 x6 y = blkY x0 x1 x2 x3 x4 x5 x6 (y 0) (headOf (y 2)) (placeOf (y 2)) := by
  have hc := cover0_A_7 c i arg2 harg2 arg3 harg3 arg4 harg4 arg5 harg5 arg6 harg6 arg7 harg7 arg8 harg8 arg9 harg9 arg10 harg10 arg11 harg11 hc0 hc1 x0 x1 x2 x3 x4 x5 x6 y
  unfold out0_A_7
  rw [run_7] at hc ⊢
  exact View.read_writes_apply_of_pieces _ _ (fun y => blkY x0 x1 x2 x3 x4 x5 x6 (y 0) (headOf (y 2)) (placeOf (y 2))) _
    (pieces7_apply arg2 harg2 arg3 harg3 arg4 harg4 arg5 harg5 arg6 harg6 arg7 harg7 arg8 harg8 arg11 x0 x1 x2 x3 x4 x5 x6 32 le_rfl) y hc

/-- and in the state's. -/
theorem out8_apply (y : S8x8x64x64.Idx) : out0_A_8 c i arg2 harg2 arg3 harg3 arg4 harg4 arg5 harg5 arg6 harg6 arg7 harg7 arg8 harg8 arg9 harg9 arg10 harg10 arg11 harg11 hc0 hc1 x0 x1 x2 x3 x4 x5 x6 y = blkS x1 x2 x3 x4 x5 x6 (y 0) (y 1) (y 2) (y 3) := by
  have hc := cover0_A_8 c i arg2 harg2 arg3 harg3 arg4 harg4 arg5 harg5 arg6 harg6 arg7 harg7 arg8 harg8 arg9 harg9 arg10 harg10 arg11 harg11 hc0 hc1 x0 x1 x2 x3 x4 x5 x6 y
  unfold out0_A_8
  rw [run_8] at hc ⊢
  exact View.read_writes_apply_of_pieces _ _ (fun y => blkS x1 x2 x3 x4 x5 x6 (y 0) (y 1) (y 2) (y 3)) _
    (pieces8_apply arg3 harg3 arg4 harg4 arg5 harg5 arg6 harg6 arg7 harg7 arg8 harg8 arg11 x1 x2 x3 x4 x5 x6 32 le_rfl) y hc
end
end Cert.KernelIdeal.Gen
-- ==== Proof.Scan.Value.lean ====
module

public import proofs.«01_k».proof.Proof.Gen.KernelIdeal.Frame
public import proofs.«01_k».proof.Proof.Gen.KernelIdeal.Value
public import proofs.«01_k».proof.Proof.Scan.Block
public import Idealize.ShloMosaic.Lib.Pipeline.ValueKit

@[expose] public section
set_option maxRecDepth 4096
set_option maxHeartbeats 400000
noncomputable section
/-! # The recurrence step: the two result arrays

The new state and the output of the recurrence, as functions of the argument arrays. -/
namespace Cert.KernelIdeal.Scan
open Idealize.ShloMosaic Idealize.ShloMosaic.TcCoe Idealize.ShloMosaic.Tactic Cert.KernelIdeal.Gen Idealize.ShloMosaic.Pipeline

/-- The new state of sequence `n`, head `h`: the decayed old one, its rank-one correction along `b`, and the outer
product of value and key. -/
def newS (w k v a b : S128x512.Idx → EReal) (s : S128x8x64x64.Idx → EReal) (n : Fin 128) (h : Fin 8) (i j : Fin 64) :
    EReal :=
  s (ix4 n h i j) * w (ix2 n (col h j)) + (∑ j', s (ix4 n h i j') * a (ix2 n (col h j'))) * b (ix2 n (col h j))
    + v (ix2 n (col h i)) * k (ix2 n (col h j))

/-- The output of sequence `n`, head `h`: the new state applied to the receptance. -/
def newY (r w k v a b : S128x512.Idx → EReal) (s : S128x8x64x64.Idx → EReal) (n : Fin 128) (h : Fin 8) (i : Fin 64) :
    EReal :=
  ∑ j, newS w k v a b s n h i j * r (ix2 n (col h j))

variable (m : (ℓ : Loc nD τ sig) → Buf (Elt Ideal) ℓ) (c : Dev nD)

/-- Every window's block index is the grid point along the sequences and `0` elsewhere. -/
theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![t.val, 0, 0] ∧ win0_6.index t = ![t.val, 0, 0, 0]
    ∧ win0_7.index t = ![t.val, 0, 0] ∧ win0_8.index t = ![t.val, 0, 0, 0] :=
  (by decide +kernel : ∀ t : Fin grid0.N, _)

/-- There are 16 grid points, and each holds 8 sequences. -/
theorem seq_lt (t : Fin cfg0.N) (q : Fin 8) : t.val * 8 + q.val < 128 := by
  have h : t.val < 16 := t.isLt
  omega

/-- Sequence `q` of a grid point's block. -/
def seqAt (t : Fin cfg0.N) (q : Fin 8) : Fin 128 := ⟨t.val * 8 + q.val, seq_lt t q⟩

/-- Its place among all sequences. -/
theorem seqAt_val (t : Fin cfg0.N) (q : Fin 8) : (seqAt t q).val = t.val * 8 + q.val := rfl

/-- The receptance's block at a grid point. -/
theorem row0 (t : Fin cfg0.N) (q : Fin 8) (x : Fin 512) :
    (iblk m c 0 t : Vec Ideal S8x1x512 .f32) (ix3 q 0 x) = m ((c : Thread nD τ).loc main_arg0) (ix2 (seqAt t q) x) := by
  unfold iblk
  blk_simp
  entry_read
  pointwise
  blk_ext [idx t, seqAt_val]
/-- The decay's block at a grid point. -/
theorem row1 (t : Fin cfg0.N) (q : Fin 8) (x : Fin 512) :
    (iblk m c 1 t : Vec Ideal S8x1x512 .f32) (ix3 q 0 x) = m ((c : Thread nD τ).loc main_arg1) (ix2 (seqAt t q) x) := by
  unfold iblk
  blk_simp
  entry_read
  pointwise
  blk_ext [idx t, seqAt_val]
/-- The key's block at a grid point. -/
theorem row2 (t : Fin cfg0.N) (q : Fin 8) (x : Fin 512) :
    (iblk m c 2 t : Vec Ideal S8x1x512 .f32) (ix3 q 0 x) = m ((c : Thread nD τ).loc main_arg2) (ix2 (seqAt t q) x) := by
  unfold iblk
  blk_simp
  entry_read
  pointwise
  blk_ext [idx t, seqAt_val]
/-- The value's block at a grid point. -/
theorem row3 (t : Fin cfg0.N) (q : Fin 8) (x : Fin 512) :
    (iblk m c 3 t : Vec Ideal S8x1x512 .f32) (ix3 q 0 x) = m ((c : Thread nD τ).loc main_arg3) (ix2 (seqAt t q) x) := by
  unfold iblk
  blk_simp
  entry_read
  pointwise
  blk_ext [idx t, seqAt_val]
/-- The removal key's block at a grid point. -/
theorem row4 (t : Fin cfg0.N) (q : Fin 8) (x : Fin 512) :
    (iblk m c 4 t : Vec Ideal S8x1x512 .f32) (ix3 q 0 x) = m ((c : Thread nD τ).loc main_arg4) (ix2 (seqAt t q) x) := by
  unfold iblk
  blk_simp
  entry_read
  pointwise
  blk_ext [idx t, seqAt_val]
/-- The replacement key's block at a grid point. -/
theorem row5 (t : Fin cfg0.N) (q : Fin 8) (x : Fin 512) :
    (iblk m c 5 t : Vec Ideal S8x1x512 .f32) (ix3 q 0 x) = m ((c : Thread nD τ).loc main_arg5) (ix2 (seqAt t q) x) := by
  unfold iblk
  blk_simp
  entry_read
  pointwise
  blk_ext [idx t, seqAt_val]
/-- The old state's block at a grid point. -/
theorem row6 (t : Fin cfg0.N) (q h : Fin 8) (i j : Fin 64) :
    (iblk m c 6 t : Vec Ideal S8x8x64x64 .f32) (ix4 q h i j)
      = m ((c : Thread nD τ).loc main_arg6) (ix4 (seqAt t q) h i j) := by
  blk_ext [iblk, V_main_arg6, idx t, seqAt_val]

/-- The new state on the argument arrays. -/
abbrev argS := newS (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6))
/-- The output on the argument arrays. -/
abbrev argY := newY (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6))

/-- A block's new state is the arrays' new state at the block's sequences. -/
theorem blkS_eq (t : Fin cfg0.N) (q h : Fin 8) (i j : Fin 64) :
    blkS (iblk m c 1 t) (iblk m c 2 t) (iblk m c 3 t) (iblk m c 4 t) (iblk m c 5 t) (iblk m c 6 t) q h i j
      = argS m c (seqAt t q) h i j := by
  unfold blkS argS newS
  refine congrArg₂ (· + ·) (congrArg₂ (· + ·) (congrArg₂ (· * ·) (row6 m c t q h i j) (row1 m c t q _))
    (congrArg₂ (· * ·) (Finset.sum_congr rfl fun j' _ => congrArg₂ (· * ·) (row6 m c t q h i j') (row4 m c t q _))
      (row5 m c t q _))) (congrArg₂ (· * ·) (row3 m c t q _) (row2 m c t q _))

/-- A block's output is the arrays' output at the block's sequences. -/
theorem blkY_eq (t : Fin cfg0.N) (q h : Fin 8) (i : Fin 64) :
    blkY (iblk m c 0 t) (iblk m c 1 t) (iblk m c 2 t) (iblk m c 3 t) (iblk m c 4 t) (iblk m c 5 t) (iblk m c 6 t) q h i
      = argY m c (seqAt t q) h i := by
  unfold blkY argY newY
  exact Finset.sum_congr rfl fun j _ => congrArg₂ (· * ·) (blkS_eq m c t q h i j) (row0 m c t q _)

/-- The output as an array. -/
def arrY (y : S128x1x512.Idx) : EReal := argY m c (y 0) (headOf (y 2)) (placeOf (y 2))
/-- The new state as an array. -/
def arrS (y : S128x8x64x64.Idx) : EReal := argS m c (y 0) (y 1) (y 2) (y 3)

/-- A block's output, placed among all sequences. -/
theorem blkY_arr (t : Fin cfg0.N) (y : S8x1x512.Idx) :
    blkY (iblk m c 0 t) (iblk m c 1 t) (iblk m c 2 t) (iblk m c 3 t) (iblk m c 4 t) (iblk m c 5 t) (iblk m c 6 t)
      (y 0) (headOf (y 2)) (placeOf (y 2)) = arrY m c (ix3 (seqAt t (y 0)) (y 1) (y 2)) :=
  blkY_eq m c t _ _ _

/-- A block's new state, placed among all sequences. -/
theorem blkS_arr (t : Fin cfg0.N) (y : S8x8x64x64.Idx) :
    blkS (iblk m c 1 t) (iblk m c 2 t) (iblk m c 3 t) (iblk m c 4 t) (iblk m c 5 t) (iblk m c 6 t) (y 0) (y 1) (y 2) (y 3)
      = arrS m c (ix4 (seqAt t (y 0)) (y 1) (y 2) (y 3)) :=
  blkS_eq m c t _ _ _ _

/-- What a grid point leaves of the output. -/
theorem after7 (t : Fin cfg0.N) (y : S8x1x512.Idx) :
    (outsAt0 m c t).1 y = arrY m c (ix3 (seqAt t (y 0)) (y 1) (y 2)) := by
  rw [← blkY_arr m c t y]
  simp only [outsAt0]
  exact out7_apply ..

/-- What a grid point leaves of the new state. -/
theorem after8 (t : Fin cfg0.N) (y : S8x8x64x64.Idx) :
    (outsAt0 m c t).2 y = arrS m c (ix4 (seqAt t (y 0)) (y 1) (y 2) (y 3)) := by
  rw [← blkS_arr m c t y]
  simp only [outsAt0]
  exact out8_apply ..

/-- Where the output's block lies in the array. -/
theorem emb7 (t : Fin cfg0.N) (y : S8x1x512.Idx) :
    (((cfg0.win 7).blk t).view.emb y : S128x1x512.Idx) = ix3 (seqAt t (y 0)) (y 1) (y 2) := by
  blk_ext [idx t, seqAt_val]
  rfl

/-- Where the state's block lies in the array. -/
theorem emb8 (t : Fin cfg0.N) (y : S8x8x64x64.Idx) :
    (((cfg0.win 8).blk t).view.emb y : S128x8x64x64.Idx) = ix4 (seqAt t (y 0)) (y 1) (y 2) (y 3) := by
  blk_ext [idx t, seqAt_val]
  rfl

/-- The output array after the run. -/
theorem y_eq : (dats m 0 c).arrAt 7 cfg0.N = arrY m c := by
  refine (dats m 0 c).arrAt_eq_of_covers 7 _ (by decide +kernel) fun t hf y => ?_
  rw [after0_7]
  exact (after7 m c t y).trans (congrArg (arrY m c) (emb7 t y).symm)

/-- The state array after the run. -/
theorem s_eq : (dats m 0 c).arrAt 8 cfg0.N = arrS m c := by
  refine (dats m 0 c).arrAt_eq_of_covers 8 _ (by decide +kernel) fun t hf y => ?_
  rw [after0_8]
  exact (after8 m c t y).trans (congrArg (arrS m c) (emb8 t y).symm)
end Cert.KernelIdeal.Scan
-- ==== Proof.Scan.Ref.lean ====
module

public import proofs.«01_k».proof.Proof.Gen.ReferenceIdeal.Run
public import proofs.«01_k».proof.Proof.Scan.Value
public import Idealize.ShloMosaic.Lib.Pointwise

@[expose] public section
set_option maxHeartbeats 400000
set_option maxRecDepth 4096
noncomputable section
/-! # The recurrence step: the reference's results -/
namespace Cert.ReferenceIdeal.Scan
open Cert.ReferenceIdeal Cert.ReferenceIdeal.Gen Idealize.ShloMosaic Idealize.ShloMosaic.TcCoe Idealize.ShloMosaic.Tactic Cert.KernelIdeal.Scan
open Cert.KernelIdeal.Gen (col headOf placeOf)

/-- The reference's new state as one term of its arguments. -/
abbrev refS (w k v a b : FVec Ideal S128x512 .f32) (s : FVec Ideal S128x8x64x64 .f32) : FVec Ideal S128x8x64x64 .f32 :=
  addf (addf (mulf s (broadcastInDim S128x8x64x64 ![0, 1, 2, 3] bcast_S128x8x1x64_S128x8x64x64_0_1_2_3 (broadcastInDim S128x8x1x64 ![0, 1, 3] bcast_S128x8x64_S128x8x1x64_0_1_3 (shapeCast _ w shapeCasts_S128x512_S128x8x64)))) (mulf (broadcastInDim S128x8x64x64 ![0, 1, 2, 3] bcast_S128x8x64x1_S128x8x64x64_0_1_2_3 (broadcastInDim S128x8x64x1 ![0, 1, 2] bcast_S128x8x64_S128x8x64x1_0_1_2 (Host.dotGeneral dot_S128x8x64x64_S128x8x64_S128x8x64_3_2_2_n_01_01 none s (shapeCast _ a shapeCasts_S128x512_S128x8x64)))) (broadcastInDim S128x8x64x64 ![0, 1, 2, 3] bcast_S128x8x1x64_S128x8x64x64_0_1_2_3 (broadcastInDim S128x8x1x64 ![0, 1, 3] bcast_S128x8x64_S128x8x1x64_0_1_3 (shapeCast _ b shapeCasts_S128x512_S128x8x64))))) (mulf (broadcastInDim S128x8x64x64 ![0, 1, 2, 3] bcast_S128x8x64x1_S128x8x64x64_0_1_2_3 (broadcastInDim S128x8x64x1 ![0, 1, 2] bcast_S128x8x64_S128x8x64x1_0_1_2 (shapeCast _ v shapeCasts_S128x512_S128x8x64))) (broadcastInDim S128x8x64x64 ![0, 1, 2, 3] bcast_S128x8x1x64_S128x8x64x64_0_1_2_3 (broadcastInDim S128x8x1x64 ![0, 1, 3] bcast_S128x8x64_S128x8x1x64_0_1_3 (shapeCast _ k shapeCasts_S128x512_S128x8x64))))

/-- The reference's new state, entry by entry. -/
theorem ref_state (w k v a b : FVec Ideal S128x512 .f32) (s : FVec Ideal S128x8x64x64 .f32) (n : Fin 128) (h : Fin 8) (i j : Fin 64) :
    refS w k v a b s (ix4 n h i j) = newS w k v a b s n h i j := by
  unfold refS newS
  pointwise
  rfl
/-- The reference's output, entry by entry, over any state. -/
theorem ref_out (r : FVec Ideal S128x512 .f32) (S' : FVec Ideal S128x8x64x64 .f32) (n : Fin 128) (x : Fin 512) :
    shapeCast S128x1x512 (Host.dotGeneral dot_S128x8x64x64_S128x8x64_S128x8x64_3_2_2_n_01_01 none S' (shapeCast _ r shapeCasts_S128x512_S128x8x64)) shapeCasts_S128x8x64_S128x1x512 (ix3 n 0 x) =
    ∑ j, S' (ix4 n (headOf x) (placeOf x) j) * r (ix2 n (col (headOf x) j)) := by
  pointwise
  rfl

/-- The reference's output is the array the kernel leaves. -/
theorem ref_y (r w k v a b : FVec Ideal S128x512 .f32) (s : FVec Ideal S128x8x64x64 .f32) :
    shapeCast S128x1x512 (Host.dotGeneral dot_S128x8x64x64_S128x8x64_S128x8x64_3_2_2_n_01_01 none (refS w k v a b s) (shapeCast _ r shapeCasts_S128x512_S128x8x64)) shapeCasts_S128x8x64_S128x1x512
      = (fun y => newY r w k v a b s (y 0) (headOf (y 2)) (placeOf (y 2)) : S128x1x512.Idx → EReal) := by
  funext y
  obtain ⟨n, x, rfl⟩ : ∃ (n : Fin 128) (x : Fin 512), y = ix3 n 0 x :=
    ⟨y 0, y 2, (eq_ix3 y).trans (congrArg (ix3 (y 0) · (y 2)) (Subsingleton.elim (α := Fin 1) _ _))⟩
  exact (ref_out r (refS w k v a b s) n x).trans (Finset.sum_congr rfl fun j _ => congrArg (· * _) (ref_state ..))

/-- The reference's new state is the array the kernel leaves. -/
theorem ref_s (w k v a b : FVec Ideal S128x512 .f32) (s : FVec Ideal S128x8x64x64 .f32) :
    refS w k v a b s = (fun y => newS w k v a b s (y 0) (y 1) (y 2) (y 3) : S128x8x64x64.Idx → EReal) := by
  funext y
  obtain ⟨n, h, i, j, rfl⟩ : ∃ (n : Fin 128) (h : Fin 8) (i j : Fin 64), y = ix4 n h i j := ⟨y 0, y 1, y 2, y 3, eq_ix4 y⟩
  exact ref_state ..
end Cert.ReferenceIdeal.Scan
-- ==== Proof.Proj.Block.lean ====
module

public import proofs.«01_k».proof.Proof.Gen.ProjIdeal.Frame
public import proofs.«01_k».proof.Proof.Gen.ProjIdeal.Value
public import Idealize.ShloMosaic.Lib.Pipeline.ValueKit
public import Idealize.ShloMosaic.Lib.Pointwise

@[expose] public section
set_option maxRecDepth 4096
set_option maxHeartbeats 400000
noncomputable section
/-! # The input projection: one block of rows

The entries of the rows a grid point works on: each row normalised, and its product with a column of the weights. -/
namespace Cert.ProjIdeal.Proj
open Idealize.ShloMosaic Idealize.ShloMosaic.TcCoe Idealize.ShloMosaic.Tactic Cert.ProjIdeal.Gen Idealize.ShloMosaic.Pipeline

/-- Entry `k` of a normalised row: the row's entry over the root of its mean square, times the gain. -/
def blkN (x0 : S256x1024.Idx → EReal) (x1 : S1x1024.Idx → EReal) (i : Fin 256) (k : Fin 1024) : EReal :=
  x0 (ix2 i k) * Ideal.rsqrt (Ideal.div (∑ x, x0 (ix2 i x) * x0 (ix2 i x)) (Ideal.ofBits FTy.f32 1149239296#32)
    + Ideal.ofBits FTy.f32 897988541#32) * x1 (ix2 0 k)

/-- A normalised row times column `e` of the weights. -/
def blkP (x0 : S256x1024.Idx → EReal) (x1 : S1x1024.Idx → EReal) (x2 : S1024x5248.Idx → EReal) (i : Fin 256)
    (e : Fin 5248) : EReal :=
  ∑ k, blkN x0 x1 i k * x2 (ix2 k e)

/-- What window 3 holds of row `i`. -/
theorem out3_apply (x0 : Vec Ideal S256x1024 .f32) (x1 : Vec Ideal S1x1024 .f32) (x2 : Vec Ideal S1024x5248 .bf16)
    (i : Fin 256) (j : Fin 1792) : out0_3 x0 x1 x2 (ix2 i j) = blkP x0 x1 x2 i ⟨j.val, by omega⟩ := by
  unfold blkP blkN
  frame_out
  pointwise [k0_pay1, k0_pay2]

/-- What window 4 holds of row `i`. -/
theorem out4_apply (x0 : Vec Ideal S256x1024 .f32) (x1 : Vec Ideal S1x1024 .f32) (x2 : Vec Ideal S1024x5248 .bf16)
    (i : Fin 256) (j : Fin 512) : out0_4 x0 x1 x2 (ix2 i j) = blkP x0 x1 x2 i ⟨1792 + j.val, by omega⟩ * Ideal.ofBits FTy.f32 1040187392#32 := by
  unfold blkP blkN
  frame_out
  pointwise [k0_pay1, k0_pay3]

/-- What window 5 holds of row `i`. -/
theorem out5_apply (x0 : Vec Ideal S256x1024 .f32) (x1 : Vec Ideal S1x1024 .f32) (x2 : Vec Ideal S1024x5248 .bf16)
    (i : Fin 256) (j : Fin 256) : out0_5 x0 x1 x2 (ix2 i j) = blkP x0 x1 x2 i ⟨2304 + j.val, by omega⟩ := by
  unfold blkP blkN
  frame_out
  pointwise [k0_pay1, k0_pay4]

/-- What window 6 holds of row `i`. -/
theorem out6_apply (x0 : Vec Ideal S256x1024 .f32) (x1 : Vec Ideal S1x1024 .f32) (x2 : Vec Ideal S1024x5248 .bf16)
    (i : Fin 256) (j : Fin 256) : out0_6 x0 x1 x2 (ix2 i j) = blkP x0 x1 x2 i ⟨2304 + j.val, by omega⟩ := by
  unfold blkP blkN
  frame_out
  pointwise [k0_pay1, k0_pay4, k0_pay5]

/-- What window 7 holds of row `i` (in its column, the window being transposed). -/
theorem out7_apply (x0 : Vec Ideal S256x1024 .f32) (x1 : Vec Ideal S1x1024 .f32) (x2 : Vec Ideal S1024x5248 .bf16)
    (i : Fin 256) (j : Fin 256) : out0_7 x0 x1 x2 (ix2 j i) = blkP x0 x1 x2 i ⟨2304 + j.val, by omega⟩ := by
  unfold blkP blkN
  frame_out
  pointwise [k0_pay1, k0_pay4, k0_pay6]

/-- What window 8 holds of row `i`. -/
theorem out8_apply (x0 : Vec Ideal S256x1024 .f32) (x1 : Vec Ideal S1x1024 .f32) (x2 : Vec Ideal S1024x5248 .bf16)
    (i : Fin 256) (j : Fin 256) : out0_8 x0 x1 x2 (ix2 i j) = blkP x0 x1 x2 i ⟨2560 + j.val, by omega⟩ := by
  unfold blkP blkN
  frame_out
  pointwise [k0_pay1, k0_pay15, k0_pay7, k0_pay8]

/-- What window 9 holds of row `i` (in its column, the window being transposed). -/
theorem out9_apply (x0 : Vec Ideal S256x1024 .f32) (x1 : Vec Ideal S1x1024 .f32) (x2 : Vec Ideal S1024x5248 .bf16)
    (i : Fin 256) (j : Fin 256) : out0_9 x0 x1 x2 (ix2 j i) = blkP x0 x1 x2 i ⟨2560 + j.val, by omega⟩ := by
  unfold blkP blkN
  frame_out
  pointwise [k0_pay1, k0_pay15, k0_pay7, k0_pay9]

/-- What window 10 holds of row `i`. -/
theorem out10_apply (x0 : Vec Ideal S256x1024 .f32) (x1 : Vec Ideal S1x1024 .f32) (x2 : Vec Ideal S1024x5248 .bf16)
    (i : Fin 256) (j : Fin 256) : out0_10 x0 x1 x2 (ix2 i j) = blkP x0 x1 x2 i ⟨2816 + j.val, by omega⟩ := by
  unfold blkP blkN
  frame_out
  pointwise [k0_pay1, k0_pay15, k0_pay10, k0_pay11]

/-- What window 11 holds of row `i` (in its column, the window being transposed). -/
theorem out11_apply (x0 : Vec Ideal S256x1024 .f32) (x1 : Vec Ideal S1x1024 .f32) (x2 : Vec Ideal S1024x5248 .bf16)
    (i : Fin 256) (j : Fin 256) : out0_11 x0 x1 x2 (ix2 j i) = blkP x0 x1 x2 i ⟨2816 + j.val, by omega⟩ := by
  unfold blkP blkN
  frame_out
  pointwise [k0_pay1, k0_pay15, k0_pay10, k0_pay12]

/-- What window 12 holds of row `i`. -/
theorem out12_apply (x0 : Vec Ideal S256x1024 .f32) (x1 : Vec Ideal S1x1024 .f32) (x2 : Vec Ideal S1024x5248 .bf16)
    (i : Fin 256) (j : Fin 128) : out0_12 x0 x1 x2 (ix2 i j) = blkP x0 x1 x2 i ⟨3072 + j.val, by omega⟩ := by
  unfold blkP blkN
  frame_out
  pointwise [k0_pay1, k0_pay15, k0_pay13]

/-- What window 13 holds of row `i`. -/
theorem out13_apply (x0 : Vec Ideal S256x1024 .f32) (x1 : Vec Ideal S1x1024 .f32) (x2 : Vec Ideal S1024x5248 .bf16)
    (i : Fin 256) (j : Fin 2048) : out0_13 x0 x1 x2 (ix2 i j) = blkP x0 x1 x2 i ⟨3200 + j.val, by omega⟩ := by
  unfold blkP blkN
  frame_out
  pointwise [k0_pay1, k0_pay15, k0_pay14]

end Cert.ProjIdeal.Proj
-- ==== Proof.Proj.Value.lean ====
module

public import proofs.«01_k».proof.Proof.Gen.ProjIdeal.Value
public import proofs.«01_k».proof.Proof.Proj.Block

@[expose] public section
set_option maxRecDepth 4096
set_option maxHeartbeats 400000
noncomputable section
/-! # The input projection: the eleven result arrays

Every result is a block of columns of one product: the normalised rows times the weights. -/
namespace Cert.ProjIdeal.Proj
open Idealize.ShloMosaic Idealize.ShloMosaic.TcCoe Idealize.ShloMosaic.Tactic Cert.ProjIdeal.Gen Idealize.ShloMosaic.Pipeline

/-- Entry `k` of normalised row `n`: the row's entry over the root of its mean square, times the gain. -/
def rowN (x : S1x16384x1024.Idx → EReal) (g : S1x1024.Idx → EReal) (n : Fin 16384) (k : Fin 1024) : EReal :=
  x (ix3 0 n k) * Ideal.rsqrt (Ideal.div (∑ j, x (ix3 0 n j) * x (ix3 0 n j)) (Ideal.ofBits FTy.f32 1149239296#32)
    + Ideal.ofBits FTy.f32 897988541#32) * g (ix2 0 k)

/-- Normalised row `n` times column `e` of the weights. -/
def projAt (x : S1x16384x1024.Idx → EReal) (g : S1x1024.Idx → EReal) (w : S1x1024x5144.Idx → EReal) (n : Fin 16384)
    (e : Fin 5144) : EReal :=
  ∑ k, rowN x g n k * w (ix3 0 k e)

/-- Column `j` of the `gates` block, which has 24 columns and zeros behind. -/
def gateAt (x : S1x16384x1024.Idx → EReal) (g : S1x1024.Idx → EReal) (w : S1x1024x5144.Idx → EReal) (n : Fin 16384)
    (j : Fin 128) : EReal :=
  if h : j.val < 24 then projAt x g w n ⟨3072 + j.val, by omega⟩ else 0

/-- The weights in the order in which the kernel holds their columns: 3072 columns, 24 columns with zeros behind up
to 128, 2048 columns. -/
def wPerm (w : S1x1024x5144.Idx → EReal) : S1024x5248.Idx → EReal :=
  truncf (F := Ideal) .bf16 (concatenate S1024x5248 1
    [⟨S1024x3072, extractStridedSlice S1024x3072 ![0, 0] (shapeCast S1024x5144 (w : FVec Ideal S1x1024x5144 .f32) shapeCasts_S1x1024x5144_S1024x5144) slices_S1024x5144_S1024x3072_0_0⟩,
     ⟨S1024x128, pad S1024x128 ![0, 0] ![0, 104] ![0, 0] (extractStridedSlice S1024x24 ![0, 3072] (shapeCast S1024x5144 w shapeCasts_S1x1024x5144_S1024x5144) slices_S1024x5144_S1024x24_0_3072) (sitofp (F := Ideal) .f32 (constantI S_ 32 0#32)) pads_S1024x24_S1024x128_000_01040 h_S_⟩,
     ⟨S1024x2048, extractStridedSlice S1024x2048 ![0, 3096] (shapeCast S1024x5144 w shapeCasts_S1x1024x5144_S1024x5144) slices_S1024x5144_S1024x2048_0_3096⟩]
    concatenates_S1024x3072_S1024x128_S1024x2048_S1024x5248_d1) bitsLt_bf16_f32

/-- The padding value, the integer zero made a float, is zero. -/
theorem pad_zero : (FloatOps.sitofp (F := Ideal) FTy.f32 0#32 : EReal) = 0 := by
  show ((((0#32).toInt : ℝ)) : EReal) = 0
  norm_num

/-- The first 3072 columns stand where they stood. -/
theorem wPerm_low (w : S1x1024x5144.Idx → EReal) (k : Fin 1024) (e : Fin 5248) (h : e.val < 3072) :
    wPerm w (ix2 k e) = w (ix3 0 k ⟨e.val, by omega⟩) := by
  unfold wPerm
  pointwise
  rw [dif_pos h]

/-- The 24 columns of the gates, and zeros behind them. -/
theorem wPerm_gate (w : S1x1024x5144.Idx → EReal) (k : Fin 1024) (j : Fin 128) :
    wPerm w (ix2 k ⟨3072 + j.val, by omega⟩) = if h : j.val < 24 then w (ix3 0 k ⟨3072 + j.val, by omega⟩) else 0 := by
  unfold wPerm
  pointwise
  simp only [pad_zero]

/-- The last 2048 columns, which follow the 24 in the argument. -/
theorem wPerm_high (w : S1x1024x5144.Idx → EReal) (k : Fin 1024) (j : Fin 2048) :
    wPerm w (ix2 k ⟨3200 + j.val, by omega⟩) = w (ix3 0 k ⟨3096 + j.val, by omega⟩) := by
  unfold wPerm
  pointwise
  rw [dif_neg (by omega), dif_neg (by omega)]
  exact congrArg (fun e => w (ix3 0 k e)) (Fin.ext (by dsimp only; omega))

variable (m : (ℓ : Loc nD τ sig) → Buf (Elt Ideal) ℓ) (c : Dev nD)

/-- The kernel's weights are the argument's, reordered. -/
theorem entry_w : V m c main_v8 = wPerm (m ((c : Thread nD τ).loc main_arg2)) := by
  unfold V
  simp only [hostOps0, hostOps0_1, hostOps0_2, List.flatten_cons, List.flatten_nil, List.cons_append, List.nil_append, List.append_nil]
  after_results
  unfold wPerm
  congr 2

/-- The kernel's rows are the argument's. -/
theorem entry_x : V m c main_v9 = shapeCast S16384x1024 (m ((c : Thread nD τ).loc main_arg0)) shapeCasts_S1x16384x1024_S16384x1024 := by
  unfold V
  simp only [hostOps0, hostOps0_1, hostOps0_2, List.flatten_cons, List.flatten_nil, List.cons_append, List.nil_append, List.append_nil]
  after_results
  rfl

/-- The kernel's gain is the argument's. -/
theorem entry_g : V m c main_v11 = shapeCast S1x1024 (shapeCast S1024 (m ((c : Thread nD τ).loc main_arg1)) shapeCasts_S1x1024_S1024) shapeCasts_S1024_S1x1024 := by
  unfold V
  simp only [hostOps0, hostOps0_1, hostOps0_2, List.flatten_cons, List.flatten_nil, List.cons_append, List.nil_append, List.append_nil]
  after_results
  rfl

/-- The rows' block is the grid point along the rows, the gain and the weights are whole, and a result's block is the
grid point along the rows, or along the columns where the result is transposed. -/
theorem idx : ∀ t : Fin cfg0.N, win0_0.index t = ![t.val, 0] ∧ win0_1.index t = ![0, 0] ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![0, t.val]
    ∧ win0_8.index t = ![t.val, 0]
    ∧ win0_9.index t = ![0, t.val]
    ∧ win0_10.index t = ![t.val, 0]
    ∧ win0_11.index t = ![0, t.val]
    ∧ win0_12.index t = ![t.val, 0]
    ∧ win0_13.index t = ![t.val, 0] :=
  (by decide +kernel : ∀ t : Fin grid0.N, _)

/-- There are 64 grid points, and each holds 256 rows. -/
theorem row_lt (t : Fin cfg0.N) (q : Fin 256) : t.val * 256 + q.val < 16384 := by
  have h : t.val < 64 := t.isLt
  omega

/-- Row `q` of a grid point's block. -/
def rowAt (t : Fin cfg0.N) (q : Fin 256) : Fin 16384 := ⟨t.val * 256 + q.val, row_lt t q⟩

/-- Its place among all rows. -/
theorem rowAt_val (t : Fin cfg0.N) (q : Fin 256) : (rowAt t q).val = t.val * 256 + q.val := rfl

/-- A row of the reshaped argument. -/
theorem rows_read (x : S1x16384x1024.Idx → EReal) (n : Fin 16384) (k : Fin 1024) :
    shapeCast S16384x1024 x shapeCasts_S1x16384x1024_S16384x1024 (ix2 n k) = x (ix3 0 n k) := by
  pointwise

/-- The rows' block at a grid point. -/
theorem blk_x (t : Fin cfg0.N) (q : Fin 256) (k : Fin 1024) :
    (iblk m c 0 t : Vec Ideal S256x1024 .f32) (ix2 q k) = m ((c : Thread nD τ).loc main_arg0) (ix3 0 (rowAt t q) k) := by
  rw [← rows_read (m ((c : Thread nD τ).loc main_arg0)), ← entry_x]
  blk_ext [iblk, idx t, rowAt_val]

/-- The gain's block at a grid point. -/
theorem blk_g (t : Fin cfg0.N) (k : Fin 1024) :
    (iblk m c 1 t : Vec Ideal S1x1024 .f32) (ix2 0 k) = m ((c : Thread nD τ).loc main_arg1) (ix2 0 k) := by
  have h : V m c main_v11 (ix2 0 k) = m ((c : Thread nD τ).loc main_arg1) (ix2 0 k) := by
    rw [entry_g]; pointwise
  rw [← h]
  blk_ext [iblk, idx t]

/-- The weights' block at a grid point: all of them. -/
theorem blk_w (t : Fin cfg0.N) (k : Fin 1024) (e : Fin 5248) :
    (iblk m c 2 t : Vec Ideal S1024x5248 .bf16) (ix2 k e) = wPerm (m ((c : Thread nD τ).loc main_arg2)) (ix2 k e) := by
  rw [← entry_w]
  blk_ext [iblk, idx t]

/-- A block's normalised row is the array's. -/
theorem blkN_eq (t : Fin cfg0.N) (i : Fin 256) (k : Fin 1024) :
    blkN (iblk m c 0 t) (iblk m c 1 t) i k
      = rowN (m ((c : Thread nD τ).loc main_arg0)) (m ((c : Thread nD τ).loc main_arg1)) (rowAt t i) k := by
  unfold blkN rowN
  exact congrArg₂ (· * ·) (congrArg₂ (· * ·) (blk_x m c t i k) (congrArg (fun s => Ideal.rsqrt (Ideal.div s _ + _))
    (Finset.sum_congr rfl fun x _ => congrArg₂ (· * ·) (blk_x m c t i x) (blk_x m c t i x)))) (blk_g m c t k)

/-- The product's entries on the argument arrays. -/
abbrev argP := projAt (m ((c : Thread nD τ).loc main_arg0)) (m ((c : Thread nD τ).loc main_arg1))
  (m ((c : Thread nD τ).loc main_arg2))
/-- The gates on the argument arrays. -/
abbrev argG := gateAt (m ((c : Thread nD τ).loc main_arg0)) (m ((c : Thread nD τ).loc main_arg1))
  (m ((c : Thread nD τ).loc main_arg2))

/-- A block's product with a column that stands at `e'` in the argument. -/
theorem blkP_eq (t : Fin cfg0.N) (i : Fin 256) (e : Fin 5248) (e' : Fin 5144)
    (h : ∀ k, wPerm (m ((c : Thread nD τ).loc main_arg2)) (ix2 k e) = m ((c : Thread nD τ).loc main_arg2) (ix3 0 k e')) :
    blkP (iblk m c 0 t) (iblk m c 1 t) (iblk m c 2 t) i e = argP m c (rowAt t i) e' := by
  unfold blkP argP projAt
  exact Finset.sum_congr rfl fun k _ => congrArg₂ (· * ·) (blkN_eq m c t i k) ((blk_w m c t k e).trans (h k))

/-- A block's product with a column of the gates. -/
theorem blkG_eq (t : Fin cfg0.N) (i : Fin 256) (j : Fin 128) :
    blkP (iblk m c 0 t) (iblk m c 1 t) (iblk m c 2 t) i ⟨3072 + j.val, by omega⟩ = argG m c (rowAt t i) j := by
  unfold argG gateAt
  split
  · next h => exact blkP_eq m c t i _ _ fun k => (wPerm_gate ..).trans (dif_pos h)
  · next h =>
    unfold blkP
    refine Finset.sum_eq_zero fun k _ => ?_
    exact (congrArg (_ * ·) ((blk_w m c t k _).trans ((wPerm_gate ..).trans (dif_neg h)))).trans (mul_zero _)

/-- Entry `j` of row `n` of `pa`. -/
def val3 (n : Fin 16384) (j : Fin 1792) : EReal := argP m c n ⟨j.val, by omega⟩
/-- The array of `pa`. -/
def arr3 (y : S16384x1792.Idx) : EReal := val3 m c (y 0) (y 1)
/-- What a grid point leaves of it. -/
theorem after3 (t : Fin cfg0.N) (i : Fin 256) (j : Fin 1792) :
    out0_3 (iblk m c 0 t) (iblk m c 1 t) (iblk m c 2 t) (ix2 i j) = val3 m c (rowAt t i) j :=
  (out3_apply ..).trans (blkP_eq m c t _ _ _ fun k => wPerm_low _ _ _ (by dsimp only; omega))
/-- The same, as a part of the array. -/
theorem left3 (t : Fin cfg0.N) : (dats m 0 c).after 3 t = (fun y => arr3 m c (ix2 (rowAt t (y 0)) (y 1)) : S256x1792.Idx → EReal) :=
  (after0_3 m c t).trans (funext fun y =>
    (congrArg (out0_3 (iblk m c 0 t) (iblk m c 1 t) (iblk m c 2 t)) (eq_ix2 y)).trans (after3 m c t _ _))
/-- Where its block lies. -/
theorem emb3 (t : Fin cfg0.N) (y : S256x1792.Idx) : (((cfg0.win 3).blk t).view.emb y : S16384x1792.Idx) = ix2 (rowAt t (y 0)) (y 1) := by
  blk_ext [idx t, rowAt_val]
  rfl
/-- The array after the run. -/
theorem res3 : (dats m 0 c).arrAt 3 cfg0.N = arr3 m c := by
  refine (dats m 0 c).arrAt_eq_of_covers 3 _ (by decide +kernel) fun t hf y => ?_
  rw [left3]
  exact congrArg (arr3 m c) (emb3 t y).symm

/-- Entry `j` of row `n` of `q`, scaled by an eighth. -/
def val4 (n : Fin 16384) (j : Fin 512) : EReal := argP m c n ⟨1792 + j.val, by omega⟩ * Ideal.ofBits FTy.f32 1040187392#32
/-- The array of `q`, scaled by an eighth. -/
def arr4 (y : S16384x512.Idx) : EReal := val4 m c (y 0) (y 1)
/-- What a grid point leaves of it. -/
theorem after4 (t : Fin cfg0.N) (i : Fin 256) (j : Fin 512) :
    out0_4 (iblk m c 0 t) (iblk m c 1 t) (iblk m c 2 t) (ix2 i j) = val4 m c (rowAt t i) j :=
  (out4_apply ..).trans (congrArg (· * _) (blkP_eq m c t _ _ _ fun k => wPerm_low _ _ _ (by dsimp only; omega)))
/-- The same, as a part of the array. -/
theorem left4 (t : Fin cfg0.N) : (dats m 0 c).after 4 t = (fun y => arr4 m c (ix2 (rowAt t (y 0)) (y 1)) : S256x512.Idx → EReal) :=
  (after0_4 m c t).trans (funext fun y =>
    (congrArg (out0_4 (iblk m c 0 t) (iblk m c 1 t) (iblk m c 2 t)) (eq_ix2 y)).trans (after4 m c t _ _))
/-- Where its block lies. -/
theorem emb4 (t : Fin cfg0.N) (y : S256x512.Idx) : (((cfg0.win 4).blk t).view.emb y : S16384x512.Idx) = ix2 (rowAt t (y 0)) (y 1) := by
  blk_ext [idx t, rowAt_val]
  rfl
/-- The array after the run. -/
theorem res4 : (dats m 0 c).arrAt 4 cfg0.N = arr4 m c := by
  refine (dats m 0 c).arrAt_eq_of_covers 4 _ (by decide +kernel) fun t hf y => ?_
  rw [left4]
  exact congrArg (arr4 m c) (emb4 t y).symm

/-- Entry `j` of row `n` of `kvc`. -/
def val5 (n : Fin 16384) (j : Fin 256) : EReal := argP m c n ⟨2304 + j.val, by omega⟩
/-- The array of `kvc`. -/
def arr5 (y : S16384x256.Idx) : EReal := val5 m c (y 0) (y 1)
/-- What a grid point leaves of it. -/
theorem after5 (t : Fin cfg0.N) (i : Fin 256) (j : Fin 256) :
    out0_5 (iblk m c 0 t) (iblk m c 1 t) (iblk m c 2 t) (ix2 i j) = val5 m c (rowAt t i) j :=
  (out5_apply ..).trans (blkP_eq m c t _ _ _ fun k => wPerm_low _ _ _ (by dsimp only; omega))
/-- The same, as a part of the array. -/
theorem left5 (t : Fin cfg0.N) : (dats m 0 c).after 5 t = (fun y => arr5 m c (ix2 (rowAt t (y 0)) (y 1)) : S256x256.Idx → EReal) :=
  (after0_5 m c t).trans (funext fun y =>
    (congrArg (out0_5 (iblk m c 0 t) (iblk m c 1 t) (iblk m c 2 t)) (eq_ix2 y)).trans (after5 m c t _ _))
/-- Where its block lies. -/
theorem emb5 (t : Fin cfg0.N) (y : S256x256.Idx) : (((cfg0.win 5).blk t).view.emb y : S16384x256.Idx) = ix2 (rowAt t (y 0)) (y 1) := by
  blk_ext [idx t, rowAt_val]
  rfl
/-- The array after the run. -/
theorem res5 : (dats m 0 c).arrAt 5 cfg0.N = arr5 m c := by
  refine (dats m 0 c).arrAt_eq_of_covers 5 _ (by decide +kernel) fun t hf y => ?_
  rw [left5]
  exact congrArg (arr5 m c) (emb5 t y).symm

/-- Entry `j` of row `n` of `kvc` once more. -/
def val6 (n : Fin 16384) (j : Fin 256) : EReal := argP m c n ⟨2304 + j.val, by omega⟩
/-- The array of `kvc` once more. -/
def arr6 (y : S16384x256.Idx) : EReal := val6 m c (y 0) (y 1)
/-- What a grid point leaves of it. -/
theorem after6 (t : Fin cfg0.N) (i : Fin 256) (j : Fin 256) :
    out0_6 (iblk m c 0 t) (iblk m c 1 t) (iblk m c 2 t) (ix2 i j) = val6 m c (rowAt t i) j :=
  (out6_apply ..).trans (blkP_eq m c t _ _ _ fun k => wPerm_low _ _ _ (by dsimp only; omega))
/-- The same, as a part of the array. -/
theorem left6 (t : Fin cfg0.N) : (dats m 0 c).after 6 t = (fun y => arr6 m c (ix2 (rowAt t (y 0)) (y 1)) : S256x256.Idx → EReal) :=
  (after0_6 m c t).trans (funext fun y =>
    (congrArg (out0_6 (iblk m c 0 t) (iblk m c 1 t) (iblk m c 2 t)) (eq_ix2 y)).trans (after6 m c t _ _))
/-- Where its block lies. -/
theorem emb6 (t : Fin cfg0.N) (y : S256x256.Idx) : (((cfg0.win 6).blk t).view.emb y : S16384x256.Idx) = ix2 (rowAt t (y 0)) (y 1) := by
  blk_ext [idx t, rowAt_val]
  rfl
/-- The array after the run. -/
theorem res6 : (dats m 0 c).arrAt 6 cfg0.N = arr6 m c := by
  refine (dats m 0 c).arrAt_eq_of_covers 6 _ (by decide +kernel) fun t hf y => ?_
  rw [left6]
  exact congrArg (arr6 m c) (emb6 t y).symm

/-- Entry `j` of row `n` of `kvc` transposed. -/
def val7 (n : Fin 16384) (j : Fin 256) : EReal := argP m c n ⟨2304 + j.val, by omega⟩
/-- The array of `kvc` transposed. -/
def arr7 (y : S256x16384.Idx) : EReal := val7 m c (y 1) (y 0)
/-- What a grid point leaves of it. -/
theorem after7 (t : Fin cfg0.N) (i : Fin 256) (j : Fin 256) :
    out0_7 (iblk m c 0 t) (iblk m c 1 t) (iblk m c 2 t) (ix2 j i) = val7 m c (rowAt t i) j :=
  (out7_apply ..).trans (blkP_eq m c t _ _ _ fun k => wPerm_low _ _ _ (by dsimp only; omega))
/-- The same, as a part of the array. -/
theorem left7 (t : Fin cfg0.N) : (dats m 0 c).after 7 t = (fun y => arr7 m c (ix2 (y 0) (rowAt t (y 1))) : S256x256.Idx → EReal) :=
  (after0_7 m c t).trans (funext fun y =>
    (congrArg (out0_7 (iblk m c 0 t) (iblk m c 1 t) (iblk m c 2 t)) (eq_ix2 y)).trans (after7 m c t _ _))
/-- Where its block lies. -/
theorem emb7 (t : Fin cfg0.N) (y : S256x256.Idx) : (((cfg0.win 7).blk t).view.emb y : S256x16384.Idx) = ix2 (y 0) (rowAt t (y 1)) := by
  blk_ext [idx t, rowAt_val]
  rfl
/-- The array after the run. -/
theorem res7 : (dats m 0 c).arrAt 7 cfg0.N = arr7 m c := by
  refine (dats m 0 c).arrAt_eq_of_covers 7 _ (by decide +kernel) fun t hf y => ?_
  rw [left7]
  exact congrArg (arr7 m c) (emb7 t y).symm

/-- Entry `j` of row `n` of `kvs`. -/
def val8 (n : Fin 16384) (j : Fin 256) : EReal := argP m c n ⟨2560 + j.val, by omega⟩
/-- The array of `kvs`. -/
def arr8 (y : S16384x256.Idx) : EReal := val8 m c (y 0) (y 1)
/-- What a grid point leaves of it. -/
theorem after8 (t : Fin cfg0.N) (i : Fin 256) (j : Fin 256) :
    out0_8 (iblk m c 0 t) (iblk m c 1 t) (iblk m c 2 t) (ix2 i j) = val8 m c (rowAt t i) j :=
  (out8_apply ..).trans (blkP_eq m c t _ _ _ fun k => wPerm_low _ _ _ (by dsimp only; omega))
/-- The same, as a part of the array. -/
theorem left8 (t : Fin cfg0.N) : (dats m 0 c).after 8 t = (fun y => arr8 m c (ix2 (rowAt t (y 0)) (y 1)) : S256x256.Idx → EReal) :=
  (after0_8 m c t).trans (funext fun y =>
    (congrArg (out0_8 (iblk m c 0 t) (iblk m c 1 t) (iblk m c 2 t)) (eq_ix2 y)).trans (after8 m c t _ _))
/-- Where its block lies. -/
theorem emb8 (t : Fin cfg0.N) (y : S256x256.Idx) : (((cfg0.win 8).blk t).view.emb y : S16384x256.Idx) = ix2 (rowAt t (y 0)) (y 1) := by
  blk_ext [idx t, rowAt_val]
  rfl
/-- The array after the run. -/
theorem res8 : (dats m 0 c).arrAt 8 cfg0.N = arr8 m c := by
  refine (dats m 0 c).arrAt_eq_of_covers 8 _ (by decide +kernel) fun t hf y => ?_
  rw [left8]
  exact congrArg (arr8 m c) (emb8 t y).symm

/-- Entry `j` of row `n` of `kvs` transposed. -/
def val9 (n : Fin 16384) (j : Fin 256) : EReal := argP m c n ⟨2560 + j.val, by omega⟩
/-- The array of `kvs` transposed. -/
def arr9 (y : S256x16384.Idx) : EReal := val9 m c (y 1) (y 0)
/-- What a grid point leaves of it. -/
theorem after9 (t : Fin cfg0.N) (i : Fin 256) (j : Fin 256) :
    out0_9 (iblk m c 0 t) (iblk m c 1 t) (iblk m c 2 t) (ix2 j i) = val9 m c (rowAt t i) j :=
  (out9_apply ..).trans (blkP_eq m c t _ _ _ fun k => wPerm_low _ _ _ (by dsimp only; omega))
/-- The same, as a part of the array. -/
theorem left9 (t : Fin cfg0.N) : (dats m 0 c).after 9 t = (fun y => arr9 m c (ix2 (y 0) (rowAt t (y 1))) : S256x256.Idx → EReal) :=
  (after0_9 m c t).trans (funext fun y =>
    (congrArg (out0_9 (iblk m c 0 t) (iblk m c 1 t) (iblk m c 2 t)) (eq_ix2 y)).trans (after9 m c t _ _))
/-- Where its block lies. -/
theorem emb9 (t : Fin cfg0.N) (y : S256x256.Idx) : (((cfg0.win 9).blk t).view.emb y : S256x16384.Idx) = ix2 (y 0) (rowAt t (y 1)) := by
  blk_ext [idx t, rowAt_val]
  rfl
/-- The array after the run. -/
theorem res9 : (dats m 0 c).arrAt 9 cfg0.N = arr9 m c := by
  refine (dats m 0 c).arrAt_eq_of_covers 9 _ (by decide +kernel) fun t hf y => ?_
  rw [left9]
  exact congrArg (arr9 m c) (emb9 t y).symm

/-- Entry `j` of row `n` of `kvw`. -/
def val10 (n : Fin 16384) (j : Fin 256) : EReal := argP m c n ⟨2816 + j.val, by omega⟩
/-- The array of `kvw`. -/
def arr10 (y : S16384x256.Idx) : EReal := val10 m c (y 0) (y 1)
/-- What a grid point leaves of it. -/
theorem after10 (t : Fin cfg0.N) (i : Fin 256) (j : Fin 256) :
    out0_10 (iblk m c 0 t) (iblk m c 1 t) (iblk m c 2 t) (ix2 i j) = val10 m c (rowAt t i) j :=
  (out10_apply ..).trans (blkP_eq m c t _ _ _ fun k => wPerm_low _ _ _ (by dsimp only; omega))
/-- The same, as a part of the array. -/
theorem left10 (t : Fin cfg0.N) : (dats m 0 c).after 10 t = (fun y => arr10 m c (ix2 (rowAt t (y 0)) (y 1)) : S256x256.Idx → EReal) :=
  (after0_10 m c t).trans (funext fun y =>
    (congrArg (out0_10 (iblk m c 0 t) (iblk m c 1 t) (iblk m c 2 t)) (eq_ix2 y)).trans (after10 m c t _ _))
/-- Where its block lies. -/
theorem emb10 (t : Fin cfg0.N) (y : S256x256.Idx) : (((cfg0.win 10).blk t).view.emb y : S16384x256.Idx) = ix2 (rowAt t (y 0)) (y 1) := by
  blk_ext [idx t, rowAt_val]
  rfl
/-- The array after the run. -/
theorem res10 : (dats m 0 c).arrAt 10 cfg0.N = arr10 m c := by
  refine (dats m 0 c).arrAt_eq_of_covers 10 _ (by decide +kernel) fun t hf y => ?_
  rw [left10]
  exact congrArg (arr10 m c) (emb10 t y).symm

/-- Entry `j` of row `n` of `kvw` transposed. -/
def val11 (n : Fin 16384) (j : Fin 256) : EReal := argP m c n ⟨2816 + j.val, by omega⟩
/-- The array of `kvw` transposed. -/
def arr11 (y : S256x16384.Idx) : EReal := val11 m c (y 1) (y 0)
/-- What a grid point leaves of it. -/
theorem after11 (t : Fin cfg0.N) (i : Fin 256) (j : Fin 256) :
    out0_11 (iblk m c 0 t) (iblk m c 1 t) (iblk m c 2 t) (ix2 j i) = val11 m c (rowAt t i) j :=
  (out11_apply ..).trans (blkP_eq m c t _ _ _ fun k => wPerm_low _ _ _ (by dsimp only; omega))
/-- The same, as a part of the array. -/
theorem left11 (t : Fin cfg0.N) : (dats m 0 c).after 11 t = (fun y => arr11 m c (ix2 (y 0) (rowAt t (y 1))) : S256x256.Idx → EReal) :=
  (after0_11 m c t).trans (funext fun y =>
    (congrArg (out0_11 (iblk m c 0 t) (iblk m c 1 t) (iblk m c 2 t)) (eq_ix2 y)).trans (after11 m c t _ _))
/-- Where its block lies. -/
theorem emb11 (t : Fin cfg0.N) (y : S256x256.Idx) : (((cfg0.win 11).blk t).view.emb y : S256x16384.Idx) = ix2 (y 0) (rowAt t (y 1)) := by
  blk_ext [idx t, rowAt_val]
  rfl
/-- The array after the run. -/
theorem res11 : (dats m 0 c).arrAt 11 cfg0.N = arr11 m c := by
  refine (dats m 0 c).arrAt_eq_of_covers 11 _ (by decide +kernel) fun t hf y => ?_
  rw [left11]
  exact congrArg (arr11 m c) (emb11 t y).symm

/-- Entry `j` of row `n` of the gates. -/
def val12 (n : Fin 16384) (j : Fin 128) : EReal := argG m c n j
/-- The array of the gates. -/
def arr12 (y : S16384x128.Idx) : EReal := val12 m c (y 0) (y 1)
/-- What a grid point leaves of it. -/
theorem after12 (t : Fin cfg0.N) (i : Fin 256) (j : Fin 128) :
    out0_12 (iblk m c 0 t) (iblk m c 1 t) (iblk m c 2 t) (ix2 i j) = val12 m c (rowAt t i) j :=
  (out12_apply ..).trans (blkG_eq m c t _ _)
/-- The same, as a part of the array. -/
theorem left12 (t : Fin cfg0.N) : (dats m 0 c).after 12 t = (fun y => arr12 m c (ix2 (rowAt t (y 0)) (y 1)) : S256x128.Idx → EReal) :=
  (after0_12 m c t).trans (funext fun y =>
    (congrArg (out0_12 (iblk m c 0 t) (iblk m c 1 t) (iblk m c 2 t)) (eq_ix2 y)).trans (after12 m c t _ _))
/-- Where its block lies. -/
theorem emb12 (t : Fin cfg0.N) (y : S256x128.Idx) : (((cfg0.win 12).blk t).view.emb y : S16384x128.Idx) = ix2 (rowAt t (y 0)) (y 1) := by
  blk_ext [idx t, rowAt_val]
  rfl
/-- The array after the run. -/
theorem res12 : (dats m 0 c).arrAt 12 cfg0.N = arr12 m c := by
  refine (dats m 0 c).arrAt_eq_of_covers 12 _ (by decide +kernel) fun t hf y => ?_
  rw [left12]
  exact congrArg (arr12 m c) (emb12 t y).symm

/-- Entry `j` of row `n` of `mg`. -/
def val13 (n : Fin 16384) (j : Fin 2048) : EReal := argP m c n ⟨3096 + j.val, by omega⟩
/-- The array of `mg`. -/
def arr13 (y : S16384x2048.Idx) : EReal := val13 m c (y 0) (y 1)
/-- What a grid point leaves of it. -/
theorem after13 (t : Fin cfg0.N) (i : Fin 256) (j : Fin 2048) :
    out0_13 (iblk m c 0 t) (iblk m c 1 t) (iblk m c 2 t) (ix2 i j) = val13 m c (rowAt t i) j :=
  (out13_apply ..).trans (blkP_eq m c t _ _ _ fun k => wPerm_high ..)
/-- The same, as a part of the array. -/
theorem left13 (t : Fin cfg0.N) : (dats m 0 c).after 13 t = (fun y => arr13 m c (ix2 (rowAt t (y 0)) (y 1)) : S256x2048.Idx → EReal) :=
  (after0_13 m c t).trans (funext fun y =>
    (congrArg (out0_13 (iblk m c 0 t) (iblk m c 1 t) (iblk m c 2 t)) (eq_ix2 y)).trans (after13 m c t _ _))
/-- Where its block lies. -/
theorem emb13 (t : Fin cfg0.N) (y : S256x2048.Idx) : (((cfg0.win 13).blk t).view.emb y : S16384x2048.Idx) = ix2 (rowAt t (y 0)) (y 1) := by
  blk_ext [idx t, rowAt_val]
  rfl
/-- The array after the run. -/
theorem res13 : (dats m 0 c).arrAt 13 cfg0.N = arr13 m c := by
  refine (dats m 0 c).arrAt_eq_of_covers 13 _ (by decide +kernel) fun t hf y => ?_
  rw [left13]
  exact congrArg (arr13 m c) (emb13 t y).symm

end Cert.ProjIdeal.Proj
-- ==== Proof.Proj.Ref.lean ====
module

public import proofs.«01_k».proof.Proof.Gen.ProjRefIdeal.Run
public import proofs.«01_k».proof.Proof.Proj.Value
public import Idealize.ShloMosaic.Lib.Pointwise

@[expose] public section
set_option maxHeartbeats 400000
set_option maxRecDepth 4096
noncomputable section
/-! # The input projection: the reference's results -/
namespace Cert.ProjRefIdeal.Proj
open Cert.ProjRefIdeal Cert.ProjRefIdeal.Gen Idealize.ShloMosaic Idealize.ShloMosaic.TcCoe Idealize.ShloMosaic.Tactic Cert.ProjIdeal.Proj

/-- The reference's product of the normalised rows and the weights, as one term of its arguments. -/
abbrev refP (x : FVec Ideal S1x16384x1024 .f32) (g : FVec Ideal S1x1024 .f32) (w : FVec Ideal S1x1024x5144 .f32) :
    FVec Ideal S16384x5144 .f32 :=
  shapeCast S16384x5144 (Host.dotGeneral dot_S1x16384x1024_S1024x5144_S1x16384x5144_2_0_01_1_n_n none (mulf (mulf x (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf x x) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 (shapeCast _ g shapeCasts_S1x1024_S1024)))) (shapeCast _ w shapeCasts_S1x1024x5144_S1024x5144)) shapeCasts_S1x16384x5144_S16384x5144

/-- The reference's product, entry by entry. -/
theorem ref_proj (x : FVec Ideal S1x16384x1024 .f32) (g : FVec Ideal S1x1024 .f32) (w : FVec Ideal S1x1024x5144 .f32)
    (n : Fin 16384) (e : Fin 5144) : refP x g w (ix2 n e) = projAt x g w n e := by
  unfold refP projAt rowN
  pointwise

/-- The reference's result pa. -/
theorem ref3 (P : FVec Ideal S16384x5144 .f32) (p : Fin 16384 → Fin 5144 → EReal) (hP : ∀ n e, P (ix2 n e) = p n e) :
    (extractStridedSlice S16384x1792 ![0, 0] P slices_S16384x5144_S16384x1792_0_0 : S16384x1792.Idx → EReal)
      = fun y => p (y 0) ⟨(y 1).val, by have := (y 1).isLt; simp at this; omega⟩ := by
  funext y
  obtain ⟨i, j, rfl⟩ : ∃ (i : Fin 16384) (j : Fin 1792), y = ix2 i j := ⟨y 0, y 1, eq_ix2 y⟩
  refine Eq.trans ?_ (hP ..)
  pointwise

/-- The reference's result q, scaled by an eighth. -/
theorem ref4 (P : FVec Ideal S16384x5144 .f32) (p : Fin 16384 → Fin 5144 → EReal) (hP : ∀ n e, P (ix2 n e) = p n e) :
    (truncf .bf16 (mulf (extractStridedSlice S16384x512 ![0, 1792] P slices_S16384x5144_S16384x512_0_1792) (broadcastInDim S16384x512 ![] bcast_S_S16384x512 (constant S_ .f32 0x3E000000#32))) bitsLt_bf16_f32 : S16384x512.Idx → EReal)
      = fun y => p (y 0) ⟨1792 + (y 1).val, by have := (y 1).isLt; simp at this; omega⟩ * Ideal.ofBits FTy.f32 1040187392#32 := by
  funext y
  obtain ⟨i, j, rfl⟩ : ∃ (i : Fin 16384) (j : Fin 512), y = ix2 i j := ⟨y 0, y 1, eq_ix2 y⟩
  refine Eq.trans ?_ (congrArg (· * _) (hP ..))
  pointwise

/-- The reference's result kvc. -/
theorem ref5 (P : FVec Ideal S16384x5144 .f32) (p : Fin 16384 → Fin 5144 → EReal) (hP : ∀ n e, P (ix2 n e) = p n e) :
    (extractStridedSlice S16384x256 ![0, 2304] P slices_S16384x5144_S16384x256_0_2304 : S16384x256.Idx → EReal)
      = fun y => p (y 0) ⟨2304 + (y 1).val, by have := (y 1).isLt; simp at this; omega⟩ := by
  funext y
  obtain ⟨i, j, rfl⟩ : ∃ (i : Fin 16384) (j : Fin 256), y = ix2 i j := ⟨y 0, y 1, eq_ix2 y⟩
  refine Eq.trans ?_ (hP ..)
  pointwise

/-- The reference's result kvc once more. -/
theorem ref6 (P : FVec Ideal S16384x5144 .f32) (p : Fin 16384 → Fin 5144 → EReal) (hP : ∀ n e, P (ix2 n e) = p n e) :
    (truncf .bf16 (extractStridedSlice S16384x256 ![0, 2304] P slices_S16384x5144_S16384x256_0_2304) bitsLt_bf16_f32 : S16384x256.Idx → EReal)
      = fun y => p (y 0) ⟨2304 + (y 1).val, by have := (y 1).isLt; simp at this; omega⟩ := by
  funext y
  obtain ⟨i, j, rfl⟩ : ∃ (i : Fin 16384) (j : Fin 256), y = ix2 i j := ⟨y 0, y 1, eq_ix2 y⟩
  refine Eq.trans ?_ (hP ..)
  pointwise

/-- The reference's result kvc transposed. -/
theorem ref7 (P : FVec Ideal S16384x5144 .f32) (p : Fin 16384 → Fin 5144 → EReal) (hP : ∀ n e, P (ix2 n e) = p n e) :
    (transpose S256x16384 [1, 0] (extractStridedSlice S16384x256 ![0, 2304] P slices_S16384x5144_S16384x256_0_2304) transposes_S16384x256_S256x16384_1_0 : S256x16384.Idx → EReal)
      = fun y => p (y 1) ⟨2304 + (y 0).val, by have := (y 0).isLt; simp at this; omega⟩ := by
  funext y
  obtain ⟨i, j, rfl⟩ : ∃ (i : Fin 256) (j : Fin 16384), y = ix2 i j := ⟨y 0, y 1, eq_ix2 y⟩
  refine Eq.trans ?_ (hP ..)
  pointwise

/-- The reference's result kvs. -/
theorem ref8 (P : FVec Ideal S16384x5144 .f32) (p : Fin 16384 → Fin 5144 → EReal) (hP : ∀ n e, P (ix2 n e) = p n e) :
    (truncf .bf16 (extractStridedSlice S16384x256 ![0, 2560] P slices_S16384x5144_S16384x256_0_2560) bitsLt_bf16_f32 : S16384x256.Idx → EReal)
      = fun y => p (y 0) ⟨2560 + (y 1).val, by have := (y 1).isLt; simp at this; omega⟩ := by
  funext y
  obtain ⟨i, j, rfl⟩ : ∃ (i : Fin 16384) (j : Fin 256), y = ix2 i j := ⟨y 0, y 1, eq_ix2 y⟩
  refine Eq.trans ?_ (hP ..)
  pointwise

/-- The reference's result kvs transposed. -/
theorem ref9 (P : FVec Ideal S16384x5144 .f32) (p : Fin 16384 → Fin 5144 → EReal) (hP : ∀ n e, P (ix2 n e) = p n e) :
    (transpose S256x16384 [1, 0] (extractStridedSlice S16384x256 ![0, 2560] P slices_S16384x5144_S16384x256_0_2560) transposes_S16384x256_S256x16384_1_0 : S256x16384.Idx → EReal)
      = fun y => p (y 1) ⟨2560 + (y 0).val, by have := (y 0).isLt; simp at this; omega⟩ := by
  funext y
  obtain ⟨i, j, rfl⟩ : ∃ (i : Fin 256) (j : Fin 16384), y = ix2 i j := ⟨y 0, y 1, eq_ix2 y⟩
  refine Eq.trans ?_ (hP ..)
  pointwise

/-- The reference's result kvw. -/
theorem ref10 (P : FVec Ideal S16384x5144 .f32) (p : Fin 16384 → Fin 5144 → EReal) (hP : ∀ n e, P (ix2 n e) = p n e) :
    (truncf .bf16 (extractStridedSlice S16384x256 ![0, 2816] P slices_S16384x5144_S16384x256_0_2816) bitsLt_bf16_f32 : S16384x256.Idx → EReal)
      = fun y => p (y 0) ⟨2816 + (y 1).val, by have := (y 1).isLt; simp at this; omega⟩ := by
  funext y
  obtain ⟨i, j, rfl⟩ : ∃ (i : Fin 16384) (j : Fin 256), y = ix2 i j := ⟨y 0, y 1, eq_ix2 y⟩
  refine Eq.trans ?_ (hP ..)
  pointwise

/-- The reference's result kvw transposed. -/
theorem ref11 (P : FVec Ideal S16384x5144 .f32) (p : Fin 16384 → Fin 5144 → EReal) (hP : ∀ n e, P (ix2 n e) = p n e) :
    (transpose S256x16384 [1, 0] (extractStridedSlice S16384x256 ![0, 2816] P slices_S16384x5144_S16384x256_0_2816) transposes_S16384x256_S256x16384_1_0 : S256x16384.Idx → EReal)
      = fun y => p (y 1) ⟨2816 + (y 0).val, by have := (y 0).isLt; simp at this; omega⟩ := by
  funext y
  obtain ⟨i, j, rfl⟩ : ∃ (i : Fin 256) (j : Fin 16384), y = ix2 i j := ⟨y 0, y 1, eq_ix2 y⟩
  refine Eq.trans ?_ (hP ..)
  pointwise

/-- The reference's result the gates. -/
theorem ref12 (P : FVec Ideal S16384x5144 .f32) (p : Fin 16384 → Fin 5144 → EReal) (hP : ∀ n e, P (ix2 n e) = p n e) :
    (pad S16384x128 ![0, 0] ![0, 104] ![0, 0] (extractStridedSlice S16384x24 ![0, 3072] P slices_S16384x5144_S16384x24_0_3072) (sitofp (F := Ideal) .f32 (constantI S_ 32 0#32)) pads_S16384x24_S16384x128_000_01040 h_S_ : S16384x128.Idx → EReal)
      = fun y => if h : (y 1).val < 24 then p (y 0) ⟨3072 + (y 1).val, by omega⟩ else 0 := by
  funext y
  obtain ⟨i, j, rfl⟩ : ∃ (i : Fin 16384) (j : Fin 128), y = ix2 i j := ⟨y 0, y 1, eq_ix2 y⟩
  pointwise
  simp only [pad_zero, hP]

/-- The reference's result mg. -/
theorem ref13 (P : FVec Ideal S16384x5144 .f32) (p : Fin 16384 → Fin 5144 → EReal) (hP : ∀ n e, P (ix2 n e) = p n e) :
    (extractStridedSlice S16384x2048 ![0, 3096] P slices_S16384x5144_S16384x2048_0_3096 : S16384x2048.Idx → EReal)
      = fun y => p (y 0) ⟨3096 + (y 1).val, by have := (y 1).isLt; simp at this; omega⟩ := by
  funext y
  obtain ⟨i, j, rfl⟩ : ∃ (i : Fin 16384) (j : Fin 2048), y = ix2 i j := ⟨y 0, y 1, eq_ix2 y⟩
  refine Eq.trans ?_ (hP ..)
  pointwise

end Cert.ProjRefIdeal.Proj
-- ==== Proof.Merge.Ideal.RunA.lean ====
/- The merge and feed-forward call, ideal: the run of the body at the first grid point of a sequence. As in the generated module of the same
   name, but for the limit on how long the two runs may take. -/
module

public import proofs.«01_k».proof.Proof.Gen.MergeIdeal.Frame.Runs

@[expose] public section

set_option maxRecDepth 16384

noncomputable section

namespace Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S8x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x5632 .bf16) (harg16 : arg16.IsWhole) (arg17 : Memref sig .tc .vmem S3x5632 .f32) (harg17 : arg17.IsWhole) (arg18 : Memref sig .tc .vmem S1x5632 .f32) (harg18 : arg18.IsWhole) (arg19 : Memref sig .tc .vmem S2816x1024 .bf16) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S256x1024 .f32) (harg24 : arg24.IsWhole) (arg25 : Memref sig .tc .vmem S8x5632 .f32) (harg25 : arg25.IsWhole) (arg26 : Memref sig .tc .vmem S8x5632 .f32) (harg26 : arg26.IsWhole) (hc0 : cond0_0 i)
    (x0 : Vec F S256x1024 .f32) (x1 : Vec F S256x512 .f32) (x2 : Vec F S256x512 .f32) (x3 : Vec F S256x512 .f32) (x4 : Vec F S256x512 .f32) (x5 : Vec F S256x2048 .f32) (x6 : Vec F S256x256 .f32) (x7 : Vec F S8x128 .f32) (x8 : Vec F S1x512 .f32) (x9 : Vec F S1x512 .f32) (x10 : Vec F S512x512 .bf16) (x11 : Vec F S512x1024 .bf16) (x12 : Vec F S512x1024 .bf16) (x13 : Vec F S1024x1024 .bf16) (x14 : Vec F S1x1024 .f32) (x15 : Vec F S1024x5632 .bf16) (x16 : Vec F S3x5632 .f32) (x17 : Vec F S1x5632 .f32) (x18 : Vec F S2816x1024 .bf16) (x19 : Vec F S1x1024 .f32) (x20 : Vec F S256x1024 .bf16) (x21 : Vec F S1024x1024 .bf16) (x22 : Vec F S1x1024 .f32) :
    Σ' (L23 : List (View.Piece (Elt F) S256x1024 .f32)), Σ' (L24 : List (View.Piece (Elt F) S8x5632 .f32)), { LS0 : List (View.Piece (Elt F) S8x5632 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f LS0)) -∗ K ⟨⟩))
          ⊢ wp frame (wpE (defs₀ (F := F)) Variants.none c none) E (cc0_merge_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, fun E K => ?run⟩
  case run =>
    simp only [cc0_merge_ffn_eq_skeleton]; unfold cc0_merge_ffn_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]; · iexists _; iexact H23
    isplitl [H24]; · iexists _; iexact H24
    iexists _; iexact HS0

end Cert.MergeIdeal.Gen

end
-- ==== Proof.Merge.Ideal.RunB.lean ====
/- The merge and feed-forward call, ideal: the run of the body at the other grid points. As in the generated module of the same
   name, but for the limit on how long the two runs may take. -/
module

public import proofs.«01_k».proof.Proof.Merge.Ideal.RunA

@[expose] public section

set_option maxRecDepth 16384

noncomputable section

namespace Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first) IN CASE B (`scf.if` 0 not taken: points 1, 2, … 63: 63 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S8x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x5632 .bf16) (harg16 : arg16.IsWhole) (arg17 : Memref sig .tc .vmem S3x5632 .f32) (harg17 : arg17.IsWhole) (arg18 : Memref sig .tc .vmem S1x5632 .f32) (harg18 : arg18.IsWhole) (arg19 : Memref sig .tc .vmem S2816x1024 .bf16) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S256x1024 .f32) (harg24 : arg24.IsWhole) (arg25 : Memref sig .tc .vmem S8x5632 .f32) (harg25 : arg25.IsWhole) (arg26 : Memref sig .tc .vmem S8x5632 .f32) (harg26 : arg26.IsWhole) (hc0 : ¬cond0_0 i)
    (x0 : Vec F S256x1024 .f32) (x1 : Vec F S256x512 .f32) (x2 : Vec F S256x512 .f32) (x3 : Vec F S256x512 .f32) (x4 : Vec F S256x512 .f32) (x5 : Vec F S256x2048 .f32) (x6 : Vec F S256x256 .f32) (x7 : Vec F S8x128 .f32) (x8 : Vec F S1x512 .f32) (x9 : Vec F S1x512 .f32) (x10 : Vec F S512x512 .bf16) (x11 : Vec F S512x1024 .bf16) (x12 : Vec F S512x1024 .bf16) (x13 : Vec F S1024x1024 .bf16) (x14 : Vec F S1x1024 .f32) (x15 : Vec F S1024x5632 .bf16) (x16 : Vec F S3x5632 .f32) (x17 : Vec F S1x5632 .f32) (x18 : Vec F S2816x1024 .bf16) (x19 : Vec F S1x1024 .f32) (x20 : Vec F S256x1024 .bf16) (x21 : Vec F S1024x1024 .bf16) (x22 : Vec F S1x1024 .f32) (xs0 : Vec F S8x5632 .f32) :
    Σ' (L23 : List (View.Piece (Elt F) S256x1024 .f32)), Σ' (L24 : List (View.Piece (Elt F) S8x5632 .f32)), { LS0 : List (View.Piece (Elt F) S8x5632 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d) ∗ owns (c : Thread nD τ) arg26 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f LS0)) -∗ K ⟨⟩))
          ⊢ wp frame (wpE (defs₀ (F := F)) Variants.none c none) E (cc0_merge_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, fun E K => ?run⟩
  case run =>
    simp only [cc0_merge_ffn_eq_skeleton]; unfold cc0_merge_ffn_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg26.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]; · iexists _; iexact H23
    isplitl [H24]; · iexists _; iexact H24
    iexists _; iexact HS0

end Cert.MergeIdeal.Gen

end
-- ==== Proof.Merge.Ideal.Frame.lean ====
/- The merge and feed-forward call, ideal: the frame. As in the generated module of the same
   name, but for the limit on how long the two runs may take. -/
module

public import proofs.«01_k».proof.Proof.Merge.Ideal.RunB
public import Idealize.ShloMosaic.Lib.Claim

@[expose] public section

set_option maxHeartbeats 16000000
set_option maxRecDepth 16384

noncomputable section

namespace Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 23 tile its block (1 store of `S256x1024`, checked by the kernel's evaluation: Lib/Ring.lean `Piece.tiledL`, linear in the pieces, through a loop's `@[irreducible]` trip theorem too), so they cover it. -/
theorem cover0_A_23 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S8x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x5632 .bf16) (harg16 : arg16.IsWhole) (arg17 : Memref sig .tc .vmem S3x5632 .f32) (harg17 : arg17.IsWhole) (arg18 : Memref sig .tc .vmem S1x5632 .f32) (harg18 : arg18.IsWhole) (arg19 : Memref sig .tc .vmem S2816x1024 .bf16) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S256x1024 .f32) (harg24 : arg24.IsWhole) (arg25 : Memref sig .tc .vmem S8x5632 .f32) (harg25 : arg25.IsWhole) (arg26 : Memref sig .tc .vmem S8x5632 .f32) (harg26 : arg26.IsWhole) (hc0 : cond0_0 i)
    (x0 : Vec F S256x1024 .f32) (x1 : Vec F S256x512 .f32) (x2 : Vec F S256x512 .f32) (x3 : Vec F S256x512 .f32) (x4 : Vec F S256x512 .f32) (x5 : Vec F S256x2048 .f32) (x6 : Vec F S256x256 .f32) (x7 : Vec F S8x128 .f32) (x8 : Vec F S1x512 .f32) (x9 : Vec F S1x512 .f32) (x10 : Vec F S512x512 .bf16) (x11 : Vec F S512x1024 .bf16) (x12 : Vec F S512x1024 .bf16) (x13 : Vec F S1024x1024 .bf16) (x14 : Vec F S1x1024 .f32) (x15 : Vec F S1024x5632 .bf16) (x16 : Vec F S3x5632 .f32) (x17 : Vec F S1x5632 .f32) (x18 : Vec F S2816x1024 .bf16) (x19 : Vec F S1x1024 .f32) (x20 : Vec F S256x1024 .bf16) (x21 : Vec F S1024x1024 .bf16) (x22 : Vec F S1x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22).1 S256x1024.size (by sl_kernel_rfl) y

/-- What case A leaves in output 23's staging buffer: its pieces read back over junk. -/
def out0_A_23 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S8x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x5632 .bf16) (harg16 : arg16.IsWhole) (arg17 : Memref sig .tc .vmem S3x5632 .f32) (harg17 : arg17.IsWhole) (arg18 : Memref sig .tc .vmem S1x5632 .f32) (harg18 : arg18.IsWhole) (arg19 : Memref sig .tc .vmem S2816x1024 .bf16) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S256x1024 .f32) (harg24 : arg24.IsWhole) (arg25 : Memref sig .tc .vmem S8x5632 .f32) (harg25 : arg25.IsWhole) (arg26 : Memref sig .tc .vmem S8x5632 .f32) (harg26 : arg26.IsWhole) (hc0 : cond0_0 i)
    (x0 : Vec F S256x1024 .f32) (x1 : Vec F S256x512 .f32) (x2 : Vec F S256x512 .f32) (x3 : Vec F S256x512 .f32) (x4 : Vec F S256x512 .f32) (x5 : Vec F S256x2048 .f32) (x6 : Vec F S256x256 .f32) (x7 : Vec F S8x128 .f32) (x8 : Vec F S1x512 .f32) (x9 : Vec F S1x512 .f32) (x10 : Vec F S512x512 .bf16) (x11 : Vec F S512x1024 .bf16) (x12 : Vec F S512x1024 .bf16) (x13 : Vec F S1024x1024 .bf16) (x14 : Vec F S1x1024 .f32) (x15 : Vec F S1024x5632 .bf16) (x16 : Vec F S3x5632 .f32) (x17 : Vec F S1x5632 .f32) (x18 : Vec F S2816x1024 .bf16) (x19 : Vec F S1x1024 .f32) (x20 : Vec F S256x1024 .bf16) (x21 : Vec F S1024x1024 .bf16) (x22 : Vec F S1x1024 .f32) : Vec F S256x1024 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22).1)

/-- Case A's pieces for output 24 tile its block (1 store of `S8x5632`, checked by the kernel's evaluation: Lib/Ring.lean `Piece.tiledL`, linear in the pieces, through a loop's `@[irreducible]` trip theorem too), so they cover it. -/
theorem cover0_A_24 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S8x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x5632 .bf16) (harg16 : arg16.IsWhole) (arg17 : Memref sig .tc .vmem S3x5632 .f32) (harg17 : arg17.IsWhole) (arg18 : Memref sig .tc .vmem S1x5632 .f32) (harg18 : arg18.IsWhole) (arg19 : Memref sig .tc .vmem S2816x1024 .bf16) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S256x1024 .f32) (harg24 : arg24.IsWhole) (arg25 : Memref sig .tc .vmem S8x5632 .f32) (harg25 : arg25.IsWhole) (arg26 : Memref sig .tc .vmem S8x5632 .f32) (harg26 : arg26.IsWhole) (hc0 : cond0_0 i)
    (x0 : Vec F S256x1024 .f32) (x1 : Vec F S256x512 .f32) (x2 : Vec F S256x512 .f32) (x3 : Vec F S256x512 .f32) (x4 : Vec F S256x512 .f32) (x5 : Vec F S256x2048 .f32) (x6 : Vec F S256x256 .f32) (x7 : Vec F S8x128 .f32) (x8 : Vec F S1x512 .f32) (x9 : Vec F S1x512 .f32) (x10 : Vec F S512x512 .bf16) (x11 : Vec F S512x1024 .bf16) (x12 : Vec F S512x1024 .bf16) (x13 : Vec F S1024x1024 .bf16) (x14 : Vec F S1x1024 .f32) (x15 : Vec F S1024x5632 .bf16) (x16 : Vec F S3x5632 .f32) (x17 : Vec F S1x5632 .f32) (x18 : Vec F S2816x1024 .bf16) (x19 : Vec F S1x1024 .f32) (x20 : Vec F S256x1024 .bf16) (x21 : Vec F S1024x1024 .bf16) (x22 : Vec F S1x1024 .f32) (y : S8x5632.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22).2.1 S8x5632.size (by sl_kernel_rfl) y

/-- What case A leaves in output 24's staging buffer: its pieces read back over junk. -/
def out0_A_24 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S8x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x5632 .bf16) (harg16 : arg16.IsWhole) (arg17 : Memref sig .tc .vmem S3x5632 .f32) (harg17 : arg17.IsWhole) (arg18 : Memref sig .tc .vmem S1x5632 .f32) (harg18 : arg18.IsWhole) (arg19 : Memref sig .tc .vmem S2816x1024 .bf16) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S256x1024 .f32) (harg24 : arg24.IsWhole) (arg25 : Memref sig .tc .vmem S8x5632 .f32) (harg25 : arg25.IsWhole) (arg26 : Memref sig .tc .vmem S8x5632 .f32) (harg26 : arg26.IsWhole) (hc0 : cond0_0 i)
    (x0 : Vec F S256x1024 .f32) (x1 : Vec F S256x512 .f32) (x2 : Vec F S256x512 .f32) (x3 : Vec F S256x512 .f32) (x4 : Vec F S256x512 .f32) (x5 : Vec F S256x2048 .f32) (x6 : Vec F S256x256 .f32) (x7 : Vec F S8x128 .f32) (x8 : Vec F S1x512 .f32) (x9 : Vec F S1x512 .f32) (x10 : Vec F S512x512 .bf16) (x11 : Vec F S512x1024 .bf16) (x12 : Vec F S512x1024 .bf16) (x13 : Vec F S1024x1024 .bf16) (x14 : Vec F S1x1024 .f32) (x15 : Vec F S1024x5632 .bf16) (x16 : Vec F S3x5632 .f32) (x17 : Vec F S1x5632 .f32) (x18 : Vec F S2816x1024 .bf16) (x19 : Vec F S1x1024 .f32) (x20 : Vec F S256x1024 .bf16) (x21 : Vec F S1024x1024 .bf16) (x22 : Vec F S1x1024 .f32) : Vec F S8x5632 .f32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22).2.1)

/-- Case A's pieces for scratch `arg26`, which the kernel carries between points, cover it: one of them a store of the WHOLE buffer (Lib/Ring.lean `sl_whole_mem`). -/
theorem scover0_A_0 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S8x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x5632 .bf16) (harg16 : arg16.IsWhole) (arg17 : Memref sig .tc .vmem S3x5632 .f32) (harg17 : arg17.IsWhole) (arg18 : Memref sig .tc .vmem S1x5632 .f32) (harg18 : arg18.IsWhole) (arg19 : Memref sig .tc .vmem S2816x1024 .bf16) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S256x1024 .f32) (harg24 : arg24.IsWhole) (arg25 : Memref sig .tc .vmem S8x5632 .f32) (harg25 : arg25.IsWhole) (arg26 : Memref sig .tc .vmem S8x5632 .f32) (harg26 : arg26.IsWhole) (hc0 : cond0_0 i)
    (x0 : Vec F S256x1024 .f32) (x1 : Vec F S256x512 .f32) (x2 : Vec F S256x512 .f32) (x3 : Vec F S256x512 .f32) (x4 : Vec F S256x512 .f32) (x5 : Vec F S256x2048 .f32) (x6 : Vec F S256x256 .f32) (x7 : Vec F S8x128 .f32) (x8 : Vec F S1x512 .f32) (x9 : Vec F S1x512 .f32) (x10 : Vec F S512x512 .bf16) (x11 : Vec F S512x1024 .bf16) (x12 : Vec F S512x1024 .bf16) (x13 : Vec F S1024x1024 .bf16) (x14 : Vec F S1x1024 .f32) (x15 : Vec F S1024x5632 .bf16) (x16 : Vec F S3x5632 .f32) (x17 : Vec F S1x5632 .f32) (x18 : Vec F S2816x1024 .bf16) (x19 : Vec F S1x1024 .f32) (x20 : Vec F S256x1024 .bf16) (x21 : Vec F S1024x1024 .bf16) (x22 : Vec F S1x1024 .f32) (y : S8x5632.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22).2.2.1 (by sl_whole_mem) y

/-- What case A leaves in scratch `arg26`: its pieces read back over junk. -/
def sout0_A_0 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S8x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x5632 .bf16) (harg16 : arg16.IsWhole) (arg17 : Memref sig .tc .vmem S3x5632 .f32) (harg17 : arg17.IsWhole) (arg18 : Memref sig .tc .vmem S1x5632 .f32) (harg18 : arg18.IsWhole) (arg19 : Memref sig .tc .vmem S2816x1024 .bf16) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S256x1024 .f32) (harg24 : arg24.IsWhole) (arg25 : Memref sig .tc .vmem S8x5632 .f32) (harg25 : arg25.IsWhole) (arg26 : Memref sig .tc .vmem S8x5632 .f32) (harg26 : arg26.IsWhole) (hc0 : cond0_0 i)
    (x0 : Vec F S256x1024 .f32) (x1 : Vec F S256x512 .f32) (x2 : Vec F S256x512 .f32) (x3 : Vec F S256x512 .f32) (x4 : Vec F S256x512 .f32) (x5 : Vec F S256x2048 .f32) (x6 : Vec F S256x256 .f32) (x7 : Vec F S8x128 .f32) (x8 : Vec F S1x512 .f32) (x9 : Vec F S1x512 .f32) (x10 : Vec F S512x512 .bf16) (x11 : Vec F S512x1024 .bf16) (x12 : Vec F S512x1024 .bf16) (x13 : Vec F S1024x1024 .bf16) (x14 : Vec F S1x1024 .f32) (x15 : Vec F S1024x5632 .bf16) (x16 : Vec F S3x5632 .f32) (x17 : Vec F S1x5632 .f32) (x18 : Vec F S2816x1024 .bf16) (x19 : Vec F S1x1024 .f32) (x20 : Vec F S256x1024 .bf16) (x21 : Vec F S1024x1024 .bf16) (x22 : Vec F S1x1024 .f32) : Vec F S8x5632 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22).2.2.1)

/-- Case B's pieces for output 23 tile its block (1 store of `S256x1024`, checked by the kernel's evaluation: Lib/Ring.lean `Piece.tiledL`, linear in the pieces, through a loop's `@[irreducible]` trip theorem too), so they cover it. -/
theorem cover0_B_23 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S8x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x5632 .bf16) (harg16 : arg16.IsWhole) (arg17 : Memref sig .tc .vmem S3x5632 .f32) (harg17 : arg17.IsWhole) (arg18 : Memref sig .tc .vmem S1x5632 .f32) (harg18 : arg18.IsWhole) (arg19 : Memref sig .tc .vmem S2816x1024 .bf16) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S256x1024 .f32) (harg24 : arg24.IsWhole) (arg25 : Memref sig .tc .vmem S8x5632 .f32) (harg25 : arg25.IsWhole) (arg26 : Memref sig .tc .vmem S8x5632 .f32) (harg26 : arg26.IsWhole) (hc0 : ¬cond0_0 i)
    (x0 : Vec F S256x1024 .f32) (x1 : Vec F S256x512 .f32) (x2 : Vec F S256x512 .f32) (x3 : Vec F S256x512 .f32) (x4 : Vec F S256x512 .f32) (x5 : Vec F S256x2048 .f32) (x6 : Vec F S256x256 .f32) (x7 : Vec F S8x128 .f32) (x8 : Vec F S1x512 .f32) (x9 : Vec F S1x512 .f32) (x10 : Vec F S512x512 .bf16) (x11 : Vec F S512x1024 .bf16) (x12 : Vec F S512x1024 .bf16) (x13 : Vec F S1024x1024 .bf16) (x14 : Vec F S1x1024 .f32) (x15 : Vec F S1024x5632 .bf16) (x16 : Vec F S3x5632 .f32) (x17 : Vec F S1x5632 .f32) (x18 : Vec F S2816x1024 .bf16) (x19 : Vec F S1x1024 .f32) (x20 : Vec F S256x1024 .bf16) (x21 : Vec F S1024x1024 .bf16) (x22 : Vec F S1x1024 .f32) (xs0 : Vec F S8x5632 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 xs0).1 S256x1024.size (by sl_kernel_rfl) y

/-- What case B leaves in output 23's staging buffer: its pieces read back over junk. -/
def out0_B_23 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S8x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x5632 .bf16) (harg16 : arg16.IsWhole) (arg17 : Memref sig .tc .vmem S3x5632 .f32) (harg17 : arg17.IsWhole) (arg18 : Memref sig .tc .vmem S1x5632 .f32) (harg18 : arg18.IsWhole) (arg19 : Memref sig .tc .vmem S2816x1024 .bf16) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S256x1024 .f32) (harg24 : arg24.IsWhole) (arg25 : Memref sig .tc .vmem S8x5632 .f32) (harg25 : arg25.IsWhole) (arg26 : Memref sig .tc .vmem S8x5632 .f32) (harg26 : arg26.IsWhole) (hc0 : ¬cond0_0 i)
    (x0 : Vec F S256x1024 .f32) (x1 : Vec F S256x512 .f32) (x2 : Vec F S256x512 .f32) (x3 : Vec F S256x512 .f32) (x4 : Vec F S256x512 .f32) (x5 : Vec F S256x2048 .f32) (x6 : Vec F S256x256 .f32) (x7 : Vec F S8x128 .f32) (x8 : Vec F S1x512 .f32) (x9 : Vec F S1x512 .f32) (x10 : Vec F S512x512 .bf16) (x11 : Vec F S512x1024 .bf16) (x12 : Vec F S512x1024 .bf16) (x13 : Vec F S1024x1024 .bf16) (x14 : Vec F S1x1024 .f32) (x15 : Vec F S1024x5632 .bf16) (x16 : Vec F S3x5632 .f32) (x17 : Vec F S1x5632 .f32) (x18 : Vec F S2816x1024 .bf16) (x19 : Vec F S1x1024 .f32) (x20 : Vec F S256x1024 .bf16) (x21 : Vec F S1024x1024 .bf16) (x22 : Vec F S1x1024 .f32) (xs0 : Vec F S8x5632 .f32) : Vec F S256x1024 .f32 :=
  VO0_23.read (Elt F) (VO0_23.writes (Elt F) VO0_23.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 xs0).1)

/-- Case B's pieces for output 24 tile its block (1 store of `S8x5632`, checked by the kernel's evaluation: Lib/Ring.lean `Piece.tiledL`, linear in the pieces, through a loop's `@[irreducible]` trip theorem too), so they cover it. -/
theorem cover0_B_24 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S8x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x5632 .bf16) (harg16 : arg16.IsWhole) (arg17 : Memref sig .tc .vmem S3x5632 .f32) (harg17 : arg17.IsWhole) (arg18 : Memref sig .tc .vmem S1x5632 .f32) (harg18 : arg18.IsWhole) (arg19 : Memref sig .tc .vmem S2816x1024 .bf16) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S256x1024 .f32) (harg24 : arg24.IsWhole) (arg25 : Memref sig .tc .vmem S8x5632 .f32) (harg25 : arg25.IsWhole) (arg26 : Memref sig .tc .vmem S8x5632 .f32) (harg26 : arg26.IsWhole) (hc0 : ¬cond0_0 i)
    (x0 : Vec F S256x1024 .f32) (x1 : Vec F S256x512 .f32) (x2 : Vec F S256x512 .f32) (x3 : Vec F S256x512 .f32) (x4 : Vec F S256x512 .f32) (x5 : Vec F S256x2048 .f32) (x6 : Vec F S256x256 .f32) (x7 : Vec F S8x128 .f32) (x8 : Vec F S1x512 .f32) (x9 : Vec F S1x512 .f32) (x10 : Vec F S512x512 .bf16) (x11 : Vec F S512x1024 .bf16) (x12 : Vec F S512x1024 .bf16) (x13 : Vec F S1024x1024 .bf16) (x14 : Vec F S1x1024 .f32) (x15 : Vec F S1024x5632 .bf16) (x16 : Vec F S3x5632 .f32) (x17 : Vec F S1x5632 .f32) (x18 : Vec F S2816x1024 .bf16) (x19 : Vec F S1x1024 .f32) (x20 : Vec F S256x1024 .bf16) (x21 : Vec F S1024x1024 .bf16) (x22 : Vec F S1x1024 .f32) (xs0 : Vec F S8x5632 .f32) (y : S8x5632.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 xs0).2.1 S8x5632.size (by sl_kernel_rfl) y

/-- What case B leaves in output 24's staging buffer: its pieces read back over junk. -/
def out0_B_24 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S8x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x5632 .bf16) (harg16 : arg16.IsWhole) (arg17 : Memref sig .tc .vmem S3x5632 .f32) (harg17 : arg17.IsWhole) (arg18 : Memref sig .tc .vmem S1x5632 .f32) (harg18 : arg18.IsWhole) (arg19 : Memref sig .tc .vmem S2816x1024 .bf16) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S256x1024 .f32) (harg24 : arg24.IsWhole) (arg25 : Memref sig .tc .vmem S8x5632 .f32) (harg25 : arg25.IsWhole) (arg26 : Memref sig .tc .vmem S8x5632 .f32) (harg26 : arg26.IsWhole) (hc0 : ¬cond0_0 i)
    (x0 : Vec F S256x1024 .f32) (x1 : Vec F S256x512 .f32) (x2 : Vec F S256x512 .f32) (x3 : Vec F S256x512 .f32) (x4 : Vec F S256x512 .f32) (x5 : Vec F S256x2048 .f32) (x6 : Vec F S256x256 .f32) (x7 : Vec F S8x128 .f32) (x8 : Vec F S1x512 .f32) (x9 : Vec F S1x512 .f32) (x10 : Vec F S512x512 .bf16) (x11 : Vec F S512x1024 .bf16) (x12 : Vec F S512x1024 .bf16) (x13 : Vec F S1024x1024 .bf16) (x14 : Vec F S1x1024 .f32) (x15 : Vec F S1024x5632 .bf16) (x16 : Vec F S3x5632 .f32) (x17 : Vec F S1x5632 .f32) (x18 : Vec F S2816x1024 .bf16) (x19 : Vec F S1x1024 .f32) (x20 : Vec F S256x1024 .bf16) (x21 : Vec F S1024x1024 .bf16) (x22 : Vec F S1x1024 .f32) (xs0 : Vec F S8x5632 .f32) : Vec F S8x5632 .f32 :=
  VO0_24.read (Elt F) (VO0_24.writes (Elt F) VO0_24.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 xs0).2.1)

/-- Case B's pieces for scratch `arg26`, which the kernel carries between points, cover it: 4 pieces of `S8x1408` tiling it (Lib/Ring.lean `Piece.tiledL`). -/
theorem scover0_B_0 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S8x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x5632 .bf16) (harg16 : arg16.IsWhole) (arg17 : Memref sig .tc .vmem S3x5632 .f32) (harg17 : arg17.IsWhole) (arg18 : Memref sig .tc .vmem S1x5632 .f32) (harg18 : arg18.IsWhole) (arg19 : Memref sig .tc .vmem S2816x1024 .bf16) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S256x1024 .f32) (harg24 : arg24.IsWhole) (arg25 : Memref sig .tc .vmem S8x5632 .f32) (harg25 : arg25.IsWhole) (arg26 : Memref sig .tc .vmem S8x5632 .f32) (harg26 : arg26.IsWhole) (hc0 : ¬cond0_0 i)
    (x0 : Vec F S256x1024 .f32) (x1 : Vec F S256x512 .f32) (x2 : Vec F S256x512 .f32) (x3 : Vec F S256x512 .f32) (x4 : Vec F S256x512 .f32) (x5 : Vec F S256x2048 .f32) (x6 : Vec F S256x256 .f32) (x7 : Vec F S8x128 .f32) (x8 : Vec F S1x512 .f32) (x9 : Vec F S1x512 .f32) (x10 : Vec F S512x512 .bf16) (x11 : Vec F S512x1024 .bf16) (x12 : Vec F S512x1024 .bf16) (x13 : Vec F S1024x1024 .bf16) (x14 : Vec F S1x1024 .f32) (x15 : Vec F S1024x5632 .bf16) (x16 : Vec F S3x5632 .f32) (x17 : Vec F S1x5632 .f32) (x18 : Vec F S2816x1024 .bf16) (x19 : Vec F S1x1024 .f32) (x20 : Vec F S256x1024 .bf16) (x21 : Vec F S1024x1024 .bf16) (x22 : Vec F S1x1024 .f32) (xs0 : Vec F S8x5632 .f32) (y : S8x5632.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 xs0).2.2.1 S8x1408.size (by sl_kernel_rfl) y

/-- What case B leaves in scratch `arg26`: its pieces read back over junk. -/
def sout0_B_0 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S8x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x5632 .bf16) (harg16 : arg16.IsWhole) (arg17 : Memref sig .tc .vmem S3x5632 .f32) (harg17 : arg17.IsWhole) (arg18 : Memref sig .tc .vmem S1x5632 .f32) (harg18 : arg18.IsWhole) (arg19 : Memref sig .tc .vmem S2816x1024 .bf16) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S256x1024 .f32) (harg24 : arg24.IsWhole) (arg25 : Memref sig .tc .vmem S8x5632 .f32) (harg25 : arg25.IsWhole) (arg26 : Memref sig .tc .vmem S8x5632 .f32) (harg26 : arg26.IsWhole) (hc0 : ¬cond0_0 i)
    (x0 : Vec F S256x1024 .f32) (x1 : Vec F S256x512 .f32) (x2 : Vec F S256x512 .f32) (x3 : Vec F S256x512 .f32) (x4 : Vec F S256x512 .f32) (x5 : Vec F S256x2048 .f32) (x6 : Vec F S256x256 .f32) (x7 : Vec F S8x128 .f32) (x8 : Vec F S1x512 .f32) (x9 : Vec F S1x512 .f32) (x10 : Vec F S512x512 .bf16) (x11 : Vec F S512x1024 .bf16) (x12 : Vec F S512x1024 .bf16) (x13 : Vec F S1024x1024 .bf16) (x14 : Vec F S1x1024 .f32) (x15 : Vec F S1024x5632 .bf16) (x16 : Vec F S3x5632 .f32) (x17 : Vec F S1x5632 .f32) (x18 : Vec F S2816x1024 .bf16) (x19 : Vec F S1x1024 .f32) (x20 : Vec F S256x1024 .bf16) (x21 : Vec F S1024x1024 .bf16) (x22 : Vec F S1x1024 .f32) (xs0 : Vec F S8x5632 .f32) : Vec F S8x5632 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x1024 .f32 × Vec F S8x5632 .f32 × Vec F S8x5632 .f32
  | 0, hn => (out0_A_23 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩), out0_A_24 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩))
  | n + 1, hn =>
    if h0 : (n + 1) % 64 = 0 then
      (out0_A_23 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩), out0_A_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩))
    else
      (out0_B_23 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (outsAt0 c n (Nat.lt_of_succ_lt hn)).2.2, out0_B_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (outsAt0 c n (Nat.lt_of_succ_lt hn)).2.2)

/-- `outsAt0` at a point of case A: that case's contents. -/
theorem outsAt0_A (c : Dev nD) (t : Fin cfg0.N) (h0 : t.val % 64 = 0) :
    outsAt0 m c t.val t.isLt = (out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 64 = 0) :
    outsAt0 m c t.val t.isLt = (out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (outsAt0 m c (t.val - 1) (Nat.lt_of_le_of_lt (Nat.sub_le _ _) t.isLt)).2.2, out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => (outsAt0 m c t.val t.isLt).1
    | ⟨24, _⟩ => (outsAt0 m c t.val t.isLt).2.1
    | ⟨_ + 25, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = (outsAt0 m c t.val t.isLt).1 := by dsimp only [dats]
theorem after0_24 (c : Dev nD) (t : Fin cfg0.N) : (dats m 0 c).after 24 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc m c t, PhiS_zero m c _ _ hz, PhiA0_eq]
      rw [outsAt0_A m c t h0]
      unfold out0_A_23 out0_A_24 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexists _; iexact H23
      isplitl [H24]; · iexists _; iexact H24
      isplitl [HS0]; · iexact HS0
      iintro ⟨H0, H1, H2, H3, H4, H5, H6, H7, H8, H9, H10, H11, H12, H13, H14, H15, H16, H17, H18, H19, H20, H21, H22, ⟨%e23, H23⟩, ⟨%e24, H24⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]
      · unfold owns; iexists _; isplitr
        swap; · iexact H23
        ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H24
      ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_23 out0_B_24 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexists _; iexact H23
      isplitl [H24]; · iexists _; iexact H24
      isplitl [HS0]; · iexact HS0
      iintro ⟨H0, H1, H2, H3, H4, H5, H6, H7, H8, H9, H10, H11, H12, H13, H14, H15, H16, H17, H18, H19, H20, H21, H22, ⟨%e23, H23⟩, ⟨%e24, H24⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]
      · unfold owns; iexists _; isplitr
        swap; · iexact H23
        ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H24
      ipureintro; exact View.read_writes_of_cover _ _ _ _ _ (cover0_B_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

/-- THE FRAME: `Cert.quiescent_MergeIdeal`'s statement (Defs.lean) at any `F` — Proof.lean cites it at `Bits`:
    `theorem Cert.Proof.claim : Cert.Claim := ⟨Cert.MergeIdeal.Gen.facts, fun m ρ _ => Cert.MergeIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Cert.MergeIdeal.Gen

end
-- ==== Proof.Merge.Ideal.Value.lean ====
/- The merge and feed-forward call, ideal: the values. As in the generated module of the same
   name, but for the limit on how long the two runs may take. -/
module

public import proofs.«01_k».proof.Proof.Merge.Ideal.Frame
public import Idealize.ShloMosaic.Lib.Pipeline.Value

@[expose] public section

set_option maxHeartbeats 16000000

noncomputable section

namespace Cert.MergeIdeal.Value

open Cert.MergeIdeal Cert.MergeIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 23's array: the run's contents for that window after the body (`Gen.outsAt0`: its component 0), read through the window's block. -/
theorem flushed23 (c : Dev nD) (t : Fin cfg0.N) :
    (dats m 0 c).flushed 23 t = (cfg0.win 23).cut (grid0.coords t) ((outsAt0 m c t.val t.isLt).1) := by
  show (cfg0.win 23).cut (grid0.coords t) ((dats m 0 c).after 23 t) = _
  rw [after0_23]

/-- … so at a point where case A runs, what its write-back would write is that case's NAMED TERM for the window (`Gen.out0_A_23`: the pieces
    its run found, read back) at the point's memrefs and input blocks, and for an output the case reads back what the point before left (`Gen.outsAt0` at `t - 1`) — by the frame's rewriting lemma for the case. -/
theorem flushed23_A (c : Dev nD) (t : Fin cfg0.N) (h0 : t.val % 64 = 0) :
    (dats m 0 c).flushed 23 t = (cfg0.win 23).cut (grid0.coords t) (out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  simp only [flushed23, outsAt0_A m c t h0]

/-- … so at a point where case B runs, what its write-back would write is that case's NAMED TERM for the window (`Gen.out0_B_23`: the pieces
    its run found, read back) at the point's memrefs and input blocks, and for an output the case reads back what the point before left (`Gen.outsAt0` at `t - 1`) — by the frame's rewriting lemma for the case. -/
theorem flushed23_B (c : Dev nD) (t : Fin cfg0.N) (h0 : ¬t.val % 64 = 0) :
    (dats m 0 c).flushed 23 t = (cfg0.win 23).cut (grid0.coords t) (out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (outsAt0 m c (t.val - 1) (Nat.lt_of_le_of_lt (Nat.sub_le _ _) t.isLt)).2.2) := by
  simp only [flushed23, outsAt0_B m c t h0]

/-- The index map sends distinct grid points to distinct block indices (decided over the 64 points). -/
theorem idx_inj23 : ∀ t t' : Fin cfg0.N, win0_23.index t = win0_23.index t' → t = t' :=
  (by decide +kernel : ∀ t t' : Fin grid0.N, win0_23.index t = win0_23.index t' → t = t')

/-- So two flushing points' blocks share no array index (Lib/Pipeline/Cells.lean `Window.disjoint_blk`). -/
theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

/-- BLOCK `t` OF THE FINAL ARRAY, read back through the window, is what point `t` wrote back (`flushed23`), for every
    point that writes back: no other point's block meets it. -/
theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

/-- An index that no flushing point's block covers keeps output window 23's array contents at region entry. -/
theorem entry23 (c : Dev nD) (i : S16384x1024.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

/-- WHAT POINT `t` WRITES BACK to output window 24's array: the run's contents for that window after the body (`Gen.outsAt0`: its component 1), read through the window's block. -/
theorem flushed24 (c : Dev nD) (t : Fin cfg0.N) :
    (dats m 0 c).flushed 24 t = (cfg0.win 24).cut (grid0.coords t) ((outsAt0 m c t.val t.isLt).2.1) := by
  show (cfg0.win 24).cut (grid0.coords t) ((dats m 0 c).after 24 t) = _
  rw [after0_24]

/-- … so at a point where case A runs, what its write-back would write is that case's NAMED TERM for the window (`Gen.out0_A_24`: the pieces
    its run found, read back) at the point's memrefs and input blocks, and for an output the case reads back what the point before left (`Gen.outsAt0` at `t - 1`) — by the frame's rewriting lemma for the case. -/
theorem flushed24_A (c : Dev nD) (t : Fin cfg0.N) (h0 : t.val % 64 = 0) :
    (dats m 0 c).flushed 24 t = (cfg0.win 24).cut (grid0.coords t) (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  simp only [flushed24, outsAt0_A m c t h0]

/-- … so at a point where case B runs, what its write-back would write is that case's NAMED TERM for the window (`Gen.out0_B_24`: the pieces
    its run found, read back) at the point's memrefs and input blocks, and for an output the case reads back what the point before left (`Gen.outsAt0` at `t - 1`) — by the frame's rewriting lemma for the case. -/
theorem flushed24_B (c : Dev nD) (t : Fin cfg0.N) (h0 : ¬t.val % 64 = 0) :
    (dats m 0 c).flushed 24 t = (cfg0.win 24).cut (grid0.coords t) (out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (outsAt0 m c (t.val - 1) (Nat.lt_of_le_of_lt (Nat.sub_le _ _) t.isLt)).2.2) := by
  simp only [flushed24, outsAt0_B m c t h0]

-- no `blocks24`: window 24's index map revisits a block index, or its points could not be enumerated here;
-- the final array is still the frame's `arrAt`, to read with Lib/Pipeline/Value.lean's lemmas by hand

/-- An index that no flushing point's block covers keeps output window 24's array contents at region entry. -/
theorem entry24 (c : Dev nD) (i : S8x5632.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v39_0) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v39_1) = (dats m 0 c).arrAt 24 cfg0.N :=
  (h c).1 24

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: no window stages it, and the run leaves the region's other buffers as they were. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- After the frame run, argument `main_arg19` is as launched: no window stages it, and the run leaves the region's other buffers as they were. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- After the frame run, argument `main_arg20` is as launched: no window stages it, and the run leaves the region's other buffers as they were. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v39_0) = (dats m 0 c).arrAt 23 cfg0.N
      ∧ r.2.mem ((c : Thread nD τ).loc main_v39_1) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨post23 m r h c,
      post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S8x5632 .f32) : Vec F S8x5632 .f32 :=
  if h0 : n % 64 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) acc

/-- WHAT CARRIED SCRATCH 0 HOLDS after point `t`: the fold of its run up to `t`, from the reset at the run's first point
    `64·(t / 64)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2 = Pipeline.accAt (fun n h => scAt0_0 m c n h (VS0_0.read (Elt F) VS0_0.junk)) (scAt0_0 m c) (64 * (t.val / 64)) (t.val % 64)
      (by have h1 := t.isLt; have h2 := Nat.div_add_mod t.val 64; omega) :=
  Pipeline.eq_accAt_of_mod (fun n h => (outsAt0 m c n h).2.2) 64 (fun n h => scAt0_0 m c n h (VS0_0.read (Elt F) VS0_0.junk)) (scAt0_0 m c)
    (fun n h hn => by
      have hN := lt_of_lt_of_eq h (show cfg0.N = 64 from N_0)
      by_cases h0 : n % 64 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 64 from N_0)
      by_cases h0 : (n + 1) % 64 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 64 from N_0)
  have hd : n / 64 = 0 := Nat.div_eq_of_lt hN
  have hm : n % 64 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S256x1024 .f32 × Vec F S8x5632 .f32 × Vec F S8x5632 .f32 :=
  ((VO0_23.read (Elt F) VO0_23.junk, VO0_24.read (Elt F) VO0_24.junk, VS0_0.read (Elt F) VS0_0.junk) : Vec F S256x1024 .f32 × Vec F S8x5632 .f32 × Vec F S8x5632 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S256x1024 .f32 × Vec F S8x5632 .f32 × Vec F S8x5632 .f32) : Vec F S256x1024 .f32 × Vec F S8x5632 .f32 × Vec F S8x5632 .f32 :=
  if h0 : n % 64 = 0 then
    (out0_A_23 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)), out0_A_24 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)))
  else
    (out0_B_23 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) acc.2.2, out0_B_24 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) acc.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) acc.2.2)

/-- `stAt0` at a point of case A: that case's contents. -/
theorem stAt0_A (c : Dev nD) (t : Fin cfg0.N) (acc : Vec F S256x1024 .f32 × Vec F S8x5632 .f32 × Vec F S8x5632 .f32) (h0 : t.val % 64 = 0) :
    stAt0 m c t.val t.isLt acc = (out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) :=
  (dif_pos h0).trans rfl

/-- `stAt0` at a point of case B: that case's contents, over `acc`. -/
theorem stAt0_B (c : Dev nD) (t : Fin cfg0.N) (acc : Vec F S256x1024 .f32 × Vec F S8x5632 .f32 × Vec F S8x5632 .f32) (h0 : ¬t.val % 64 = 0) :
    stAt0 m c t.val t.isLt acc = (out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) acc.2.2, out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) acc.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) acc.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 64 from N_0)
  have e := Pipeline.eq_accAt_of_mod (fun n h => outsAt0 m c n h) 64 (fun n h => stAt0 m c n h junk0) (stAt0 m c)
    (fun n h _ => by
      have hN := lt_of_lt_of_eq h (show cfg0.N = 64 from N_0)
      obtain rfl : n = 0 := by omega
      exact outsAt0_zero m c h)
    (fun n h _ => outsAt0_succ m c n h)
    (by decide) n hn (by have := Nat.div_add_mod n 64; omega)
  have hd : n / 64 = 0 := Nat.div_eq_of_lt hN
  have hm : n % 64 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 23 -/

/-- The block of the array that holds index `i`, numbered in the order the points write the blocks back (one per point),
    `i`'s place in it, and the point that writes it back. -/
abbrev run23Of (i : S16384x1024.Idx) : ℕ := 1 * ((i 0).val / 256 - 0) + 1 * ((i 1).val / 1024 - 0)
set_option backward.proofsInPublic true in
abbrev loc23Of (i : S16384x1024.Idx) : S256x1024.Idx := fun a => match a with
  | ⟨0, _⟩ => ⟨(i 0).val % 256, Nat.mod_lt _ (by decide)⟩
  | ⟨1, _⟩ => ⟨(i 1).val % 1024, Nat.mod_lt _ (by decide)⟩
abbrev pt23Of (i : S16384x1024.Idx) : ℕ := run23Of i

/-- WHAT THE ARRAY ENDS HOLDING at index `i` inside the box the flushing blocks fill: output 23's component of the carried
    state's fold at the point that writes `i`'s block back, at `i`'s place in the block. `G23` states the array's contents
    only inside the box. -/
def G23 (c : Dev nD) : Buf (Elt F) ((c : Thread nD τ).loc main_v39_0) := fun i =>
  if h : pt23Of i < cfg0.N then
    (Pipeline.accAt (fun n h => stAt0 m c n h junk0) (stAt0 m c) 0 (pt23Of i) (by omega)).1 (loc23Of i)
  else V m c (Pipeline.arrRef spec0 23) i

/-- The printed index map, decided over the grid: output window 23's block indices stay in the box, and the block number
    read off them is the point's (`t`). -/
theorem idx_facts23 : ∀ t : Fin cfg0.N, 0 ≤ win0_23.index t (0 : Fin 2) ∧ win0_23.index t (0 : Fin 2) ≤ 63
    ∧ 0 ≤ win0_23.index t (1 : Fin 2) ∧ win0_23.index t (1 : Fin 2) ≤ 0
    ∧ 1 * (win0_23.index t (0 : Fin 2) - 0) + 1 * (win0_23.index t (1 : Fin 2) - 0) = t.val :=
  (by decide +kernel : ∀ t : Fin grid0.N, _)

/-- Every block of the box is SOME flushing point's: `onto23Pt`, the point that writes back the block at place `q` of the box. -/
abbrev onto23Pt (q0 : Fin 64) (q1 : Fin 1) : Fin grid0.N :=
  ⟨1 * q0.val + 1 * q1.val, lt_of_lt_of_eq (by omega) N_0.symm⟩
theorem idx_onto23 : ∀ (q0 : Fin 64) (q1 : Fin 1), ∃ t : Fin cfg0.N, (cfg0.win 23).flush t = true ∧ win0_23.index t = ![q0.val + 0, q1.val + 0] :=
  fun q0 q1 => ⟨onto23Pt q0 q1, (by decide +kernel : ∀ (q0 : Fin 64) (q1 : Fin 1), win0_23.flush (onto23Pt q0 q1) = true ∧ win0_23.index (onto23Pt q0 q1) = ![q0.val + 0, q1.val + 0]) q0 q1⟩

/-- WHAT A FLUSHING POINT `t` WRITES BACK is block `t` of `G23`: output 23's component of the fold up to `t`. -/
theorem flushed23_eq (c : Dev nD) (t : Fin cfg0.N) (hf : (cfg0.win 23).flush t = true) :
    (dats m 0 c).flushed 23 t = ((cfg0.win 23).blk t).view.read (Elt F) (G23 m c) := by
  show (cfg0.win 23).cut (grid0.coords t) ((dats m 0 c).after 23 t) = _
  rw [after0_23, outsAt0_sweep]
  obtain ⟨e0, e1, e2⟩ := idx_facts23 t
  funext y
  have hy0 : (y 0).val < 256 := (y 0).isLt
  have hy1 : (y 1).val < 1024 := (y 1).isLt
  have hb0 : (((cfg0.win 23).blk t).view.emb y 0).val = win0_23.index t (0 : Fin 2) * 256 + 1 * (y 0).val := rfl
  have hb1 : (((cfg0.win 23).blk t).view.emb y 1).val = win0_23.index t (1 : Fin 2) * 1024 + 1 * (y 1).val := rfl
  have hr : run23Of (((cfg0.win 23).blk t).view.emb y) = t.val := by
    show 1 * ((((cfg0.win 23).blk t).view.emb y 0).val / 256 - 0) + 1 * ((((cfg0.win 23).blk t).view.emb y 1).val / 1024 - 0) = _
    rw [hb0, hb1]
    rw [show (win0_23.index t (0 : Fin 2) * 256 + 1 * (y 0).val) / 256 = win0_23.index t (0 : Fin 2) from by omega]; rw [show (win0_23.index t (1 : Fin 2) * 1024 + 1 * (y 1).val) / 1024 = win0_23.index t (1 : Fin 2) from by omega]
    omega
  have hl : loc23Of (((cfg0.win 23).blk t).view.emb y) = (cfg0.win 23).xinj (grid0.coords t) y := by
    funext a; apply Fin.ext
    match a with
    | ⟨0, _⟩ => show (((cfg0.win 23).blk t).view.emb y 0).val % 256 = (y 0).val; rw [hb0]; omega
    | ⟨1, _⟩ => show (((cfg0.win 23).blk t).view.emb y 1).val % 1024 = (y 1).val; rw [hb1]; omega
  have hp : pt23Of (((cfg0.win 23).blk t).view.emb y) = t.val := by
    exact hr
  show (Pipeline.accAt (fun n h => stAt0 m c n h junk0) (stAt0 m c) 0 t.val _).1 ((cfg0.win 23).xinj (grid0.coords t) y) = G23 m c (((cfg0.win 23).blk t).view.emb y)
  unfold G23
  rw [dif_pos (by rw [hp]; exact t.isLt), hl, fold0_congr m c _ _ _ _ hp.symm]

/-- An index of the array is in point `t`'s block iff each coordinate is in the block's range on its axis. -/
theorem mem_blk23 (t : Fin cfg0.N) (i : S16384x1024.Idx) :
    i ∈ ((cfg0.win 23).blk t).view.set ↔ ∀ a : Fin 2, win0_23.index t a * S256x1024.size a ≤ (i a).val ∧ (i a).val < win0_23.index t a * S256x1024.size a + S256x1024.size a := by
  show i ∈ ((View.whole main_v39_0).slice (win0_23.rect t)).set ↔ _
  rw [View.set_slice_whole, Rect.mem_set_unit]
  exact Iff.rfl

/-- THE COVERED INDICES: in some flushing point's block iff inside the box those blocks fill. -/
theorem covered_iff23 (i : S16384x1024.Idx) :
    (∃ t : Fin cfg0.N, (cfg0.win 23).flush t = true ∧ i ∈ ((cfg0.win 23).blk t).view.set) ↔ 0 ≤ (i 0).val ∧ (i 0).val < 16384 ∧ 0 ≤ (i 1).val ∧ (i 1).val < 1024 := by
  constructor
  · rintro ⟨t, -, hi⟩
    rw [mem_blk23] at hi
    have b0 : win0_23.index t (0 : Fin 2) * 256 ≤ (i 0).val ∧ (i 0).val < win0_23.index t (0 : Fin 2) * 256 + 256 := hi 0
    have b1 : win0_23.index t (1 : Fin 2) * 1024 ≤ (i 1).val ∧ (i 1).val < win0_23.index t (1 : Fin 2) * 1024 + 1024 := hi 1
    obtain ⟨e0, e1, e2⟩ := idx_facts23 t
    omega
  · intro h
    have hi0 : (i 0).val < 16384 := (i 0).isLt
    have hi1 : (i 1).val < 1024 := (i 1).isLt
    obtain ⟨t, hft, ht⟩ := idx_onto23 ⟨(i 0).val / 256 - 0, by omega⟩ ⟨(i 1).val / 1024 - 0, by omega⟩
    have q0 : win0_23.index t (0 : Fin 2) = (i 0).val / 256 - 0 + 0 := congrFun ht 0
    have q1 : win0_23.index t (1 : Fin 2) = (i 1).val / 1024 - 0 + 0 := congrFun ht 1
    refine ⟨t, hft, ?_⟩
    rw [mem_blk23]
    intro a
    match a with
    | ⟨0, _⟩ => show win0_23.index t (0 : Fin 2) * 256 ≤ (i 0).val ∧ (i 0).val < win0_23.index t (0 : Fin 2) * 256 + 256; omega
    | ⟨1, _⟩ => show win0_23.index t (1 : Fin 2) * 1024 ≤ (i 1).val ∧ (i 1).val < win0_23.index t (1 : Fin 2) * 1024 + 1024; omega

/-- THE ARRAY after the run: `G23` (the flushing blocks tile it). -/
theorem final23 (c : Dev nD) : (dats m 0 c).arrAt 23 cfg0.N = G23 m c :=
  (dats m 0 c).arrAt_eq_of_cover 23 _ (fun t hf => flushed23_eq m c t hf) (fun i => (covered_iff23 i).2 (by
    have h0 : (i 0).val < 16384 := (i 0).isLt; have h1 : (i 1).val < 1024 := (i 1).isLt; omega))

/-! ## Output window 24 -/

/-- The block of the array that holds index `i`, numbered in the order the points write the blocks back (one every 64 points),
    `i`'s place in it, and the point that writes it back (the last of its 64). -/
abbrev run24Of (i : S8x5632.Idx) : ℕ := 1 * ((i 0).val / 8 - 0) + 1 * ((i 1).val / 5632 - 0)
set_option backward.proofsInPublic true in
abbrev loc24Of (i : S8x5632.Idx) : S8x5632.Idx := fun a => match a with
  | ⟨0, _⟩ => ⟨(i 0).val % 8, Nat.mod_lt _ (by decide)⟩
  | ⟨1, _⟩ => ⟨(i 1).val % 5632, Nat.mod_lt _ (by decide)⟩
abbrev pt24Of (i : S8x5632.Idx) : ℕ := 64 * run24Of i + 63

/-- WHAT THE ARRAY ENDS HOLDING at index `i` inside the box the flushing blocks fill: output 24's component of the carried
    state's fold at the point that writes `i`'s block back, at `i`'s place in the block. `G24` states the array's contents
    only inside the box. -/
def G24 (c : Dev nD) : Buf (Elt F) ((c : Thread nD τ).loc main_v39_1) := fun i =>
  if h : pt24Of i < cfg0.N then
    (Pipeline.accAt (fun n h => stAt0 m c n h junk0) (stAt0 m c) 0 (pt24Of i) (by omega)).2.1 (loc24Of i)
  else V m c (Pipeline.arrRef spec0 24) i

/-- The printed index map, decided over the grid: output window 24's block indices stay in the box, and the block number
    read off them is the point's (`t / 64`). -/
theorem idx_facts24 : ∀ t : Fin cfg0.N, 0 ≤ win0_24.index t (0 : Fin 2) ∧ win0_24.index t (0 : Fin 2) ≤ 0
    ∧ 0 ≤ win0_24.index t (1 : Fin 2) ∧ win0_24.index t (1 : Fin 2) ≤ 0
    ∧ 1 * (win0_24.index t (0 : Fin 2) - 0) + 1 * (win0_24.index t (1 : Fin 2) - 0) = t.val / 64 :=
  (by decide +kernel : ∀ t : Fin grid0.N, _)

/-- Every block of the box is SOME flushing point's: `onto24Pt`, the point that writes back the block at place `q` of the box (the last point of its run). -/
abbrev onto24Pt (q0 : Fin 1) (q1 : Fin 1) : Fin grid0.N :=
  ⟨64 * (1 * q0.val + 1 * q1.val) + 63, lt_of_lt_of_eq (by omega) N_0.symm⟩
theorem idx_onto24 : ∀ (q0 : Fin 1) (q1 : Fin 1), ∃ t : Fin cfg0.N, (cfg0.win 24).flush t = true ∧ win0_24.index t = ![q0.val + 0, q1.val + 0] :=
  fun q0 q1 => ⟨onto24Pt q0 q1, (by decide +kernel : ∀ (q0 : Fin 1) (q1 : Fin 1), win0_24.flush (onto24Pt q0 q1) = true ∧ win0_24.index (onto24Pt q0 q1) = ![q0.val + 0, q1.val + 0]) q0 q1⟩

/-- WHAT A FLUSHING POINT `t` WRITES BACK is block `t` of `G24`: output 24's component of the fold up to `t`. -/
theorem flushed24_eq (c : Dev nD) (t : Fin cfg0.N) (hf : (cfg0.win 24).flush t = true) :
    (dats m 0 c).flushed 24 t = ((cfg0.win 24).blk t).view.read (Elt F) (G24 m c) := by
  show (cfg0.win 24).cut (grid0.coords t) ((dats m 0 c).after 24 t) = _
  rw [after0_24, outsAt0_sweep]
  have hm : t.val % 64 = 63 := (flush0_24 t).mp hf
  obtain ⟨e0, e1, e2⟩ := idx_facts24 t
  funext y
  have hy0 : (y 0).val < 8 := (y 0).isLt
  have hy1 : (y 1).val < 5632 := (y 1).isLt
  have hb0 : (((cfg0.win 24).blk t).view.emb y 0).val = win0_24.index t (0 : Fin 2) * 8 + 1 * (y 0).val := rfl
  have hb1 : (((cfg0.win 24).blk t).view.emb y 1).val = win0_24.index t (1 : Fin 2) * 5632 + 1 * (y 1).val := rfl
  have hr : run24Of (((cfg0.win 24).blk t).view.emb y) = t.val / 64 := by
    show 1 * ((((cfg0.win 24).blk t).view.emb y 0).val / 8 - 0) + 1 * ((((cfg0.win 24).blk t).view.emb y 1).val / 5632 - 0) = _
    rw [hb0, hb1]
    rw [show (win0_24.index t (0 : Fin 2) * 8 + 1 * (y 0).val) / 8 = win0_24.index t (0 : Fin 2) from by omega]; rw [show (win0_24.index t (1 : Fin 2) * 5632 + 1 * (y 1).val) / 5632 = win0_24.index t (1 : Fin 2) from by omega]
    omega
  have hl : loc24Of (((cfg0.win 24).blk t).view.emb y) = (cfg0.win 24).xinj (grid0.coords t) y := by
    funext a; apply Fin.ext
    match a with
    | ⟨0, _⟩ => show (((cfg0.win 24).blk t).view.emb y 0).val % 8 = (y 0).val; rw [hb0]; omega
    | ⟨1, _⟩ => show (((cfg0.win 24).blk t).view.emb y 1).val % 5632 = (y 1).val; rw [hb1]; omega
  have hp : pt24Of (((cfg0.win 24).blk t).view.emb y) = t.val := by
    show 64 * run24Of (((cfg0.win 24).blk t).view.emb y) + 63 = _
    rw [hr]; have := Nat.div_add_mod t.val 64; omega
  show (Pipeline.accAt (fun n h => stAt0 m c n h junk0) (stAt0 m c) 0 t.val _).2.1 ((cfg0.win 24).xinj (grid0.coords t) y) = G24 m c (((cfg0.win 24).blk t).view.emb y)
  unfold G24
  rw [dif_pos (by rw [hp]; exact t.isLt), hl, fold0_congr m c _ _ _ _ hp.symm]

/-- An index of the array is in point `t`'s block iff each coordinate is in the block's range on its axis. -/
theorem mem_blk24 (t : Fin cfg0.N) (i : S8x5632.Idx) :
    i ∈ ((cfg0.win 24).blk t).view.set ↔ ∀ a : Fin 2, win0_24.index t a * S8x5632.size a ≤ (i a).val ∧ (i a).val < win0_24.index t a * S8x5632.size a + S8x5632.size a := by
  show i ∈ ((View.whole main_v39_1).slice (win0_24.rect t)).set ↔ _
  rw [View.set_slice_whole, Rect.mem_set_unit]
  exact Iff.rfl

/-- THE COVERED INDICES: in some flushing point's block iff inside the box those blocks fill. -/
theorem covered_iff24 (i : S8x5632.Idx) :
    (∃ t : Fin cfg0.N, (cfg0.win 24).flush t = true ∧ i ∈ ((cfg0.win 24).blk t).view.set) ↔ 0 ≤ (i 0).val ∧ (i 0).val < 8 ∧ 0 ≤ (i 1).val ∧ (i 1).val < 5632 := by
  constructor
  · rintro ⟨t, -, hi⟩
    rw [mem_blk24] at hi
    have b0 : win0_24.index t (0 : Fin 2) * 8 ≤ (i 0).val ∧ (i 0).val < win0_24.index t (0 : Fin 2) * 8 + 8 := hi 0
    have b1 : win0_24.index t (1 : Fin 2) * 5632 ≤ (i 1).val ∧ (i 1).val < win0_24.index t (1 : Fin 2) * 5632 + 5632 := hi 1
    obtain ⟨e0, e1, e2⟩ := idx_facts24 t
    omega
  · intro h
    have hi0 : (i 0).val < 8 := (i 0).isLt
    have hi1 : (i 1).val < 5632 := (i 1).isLt
    obtain ⟨t, hft, ht⟩ := idx_onto24 ⟨(i 0).val / 8 - 0, by omega⟩ ⟨(i 1).val / 5632 - 0, by omega⟩
    have q0 : win0_24.index t (0 : Fin 2) = (i 0).val / 8 - 0 + 0 := congrFun ht 0
    have q1 : win0_24.index t (1 : Fin 2) = (i 1).val / 5632 - 0 + 0 := congrFun ht 1
    refine ⟨t, hft, ?_⟩
    rw [mem_blk24]
    intro a
    match a with
    | ⟨0, _⟩ => show win0_24.index t (0 : Fin 2) * 8 ≤ (i 0).val ∧ (i 0).val < win0_24.index t (0 : Fin 2) * 8 + 8; omega
    | ⟨1, _⟩ => show win0_24.index t (1 : Fin 2) * 5632 ≤ (i 1).val ∧ (i 1).val < win0_24.index t (1 : Fin 2) * 5632 + 5632; omega

/-- THE ARRAY after the run: `G24` (the flushing blocks tile it). -/
theorem final24 (c : Dev nD) : (dats m 0 c).arrAt 24 cfg0.N = G24 m c :=
  (dats m 0 c).arrAt_eq_of_cover 24 _ (fun t hf => flushed24_eq m c t hf) (fun i => (covered_iff24 i).2 (by
    have h0 : (i 0).val < 8 := (i 0).isLt; have h1 : (i 1).val < 5632 := (i 1).isLt; omega))

/-- Output 24 is written back ONCE, at the last point, and its block is its array: the array after the run is output 24's
    component of the fold over the whole grid — where a hand proof over this window starts. -/
theorem G24_last (c : Dev nD) :
    G24 m c = (Pipeline.accAt (fun n h => stAt0 m c n h junk0) (stAt0 m c) 0 63 (lt_of_lt_of_eq (by decide) N_0.symm)).2.1 := by
  funext i
  have hi0 : (i 0).val < 8 := (i 0).isLt
  have hi1 : (i 1).val < 5632 := (i 1).isLt
  have hp : pt24Of i = 63 := by
    show 64 * (1 * ((i 0).val / 8 - 0) + 1 * ((i 1).val / 5632 - 0)) + 63 = _
    omega
  have hl : loc24Of i = i := by
    funext a; apply Fin.ext
    match a with
    | ⟨0, _⟩ => show (i 0).val % 8 = (i 0).val; omega
    | ⟨1, _⟩ => show (i 1).val % 5632 = (i 1).val; omega
  unfold G24
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v39_0) = G23 m c
      ∧ r.2.mem ((c : Thread nD τ).loc main_v39_1) = G24 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨(post23 m r h c).trans (final23 m c),
      (post24 m r h c).trans (final24 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c⟩)
    (run_main m ρ)

end Cert.MergeIdeal.Value

end
-- ==== Proof.Merge.Rows.lean ====
module

public import Idealize.ShloMosaic.Lib.Pointwise

@[expose] public section
noncomputable section
/-! # The merge and the channel mixer, row by row -/
namespace Cert.MergeIdeal.Mix
open Idealize.ShloMosaic

/-- Entry `k` of a normalised row: the entry over the root of the row's mean square, times the gain. -/
def rmsRow (v g : Fin 1024 → EReal) (k : Fin 1024) : EReal :=
  v k * Ideal.rsqrt (Ideal.div (∑ j, v j * v j) (Ideal.ofBits FTy.f32 1149239296#32) + Ideal.ofBits FTy.f32 897988541#32)
    * g k

/-- A row after the two branches are merged and added to it. -/
def hid (ya yb : Fin 512 → EReal) (mg : Fin 2048 → EReal) (x : Fin 1024 → EReal) (wa wb : Fin 512 → Fin 1024 → EReal)
    (wo : Fin 1024 → Fin 1024 → EReal) (e : Fin 1024) : EReal :=
  x e + ∑ k, (Ideal.logistic (mg ⟨k.val, by omega⟩) * ∑ j, ya j * wa j k
    + Ideal.logistic (mg ⟨1024 + k.val, by omega⟩) * ∑ j, yb j * wb j k) * wo k e

/-- The row before, or the carried one at the first row. -/
def shift1 (i : Fin 256) (t : EReal) (f : Fin 256 → EReal) : EReal := if i.val = 0 then t else f ⟨i.val - 1, by omega⟩
/-- The row two before, or a carried one at the first two rows. -/
def shift2 (i : Fin 256) (t' t : EReal) (f : Fin 256 → EReal) : EReal :=
  if i.val = 0 then t' else if i.val = 1 then t else f ⟨i.val - 2, by omega⟩

/-- A row after the channel mixer: the mixer's product added, then the gated embedding. -/
def mixed (h a : Fin 1024 → EReal) (p : Fin 256 → EReal) (wpe : Fin 256 → Fin 1024 → EReal) (n3 : Fin 1024 → EReal)
    (wpg : Fin 1024 → Fin 1024 → EReal) (e : Fin 1024) : EReal :=
  (h e + a e) + (∑ k, p k * wpe k e) * Ideal.logistic (∑ k, rmsRow (fun e => h e + a e) n3 k * wpg k e)
/-- Entry `e` of the up projection of a row `h`. -/
def upRow (h n2 : Fin 1024 → EReal) (wu : Fin 1024 → Fin 5632 → EReal) (e : Fin 5632) : EReal := ∑ k, rmsRow h n2 k * wu k e

/-- The convolution of three rows of the up projection. -/
def conv (cb : Fin 5632 → EReal) (cw : Fin 3 → Fin 5632 → EReal) (u2 u1 u : Fin 5632 → EReal) (e : Fin 5632) : EReal :=
  cb e + cw 0 e * u2 e + cw 1 e * u1 e + cw 2 e * u e

/-- The gated activation of a convolved row. -/
def act (c : Fin 5632 → EReal) (f : Fin 2816) : EReal :=
  c ⟨f.val, by omega⟩ * Ideal.logistic (c ⟨f.val, by omega⟩) * c ⟨2816 + f.val, by omega⟩

/-- A row of the result, from the merged row, its three rows of the up projection and its embedding. -/
def lastRow (h : Fin 1024 → EReal) (c : Fin 5632 → EReal) (p : Fin 256 → EReal) (wd : Fin 2816 → Fin 1024 → EReal) (n3 : Fin 1024 → EReal)
    (wpe : Fin 256 → Fin 1024 → EReal) (wpg : Fin 1024 → Fin 1024 → EReal) (fg : Fin 1024 → EReal) (e : Fin 1024) : EReal :=
  rmsRow (mixed h (fun e => ∑ f, act c f * wd f e) p wpe n3 wpg) fg e

end Cert.MergeIdeal.Mix
-- ==== Proof.Merge.Pay.lean ====
module

public import proofs.«01_k».proof.Proof.Gen.MergeIdeal.Skeleton
public import proofs.«01_k».proof.Proof.Merge.Rows
public import Idealize.ShloMosaic.Lib.Pointwise

@[expose] public section
set_option maxRecDepth 4096
set_option maxHeartbeats 400000
noncomputable section
/-! # The merge and the channel mixer: what the body of a grid point computes, entry by entry -/
namespace Cert.MergeIdeal.Mix
open Idealize.ShloMosaic Idealize.ShloMosaic.TcCoe Idealize.ShloMosaic.Tactic Cert.MergeIdeal.Gen

/-- A choice by whether a row is row `n`. -/
theorem cmp_eq (i : Fin 256) (n : ℕ) (hn : n < 256) (a b : EReal) :
    Scalar.select (IntOp.cmpi CmpIPredicate.eq (BitVec.ofNat 32 i.val) (BitVec.ofNat 32 n)) a b = if i.val = n then a else b := by
  have h : (BitVec.ofNat 32 i.val = BitVec.ofNat 32 n) ↔ i.val = n := by
    rw [← BitVec.toNat_inj]; simp [BitVec.toNat_ofNat]; omega
  by_cases hi : i.val = n
  · simp [Scalar.select, IntOp.cmpi, hi]
  · have hb : (BitVec.ofNat 32 i.val == BitVec.ofNat 32 n) = false := beq_eq_false_iff_ne.2 fun hc => hi (h.1 hc)
    simp [Scalar.select, IntOp.cmpi, hi, hb]

/-- A row taken from the row before it, the first from the carried row. -/
theorem sel1 (i : Fin 256) (t : EReal) (f : Fin 256 → EReal) (h) :
    Scalar.select (IntOp.cmpi CmpIPredicate.eq (BitVec.ofNat 32 i.val) 0#32) t (f ⟨(i.val + 256 - 1) % 256, h⟩) = shift1 i t f := by
  refine (cmp_eq i 0 (by omega) _ _).trans ?_
  unfold shift1
  split
  · rfl
  · exact congrArg f (Fin.ext (by dsimp only; omega))
/-- A row taken from the row two before it, the first two from the carried rows. -/
theorem sel2 (i : Fin 256) (t' t : EReal) (f : Fin 256 → EReal) (h) :
    Scalar.select (IntOp.cmpi CmpIPredicate.eq (BitVec.ofNat 32 i.val) 0#32) t'
      (Scalar.select (IntOp.cmpi CmpIPredicate.eq (BitVec.ofNat 32 i.val) 1#32) t (f ⟨(i.val + 256 - 2) % 256, h⟩)) = shift2 i t' t f := by
  refine (cmp_eq i 0 (by omega) _ _).trans ?_
  unfold shift2
  split
  · rfl
  · refine (cmp_eq i 1 (by omega) _ _).trans ?_
    split
    · rfl
    · exact congrArg f (Fin.ext (by dsimp only; omega))

section
variable (ya g : Vec Ideal S256x512 .f32) (mg : Vec Ideal S256x2048 .f32) (wa : Vec Ideal S512x1024 .bf16)
  (yb : Vec Ideal S256x512 .f32) (wb : Vec Ideal S512x1024 .bf16) (x : Vec Ideal S256x1024 .f32) (wo : Vec Ideal S1024x1024 .bf16)
/-- The merged rows of a block. -/
theorem pay3 (i : Fin 256) (e : Fin 1024) : k0_pay3 (F := Ideal) ya g mg wa yb wb x wo (ix2 i e)
    = hid (fun k => ya (ix2 i k) * g (ix2 i k)) (fun k => yb (ix2 i k)) (fun k => mg (ix2 i k)) (fun k => x (ix2 i k))
      (fun j k => wa (ix2 j k)) (fun j k => wb (ix2 j k)) (fun j k => wo (ix2 j k)) e := by
  unfold hid
  pointwise [k0_pay3]

/-- A merged row, normalised and times the gain. -/
theorem norm6 (n : Vec Ideal S1x1024 .f32) (i : Fin 256) (k : Fin 1024) :
    k0_pay6 (F := Ideal) (k0_pay4 n) (k0_pay5 ya g mg wa yb wb x wo) (ix2 i k)
      = rmsRow (fun k => k0_pay3 (F := Ideal) ya g mg wa yb wb x wo (ix2 i k)) (fun k => n (ix2 0 k)) k := by
  unfold rmsRow
  pointwise [k0_pay6, k0_pay4, k0_pay5]
end

/-- The first block of columns of the up projection. -/
theorem up9 (n : FVec Ideal S1x1024 .f32) (v : FVec Ideal S256x1024 .f32) (w : Vec Ideal S1024x1408 .bf16) (i : Fin 256) (e : Fin 1408) :
    k0_pay9 (F := Ideal) n v w (ix2 i e) = ∑ k, k0_pay6 (F := Ideal) n v (ix2 i k) * w (ix2 k e) := by
  pointwise [k0_pay9]
/-- The third block of columns of the up projection. -/
theorem up15 (v : FVec Ideal S256x1024 .bf16) (w : Vec Ideal S1024x1408 .bf16) (i : Fin 256) (e : Fin 1408) :
    k0_pay15 (F := Ideal) v w (ix2 i e) = ∑ k, v (ix2 i k) * w (ix2 k e) := by
  pointwise [k0_pay15]
/-- The second block of columns of the up projection. -/
theorem up20 (v : FVec Ideal S256x1024 .bf16) (w : Vec Ideal S1024x1408 .bf16) (i : Fin 256) (e : Fin 1408) :
    k0_pay20 (F := Ideal) v w (ix2 i e) = ∑ k, v (ix2 i k) * w (ix2 k e) := by
  pointwise [k0_pay20]
/-- The fourth block of columns of the up projection. -/
theorem up25 (v : FVec Ideal S256x1024 .bf16) (w : Vec Ideal S1024x1408 .bf16) (i : Fin 256) (e : Fin 1408) :
    k0_pay25 (F := Ideal) v w (ix2 i e) = ∑ k, v (ix2 i k) * w (ix2 k e) := by
  pointwise [k0_pay25]

/-- The first block of columns, one row down. -/
theorem pay10 (n : FVec Ideal S1x1024 .f32) (v : FVec Ideal S256x1024 .f32) (w : Vec Ideal S1024x1408 .bf16) (t : Vec Ideal S1x1408 .f32) (i : Fin 256) (e : Fin 1408) :
    k0_pay10 (F := Ideal) n v w t (ix2 i e) = shift1 i (t (ix2 0 e)) (fun i => k0_pay9 (F := Ideal) n v w (ix2 i e)) := by
  refine Eq.trans ?_ (sel1 i _ _ (by omega))
  pointwise [k0_pay10]
/-- The first block of columns, two rows down. -/
theorem pay11 (n : FVec Ideal S1x1024 .f32) (v : FVec Ideal S256x1024 .f32) (w : Vec Ideal S1024x1408 .bf16) (t t' : Vec Ideal S1x1408 .f32) (i : Fin 256) (e : Fin 1408) :
    k0_pay11 (F := Ideal) n v w t t' (ix2 i e) = shift2 i (t' (ix2 0 e)) (t (ix2 0 e)) (fun i => k0_pay9 (F := Ideal) n v w (ix2 i e)) := by
  refine Eq.trans ?_ (sel2 i _ _ _ (by omega))
  pointwise [k0_pay11]
/-- The number of each row of a block. -/
abbrev io : IVec S256x1408 32 := iota .tc S256x1408 32 [0] iota_S256x1408_d0_w32
/-- The third block of columns, one row down. -/
theorem pay16 (v : FVec Ideal S256x1024 .bf16) (w : Vec Ideal S1024x1408 .bf16) (t : Vec Ideal S1x1408 .f32) (i : Fin 256) (e : Fin 1408) :
    k0_pay16 (F := Ideal) v io w t (ix2 i e) = shift1 i (t (ix2 0 e)) (fun i => k0_pay15 (F := Ideal) v w (ix2 i e)) := by
  refine Eq.trans ?_ (sel1 i _ _ (by omega))
  pointwise [k0_pay16]
/-- The third block of columns, two rows down. -/
theorem pay17 (v : FVec Ideal S256x1024 .bf16) (w : Vec Ideal S1024x1408 .bf16) (t t' : Vec Ideal S1x1408 .f32) (i : Fin 256) (e : Fin 1408) :
    k0_pay17 (F := Ideal) v io w t t' (ix2 i e) = shift2 i (t' (ix2 0 e)) (t (ix2 0 e)) (fun i => k0_pay15 (F := Ideal) v w (ix2 i e)) := by
  refine Eq.trans ?_ (sel2 i _ _ _ (by omega))
  pointwise [k0_pay17]
/-- The second block of columns, one row down. -/
theorem pay21 (v : FVec Ideal S256x1024 .bf16) (w : Vec Ideal S1024x1408 .bf16) (t : Vec Ideal S1x1408 .f32) (i : Fin 256) (e : Fin 1408) :
    k0_pay21 (F := Ideal) v io w t (ix2 i e) = shift1 i (t (ix2 0 e)) (fun i => k0_pay20 (F := Ideal) v w (ix2 i e)) := by
  refine Eq.trans ?_ (sel1 i _ _ (by omega))
  pointwise [k0_pay21]
/-- The convolution of the first block of columns. -/
theorem pay14 (a b c : FVec Ideal S256x1408 .f32) (d e f g : FVec Ideal S1x1408 .f32) (i : Fin 256) (j : Fin 1408) :
   k0_pay14 (F := Ideal) a b c (k0_pay13 d) e f g (ix2 i j) = d (ix2 0 j) + e (ix2 0 j) * c (ix2 i j) + f (ix2 0 j) * b (ix2 i j) + g (ix2 0 j) * a (ix2 i j) := by
  pointwise [k0_pay14, k0_pay13]
/-- The product of the first half of the activation with the down projection. -/
theorem pay19 (a u u1 u2 : FVec Ideal S256x1408 .f32) (d e f g : FVec Ideal S1x1408 .f32) (wd : Vec Ideal S1408x1024 .bf16) (i : Fin 256) (j : Fin 1024) :
   k0_pay19 (F := Ideal) k0_pay8 a u u1 u2 d e f g wd (ix2 i j) = ∑ k, a (ix2 i k) * Ideal.logistic (a (ix2 i k)) * (d (ix2 0 k) + e (ix2 0 k) * u2 (ix2 i k) + f (ix2 0 k) * u1 (ix2 i k) + g (ix2 0 k) * u (ix2 i k)) * wd (ix2 k j) := by
  pointwise [k0_pay19, k0_pay8]
/-- The convolution of the second block of columns. -/
theorem pay24 (u : FVec Ideal S256x1408 .f32) (t t' : FVec Ideal S1x1408 .f32) (u1 : FVec Ideal S256x1408 .f32) (d e f g : FVec Ideal S1x1408 .f32) (i : Fin 256) (j : Fin 1408) :
   k0_pay24 (F := Ideal) io u t t' u1 (k0_pay22 io) d e f g (ix2 i j) = d (ix2 0 j) + e (ix2 0 j) * shift2 i (t' (ix2 0 j)) (t (ix2 0 j)) (fun i => u (ix2 i j)) + f (ix2 0 j) * u1 (ix2 i j) + g (ix2 0 j) * u (ix2 i j) := by
  rw [← sel2 i _ _ _ (by omega)]
  pointwise [k0_pay24, k0_pay22]
/-- The second half of the activation. -/
theorem pay28 (a u : FVec Ideal S256x1408 .f32) (t t' : FVec Ideal S1x1408 .f32) (d e f g : FVec Ideal S1x1408 .f32) (i : Fin 256) (j : Fin 1408) :
   k0_pay28 (F := Ideal) io a u t t' (k0_pay26 io) 1#32 d e f g (ix2 i j) = a (ix2 i j) * Ideal.logistic (a (ix2 i j)) * (d (ix2 0 j) + e (ix2 0 j) * shift2 i (t' (ix2 0 j)) (t (ix2 0 j)) (fun i => u (ix2 i j)) + f (ix2 0 j) * shift1 i (t (ix2 0 j)) (fun i => u (ix2 i j)) + g (ix2 0 j) * u (ix2 i j)) := by
  rw [← sel2 i _ _ _ (by omega), ← sel1 i _ _ (by omega)]
  pointwise [k0_pay28, k0_pay26]
/-- The rows after the channel mixer and the added embedding. -/
theorem pay30 (h acc : FVec Ideal S256x1024 .f32) (act : FVec Ideal S256x1408 .bf16) (wd : Vec Ideal S1408x1024 .bf16) (p : Vec Ideal S256x256 .f32) (wpe : Vec Ideal S256x1024 .bf16) (n3 : Vec Ideal S1x1024 .f32) (wpg : Vec Ideal S1024x1024 .bf16) (i : Fin 256) (e : Fin 1024) :
   k0_pay30 (F := Ideal) h acc act (k0_pay29 wd) (constant S256x1024 .f32 0x00000000#32) p wpe n3 wpg (ix2 i e) =
     mixed (fun e => h (ix2 i e)) (fun e => acc (ix2 i e) + ∑ k, act (ix2 i k) * wd (ix2 k e)) (fun k => p (ix2 i k)) (fun k e => wpe (ix2 k e)) (fun e => n3 (ix2 0 e)) (fun k e => wpg (ix2 k e)) e := by
  unfold mixed rmsRow
  pointwise [k0_pay30, k0_pay29]
/-- The last norm. -/
theorem pay1 (h acc : FVec Ideal S256x1024 .f32) (act : FVec Ideal S256x1408 .bf16) (wd : FVec Ideal S1408x1024 .bf16) (z : FVec Ideal S256x1024 .f32) (p : Vec Ideal S256x256 .f32) (wpe : Vec Ideal S256x1024 .bf16) (n3 : Vec Ideal S1x1024 .f32) (wpg : Vec Ideal S1024x1024 .bf16) (fg : Vec Ideal S1x1024 .f32) (i : Fin 256) (e : Fin 1024) :
   k0_pay1 (F := Ideal) (k0_pay30 h acc act wd z p wpe n3 wpg) (k0_pay31 fg) (k0_pay32 h acc act wd z p wpe n3 wpg) k0_pay33 (ix2 i e) = rmsRow (fun e => k0_pay30 (F := Ideal) h acc act wd z p wpe n3 wpg (ix2 i e)) (fun e => fg (ix2 0 e)) e := by
  unfold rmsRow
  pointwise [k0_pay1, k0_pay31, k0_pay32, k0_pay33]
end Cert.MergeIdeal.Mix
-- ==== Proof.Merge.Block.lean ====
module

public import proofs.«01_k».proof.Proof.Merge.Pay
public import Idealize.ShloMosaic.Lib.Pipeline.ValueKit

@[expose] public section
set_option maxRecDepth 4096
set_option maxHeartbeats 400000
noncomputable section
/-! # The merge and the channel mixer: one block of rows

What a grid point leaves of its 256 rows, and what it carries to the next, from its blocks and the carried rows. -/
namespace Cert.MergeIdeal.Mix
open Idealize.ShloMosaic Idealize.ShloMosaic.TcCoe Idealize.ShloMosaic.Tactic Cert.MergeIdeal.Gen

/-- The blocks a grid point works on. -/
structure Blk where
  x : Vec Ideal S256x1024 .f32
  y : Vec Ideal S256x512 .f32
  bo : Vec Ideal S256x512 .f32
  g : Vec Ideal S256x512 .f32
  yb : Vec Ideal S256x512 .f32
  mg : Vec Ideal S256x2048 .f32
  p : Vec Ideal S256x256 .f32
  lg : Vec Ideal S1x512 .f32
  lb : Vec Ideal S1x512 .f32
  bd : Vec Ideal S512x512 .bf16
  wa : Vec Ideal S512x1024 .bf16
  wb : Vec Ideal S512x1024 .bf16
  wo : Vec Ideal S1024x1024 .bf16
  n2 : Vec Ideal S1x1024 .f32
  wu : Vec Ideal S1024x5632 .bf16
  cw : Vec Ideal S3x5632 .f32
  cb : Vec Ideal S1x5632 .f32
  wd : Vec Ideal S2816x1024 .bf16
  n3 : Vec Ideal S1x1024 .f32
  wpe : Vec Ideal S256x1024 .bf16
  wpg : Vec Ideal S1024x1024 .bf16
  fg : Vec Ideal S1x1024 .f32

/-- An entry of a part of a two-axis array. -/
theorem ld2 {R C a b r c : ℕ} {e : EltTy} (X : (⟨2, ![R, C]⟩ : Shape).Idx → Elt Ideal e)
    (inb : ∀ k, (![r, c] : Fin 2 → ℕ) k + (![a, b] : Fin 2 → ℕ) k ≤ (⟨2, ![R, C]⟩ : Shape).size k) (i : Fin a) (j : Fin b)
    (hi : r + i.val < R) (hj : c + j.val < C) :
    View.ld X (Rect.unit (s := ⟨2, ![R, C]⟩) ![r, c] ![a, b] inb) (ix2 i j) = X (ix2 ⟨r + i.val, hi⟩ ⟨c + j.val, hj⟩) := by
  refine congrArg X (funext fun k => Fin.ext ?_)
  refine k.cases ?_ fun k => ?_
  · show r + 1 * i.val = _; simp
  · obtain rfl : k = 0 := Subsingleton.elim _ _
    show c + 1 * j.val = _; simp

/-- A carried entry, where the last of the writes is a block of columns. -/
theorem canon_cols {c : ℕ} (inb : ∀ k, (![0, c] : Fin 2 → ℕ) k + (![8, 1408] : Fin 2 → ℕ) k ≤ S8x5632.size k)
    (w : S8x1408.Idx → EReal) (L : List (View.Piece (Elt Ideal) S8x5632 .f32)) (i : Fin 8) (j : Fin 5632) :
    View.canon ((⟨Rect.unit (s := S8x5632) ![0, c] ![8, 1408] inb, w⟩ : View.Piece (Elt Ideal) S8x5632 .f32) :: L) (ix2 i j)
      = if h : c ≤ j.val ∧ j.val < c + 1408 then w (ix2 i ⟨j.val - c, by omega⟩) else View.canon L (ix2 i j) := by
  split
  · next h =>
    have he : (ix2 i j : S8x5632.Idx) = (Rect.unit (s := S8x5632) ![0, c] ![8, 1408] inb).emb (ix2 i ⟨j.val - c, by omega⟩ : S8x1408.Idx) := by
      funext k
      refine Fin.ext ?_
      refine k.cases ?_ fun k => ?_
      · show i.val = 0 + 1 * i.val; omega
      · obtain rfl : k = 0 := Subsingleton.elim _ _
        show j.val = c + 1 * (j.val - c); omega
    rw [he]
    exact View.canon_cons_emb (Rect.unit (s := S8x5632) ![0, c] ![8, 1408] inb) w L _
  · next h =>
    refine View.canon_cons_of_not_mem _ _ fun hm => h ?_
    exact (Rect.mem_set_unit (inb := inb)).1 hm 1

namespace Blk
variable (B : Blk) (K : Vec Ideal S8x5632 .f32)

/-- The normalised heads of the block. -/
def A : FVec Ideal S256x512 .f32 := k0_pay2 B.y B.bd B.bd B.lg B.lb B.bo
/-- The merged rows of the block. -/
def H : FVec Ideal S256x1024 .f32 := k0_pay3 B.A B.g B.mg B.wa B.yb B.wb B.x B.wo
/-- The same, over the root of their mean squares. -/
def R : FVec Ideal S256x1024 .f32 := k0_pay5 B.A B.g B.mg B.wa B.yb B.wb B.x B.wo
/-- The same, times the gain. -/
def N : FVec Ideal S256x1024 .bf16 := k0_pay6 (k0_pay4 B.n2) B.R

/-- The four blocks of columns of the up projection's weights. -/
def W0 : Vec Ideal S1024x1408 .bf16 := View.ld B.wu (Rect.unit ![0, 0] ![1024, 1408] inb_S1024x5632_S1024x1408_0_0)
/-- The second of them. -/
def W1 : Vec Ideal S1024x1408 .bf16 := View.ld B.wu (Rect.unit ![0, 1408] ![1024, 1408] inb_S1024x5632_S1024x1408_0_1408)
/-- The third of them. -/
def W2 : Vec Ideal S1024x1408 .bf16 := View.ld B.wu (Rect.unit ![0, 2816] ![1024, 1408] inb_S1024x5632_S1024x1408_0_2816)
/-- The fourth of them. -/
def W3 : Vec Ideal S1024x1408 .bf16 := View.ld B.wu (Rect.unit ![0, 4224] ![1024, 1408] inb_S1024x5632_S1024x1408_0_4224)

/-- The convolved first block of columns. -/
def conv0 : FVec Ideal S256x1408 .f32 :=
  k0_pay14 (k0_pay9 (k0_pay4 B.n2) B.R B.W0)
    (k0_pay10 (k0_pay4 B.n2) B.R B.W0 (View.ld K (Rect.unit ![7, 0] ![1, 1408] inb_S8x5632_S1x1408_7_0)))
    (k0_pay11 (k0_pay4 B.n2) B.R B.W0 (View.ld K (Rect.unit ![7, 0] ![1, 1408] inb_S8x5632_S1x1408_7_0))
      (View.ld K (Rect.unit ![6, 0] ![1, 1408] inb_S8x5632_S1x1408_6_0)))
    (k0_pay13 (View.ld B.cb (Rect.unit ![0, 0] ![1, 1408] inb_S1x5632_S1x1408_0_0)))
    (View.ld B.cw (Rect.unit ![0, 0] ![1, 1408] inb_S3x5632_S1x1408_0_0))
    (View.ld B.cw (Rect.unit ![1, 0] ![1, 1408] inb_S3x5632_S1x1408_1_0))
    (View.ld B.cw (Rect.unit ![2, 0] ![1, 1408] inb_S3x5632_S1x1408_2_0))

/-- The product with the first half of the down projection. -/
def acc0 : FVec Ideal S256x1024 .f32 :=
  k0_pay19 k0_pay8 (B.conv0 K) (k0_pay15 B.N B.W2)
    (k0_pay16 B.N io B.W2 (View.ld K (Rect.unit ![7, 2816] ![1, 1408] inb_S8x5632_S1x1408_7_2816)))
    (k0_pay17 B.N io B.W2 (View.ld K (Rect.unit ![7, 2816] ![1, 1408] inb_S8x5632_S1x1408_7_2816))
      (View.ld K (Rect.unit ![6, 2816] ![1, 1408] inb_S8x5632_S1x1408_6_2816)))
    (View.ld B.cb (Rect.unit ![0, 2816] ![1, 1408] inb_S1x5632_S1x1408_0_2816))
    (View.ld B.cw (Rect.unit ![0, 2816] ![1, 1408] inb_S3x5632_S1x1408_0_2816))
    (View.ld B.cw (Rect.unit ![1, 2816] ![1, 1408] inb_S3x5632_S1x1408_1_2816))
    (View.ld B.cw (Rect.unit ![2, 2816] ![1, 1408] inb_S3x5632_S1x1408_2_2816))
    (View.ld B.wd (Rect.unit ![0, 0] ![1408, 1024] inb_S2816x1024_S1408x1024_0_0))

/-- The convolved second block of columns. -/
def conv1 : FVec Ideal S256x1408 .f32 :=
  k0_pay24 io (k0_pay20 B.N B.W1) (View.ld K (Rect.unit ![7, 1408] ![1, 1408] inb_S8x5632_S1x1408_7_1408))
    (View.ld K (Rect.unit ![6, 1408] ![1, 1408] inb_S8x5632_S1x1408_6_1408))
    (k0_pay21 B.N io B.W1 (View.ld K (Rect.unit ![7, 1408] ![1, 1408] inb_S8x5632_S1x1408_7_1408))) (k0_pay22 io)
    (View.ld B.cb (Rect.unit ![0, 1408] ![1, 1408] inb_S1x5632_S1x1408_0_1408))
    (View.ld B.cw (Rect.unit ![0, 1408] ![1, 1408] inb_S3x5632_S1x1408_0_1408))
    (View.ld B.cw (Rect.unit ![1, 1408] ![1, 1408] inb_S3x5632_S1x1408_1_1408))
    (View.ld B.cw (Rect.unit ![2, 1408] ![1, 1408] inb_S3x5632_S1x1408_2_1408))

/-- The second half of the activation. -/
def act1 : FVec Ideal S256x1408 .bf16 :=
  k0_pay28 io (B.conv1 K) (k0_pay25 B.N B.W3) (View.ld K (Rect.unit ![7, 4224] ![1, 1408] inb_S8x5632_S1x1408_7_4224))
    (View.ld K (Rect.unit ![6, 4224] ![1, 1408] inb_S8x5632_S1x1408_6_4224)) (k0_pay26 io) 1#32
    (View.ld B.cb (Rect.unit ![0, 4224] ![1, 1408] inb_S1x5632_S1x1408_0_4224))
    (View.ld B.cw (Rect.unit ![0, 4224] ![1, 1408] inb_S3x5632_S1x1408_0_4224))
    (View.ld B.cw (Rect.unit ![1, 4224] ![1, 1408] inb_S3x5632_S1x1408_1_4224))
    (View.ld B.cw (Rect.unit ![2, 4224] ![1, 1408] inb_S3x5632_S1x1408_2_4224))

/-- The second half of the down projection's weights. -/
def D1 : Vec Ideal S1408x1024 .bf16 := View.ld B.wd (Rect.unit ![1408, 0] ![1408, 1024] inb_S2816x1024_S1408x1024_1408_0)

/-- The block of the result. -/
def out : FVec Ideal S256x1024 .f32 :=
  k0_pay1 (k0_pay30 B.H (B.acc0 K) (B.act1 K) (k0_pay29 B.D1) (constant S256x1024 FTy.f32 0#32) B.p B.wpe B.n3 B.wpg) (k0_pay31 B.fg)
    (k0_pay32 B.H (B.acc0 K) (B.act1 K) (k0_pay29 B.D1) (constant S256x1024 FTy.f32 0#32) B.p B.wpe B.n3 B.wpg) k0_pay33

/-- The carried rows as they are written, four blocks of columns, over earlier writes. -/
def pieces (L : List (View.Piece (Elt Ideal) S8x5632 .f32)) : List (View.Piece (Elt Ideal) S8x5632 .f32) :=
  ⟨Rect.unit ![0, 4224] ![8, 1408] inb_S8x5632_S8x1408_0_4224, k0_pay27 (k0_pay25 B.N B.W3)⟩
  :: ⟨Rect.unit ![0, 1408] ![8, 1408] inb_S8x5632_S8x1408_0_1408, k0_pay23 (k0_pay20 B.N B.W1)⟩
  :: ⟨Rect.unit ![0, 2816] ![8, 1408] inb_S8x5632_S8x1408_0_2816, k0_pay18 B.N B.W2⟩
  :: ⟨Rect.unit ![0, 0] ![8, 1408] inb_S8x5632_S8x1408_0_0, k0_pay12 (k0_pay4 B.n2) B.R B.W0⟩ :: L

/-- A merged row of the block. -/
def h (i : Fin 256) (e : Fin 1024) : EReal :=
  hid (fun k => B.A (ix2 i k) * B.g (ix2 i k)) (fun k => B.yb (ix2 i k)) (fun k => B.mg (ix2 i k)) (fun k => B.x (ix2 i k))
    (fun j k => B.wa (ix2 j k)) (fun j k => B.wb (ix2 j k)) (fun j k => B.wo (ix2 j k)) e
/-- A row of the block's up projection. -/
def u (i : Fin 256) (e : Fin 5632) : EReal := upRow (B.h i) (fun k => B.n2 (ix2 0 k)) (fun k e => B.wu (ix2 k e)) e
/-- A convolved row of the block. -/
def c (i : Fin 256) (e : Fin 5632) : EReal :=
  conv (fun e => B.cb (ix2 0 e)) (fun r e => B.cw (ix2 r e))
    (fun e => shift2 i (K (ix2 6 e)) (K (ix2 7 e)) (fun i => B.u i e)) (fun e => shift1 i (K (ix2 7 e)) (fun i => B.u i e)) (B.u i) e

/-- The merged rows, one by one. -/
theorem H_eq (i : Fin 256) (e : Fin 1024) : B.H (ix2 i e) = B.h i e := pay3 ..
/-- The normalised rows, one by one. -/
theorem N_eq (i : Fin 256) (k : Fin 1024) : B.N (ix2 i k) = rmsRow (B.h i) (fun k => B.n2 (ix2 0 k)) k :=
  (norm6 ..).trans (congrArg (fun v => rmsRow v _ k) (funext fun k => B.H_eq i k))

/-- A product of the normalised rows with a block of columns is a part of the up projection. -/
theorem up_eq (W : Vec Ideal S1024x1408 .bf16) (o : ℕ) (ho : o ≤ 4224)
    (hW : ∀ k (e : Fin 1408), W (ix2 k e) = B.wu (ix2 k ⟨o + e.val, by omega⟩)) (i : Fin 256) (e : Fin 1408) :
    ∑ k, B.N (ix2 i k) * W (ix2 k e) = B.u i ⟨o + e.val, by omega⟩ :=
  Finset.sum_congr rfl fun k _ => congrArg₂ (· * ·) (B.N_eq i k) (hW k e)

/-- The first block of columns of the weights. -/
theorem W0_eq (k : Fin 1024) (e : Fin 1408) : B.W0 (ix2 k e) = B.wu (ix2 k ⟨0 + e.val, by omega⟩) :=
  (ld2 B.wu _ k e (by omega) (by omega)).trans (congrArg (fun k => B.wu (ix2 k _)) (Fin.ext (Nat.zero_add _)))
/-- The second block of columns of the weights. -/
theorem W1_eq (k : Fin 1024) (e : Fin 1408) : B.W1 (ix2 k e) = B.wu (ix2 k ⟨1408 + e.val, by omega⟩) :=
  (ld2 B.wu _ k e (by omega) (by omega)).trans (congrArg (fun k => B.wu (ix2 k _)) (Fin.ext (Nat.zero_add _)))
/-- The third block of columns of the weights. -/
theorem W2_eq (k : Fin 1024) (e : Fin 1408) : B.W2 (ix2 k e) = B.wu (ix2 k ⟨2816 + e.val, by omega⟩) :=
  (ld2 B.wu _ k e (by omega) (by omega)).trans (congrArg (fun k => B.wu (ix2 k _)) (Fin.ext (Nat.zero_add _)))
/-- The fourth block of columns of the weights. -/
theorem W3_eq (k : Fin 1024) (e : Fin 1408) : B.W3 (ix2 k e) = B.wu (ix2 k ⟨4224 + e.val, by omega⟩) :=
  (ld2 B.wu _ k e (by omega) (by omega)).trans (congrArg (fun k => B.wu (ix2 k _)) (Fin.ext (Nat.zero_add _)))

/-- The first block of columns of the up projection. -/
theorem u0_eq (i : Fin 256) (e : Fin 1408) : k0_pay9 (F := Ideal) (k0_pay4 B.n2) B.R B.W0 (ix2 i e) = B.u i ⟨0 + e.val, by omega⟩ :=
  (up9 ..).trans (B.up_eq _ 0 (by omega) B.W0_eq i e)
/-- The second block of columns of the up projection. -/
theorem u1_eq (i : Fin 256) (e : Fin 1408) : k0_pay20 (F := Ideal) B.N B.W1 (ix2 i e) = B.u i ⟨1408 + e.val, by omega⟩ :=
  (up20 ..).trans (B.up_eq _ 1408 (by omega) B.W1_eq i e)
/-- The third block of columns of the up projection. -/
theorem u2_eq (i : Fin 256) (e : Fin 1408) : k0_pay15 (F := Ideal) B.N B.W2 (ix2 i e) = B.u i ⟨2816 + e.val, by omega⟩ :=
  (up15 ..).trans (B.up_eq _ 2816 (by omega) B.W2_eq i e)
/-- The fourth block of columns of the up projection. -/
theorem u3_eq (i : Fin 256) (e : Fin 1408) : k0_pay25 (F := Ideal) B.N B.W3 (ix2 i e) = B.u i ⟨4224 + e.val, by omega⟩ :=
  (up25 ..).trans (B.up_eq _ 4224 (by omega) B.W3_eq i e)

/-- A convolved entry of a block of columns. -/
theorem c_eq (i : Fin 256) (e : Fin 1408) (o : ℕ) (ho : o ≤ 4224) (d w0 w1 w2 t t' : Vec Ideal S1x1408 .f32) (v : FVec Ideal S256x1408 .f32)
    (hd : d (ix2 0 e) = B.cb (ix2 0 ⟨o + e.val, by omega⟩)) (h0 : w0 (ix2 0 e) = B.cw (ix2 0 ⟨o + e.val, by omega⟩))
    (h1 : w1 (ix2 0 e) = B.cw (ix2 1 ⟨o + e.val, by omega⟩)) (h2 : w2 (ix2 0 e) = B.cw (ix2 2 ⟨o + e.val, by omega⟩))
    (ht : t (ix2 0 e) = K (ix2 7 ⟨o + e.val, by omega⟩)) (ht' : t' (ix2 0 e) = K (ix2 6 ⟨o + e.val, by omega⟩))
    (hv : ∀ i, v (ix2 i e) = B.u i ⟨o + e.val, by omega⟩) :
    d (ix2 0 e) + w0 (ix2 0 e) * shift2 i (t' (ix2 0 e)) (t (ix2 0 e)) (fun i => v (ix2 i e))
      + w1 (ix2 0 e) * shift1 i (t (ix2 0 e)) (fun i => v (ix2 i e)) + w2 (ix2 0 e) * v (ix2 i e) = B.c K i ⟨o + e.val, by omega⟩ := by
  rw [hd, h0, h1, h2, ht, ht', hv i, show (fun i => v (ix2 i e)) = fun i => B.u i ⟨o + e.val, by omega⟩ from funext hv]
  rfl

/-- The convolved first block is a part of the convolved rows. -/
theorem conv0_eq (i : Fin 256) (e : Fin 1408) : B.conv0 K (ix2 i e) = B.c K i ⟨0 + e.val, by omega⟩ := by
  unfold conv0
  rw [pay14, pay10, pay11]
  exact B.c_eq K i e 0 (by omega) _ _ _ _ _ _ _ (ld2 B.cb _ 0 e (by omega) (by omega)) (ld2 B.cw _ 0 e (by omega) (by omega))
    (ld2 B.cw _ 0 e (by omega) (by omega)) (ld2 B.cw _ 0 e (by omega) (by omega)) (ld2 K _ 0 e (by omega) (by omega))
    (ld2 K _ 0 e (by omega) (by omega)) fun i => B.u0_eq i e

/-- The convolved second block is a part of the convolved rows. -/
theorem conv1_eq (i : Fin 256) (e : Fin 1408) : B.conv1 K (ix2 i e) = B.c K i ⟨1408 + e.val, by omega⟩ := by
  unfold conv1
  rw [pay24, pay21]
  exact B.c_eq K i e 1408 (by omega) _ _ _ _ _ _ _ (ld2 B.cb _ 0 e (by omega) (by omega)) (ld2 B.cw _ 0 e (by omega) (by omega))
    (ld2 B.cw _ 0 e (by omega) (by omega)) (ld2 B.cw _ 0 e (by omega) (by omega)) (ld2 K _ 0 e (by omega) (by omega))
    (ld2 K _ 0 e (by omega) (by omega)) fun i => B.u1_eq i e

/-- The first half of the product with the down projection. -/
theorem acc0_eq (i : Fin 256) (j : Fin 1024) :
    B.acc0 K (ix2 i j) = ∑ f : Fin 1408, act (B.c K i) ⟨f.val, by omega⟩ * B.wd (ix2 ⟨f.val, by omega⟩ j) := by
  unfold acc0
  rw [pay19]
  refine Finset.sum_congr rfl fun f _ => ?_
  rw [pay16, pay17]
  refine congrArg₂ (· * ·) ((congrArg₂ (fun a b => a * Ideal.logistic a * b) (B.conv0_eq K i f) (B.c_eq K i f 2816 (by omega) _ _ _ _ _ _ _
    (by exact ld2 B.cb _ 0 f (by omega) (by omega)) (by exact ld2 B.cw _ 0 f (by omega) (by omega))
    (by exact ld2 B.cw _ 0 f (by omega) (by omega)) (by exact ld2 B.cw _ 0 f (by omega) (by omega)) (by exact ld2 K _ 0 f (by omega) (by omega))
    (by exact ld2 K _ 0 f (by omega) (by omega)) fun i => B.u2_eq i f)).trans ?_) ((ld2 B.wd _ f j (by omega) (by omega)).trans ?_)
  · unfold act
    simp only [Nat.zero_add]
  · congr 2 <;> exact Fin.ext (Nat.zero_add _)

/-- The second half of the activation, one entry. -/
theorem act1_eq (i : Fin 256) (f : Fin 1408) : B.act1 K (ix2 i f) = act (B.c K i) ⟨1408 + f.val, by omega⟩ := by
  unfold act1
  rw [pay28]
  refine (congrArg₂ (fun a b => a * Ideal.logistic a * b) (B.conv1_eq K i f) (B.c_eq K i f 4224 (by omega) _ _ _ _ _ _ _
    (by exact ld2 B.cb _ 0 f (by omega) (by omega)) (by exact ld2 B.cw _ 0 f (by omega) (by omega))
    (by exact ld2 B.cw _ 0 f (by omega) (by omega)) (by exact ld2 B.cw _ 0 f (by omega) (by omega)) (by exact ld2 K _ 0 f (by omega) (by omega))
    (by exact ld2 K _ 0 f (by omega) (by omega)) fun i => B.u3_eq i f)).trans ?_
  unfold act
  exact congrArg (fun e => _ * B.c K i e) (Fin.ext (by dsimp only; omega))

/-- A row of the block of the result. -/
theorem out_eq (i : Fin 256) (e : Fin 1024) :
    B.out K (ix2 i e) = lastRow (B.h i) (B.c K i) (fun k => B.p (ix2 i k)) (fun f e => B.wd (ix2 f e)) (fun e => B.n3 (ix2 0 e))
      (fun k e => B.wpe (ix2 k e)) (fun k e => B.wpg (ix2 k e)) (fun e => B.fg (ix2 0 e)) e := by
  unfold out lastRow
  rw [pay1]
  refine congrArg (fun v => rmsRow v _ e) (funext fun e => ?_)
  rw [pay30]
  refine congrArg₂ (fun h a => mixed h a _ _ _ _ e) (funext fun e => B.H_eq i e) (funext fun e => ?_)
  rw [acc0_eq, Fin.sum_univ_add (a := 1408) (b := 1408)]
  refine congrArg₂ (· + ·) rfl (Finset.sum_congr rfl fun f _ => congrArg₂ (· * ·) (B.act1_eq K i f) ?_)
  refine (ld2 B.wd _ f e (by omega) (by omega)).trans ?_
  congr 2 <;> exact Fin.ext (by simp)

/-- The first block of columns of the carried rows. -/
theorem carry0 (n : FVec Ideal S1x1024 .f32) (v : FVec Ideal S256x1024 .f32) (w : Vec Ideal S1024x1408 .bf16) (i : Fin 8) (e : Fin 1408) :
    k0_pay12 (F := Ideal) n v w (ix2 i e) = k0_pay9 (F := Ideal) n v w (ix2 ⟨248 + i.val, by omega⟩ e) := by
  pointwise [k0_pay12]
/-- The third block of columns of the carried rows. -/
theorem carry2 (v : FVec Ideal S256x1024 .bf16) (w : Vec Ideal S1024x1408 .bf16) (i : Fin 8) (e : Fin 1408) :
    k0_pay18 (F := Ideal) v w (ix2 i e) = k0_pay15 (F := Ideal) v w (ix2 ⟨248 + i.val, by omega⟩ e) := by
  pointwise [k0_pay18]
/-- The second block of columns of the carried rows. -/
theorem carry1 (v : FVec Ideal S256x1408 .f32) (i : Fin 8) (e : Fin 1408) :
    k0_pay23 (F := Ideal) v (ix2 i e) = v (ix2 ⟨248 + i.val, by omega⟩ e) := by
  pointwise [k0_pay23]
/-- The fourth block of columns of the carried rows. -/
theorem carry3 (v : FVec Ideal S256x1408 .f32) (i : Fin 8) (e : Fin 1408) :
    k0_pay27 (F := Ideal) v (ix2 i e) = v (ix2 ⟨248 + i.val, by omega⟩ e) := by
  pointwise [k0_pay27]

/-- The carried rows are the last eight of the block's up projection. -/
theorem pieces_eq (L : List (View.Piece (Elt Ideal) S8x5632 .f32)) (i : Fin 8) (e : Fin 5632) :
    View.canon (B.pieces L) (ix2 i e) = B.u ⟨248 + i.val, by omega⟩ e := by
  unfold pieces
  rw [canon_cols]
  split
  · next h => rw [carry3, u3_eq]; exact congrArg _ (Fin.ext (by dsimp only; omega))
  rw [canon_cols]
  split
  · next h => rw [carry1, u1_eq]; exact congrArg _ (Fin.ext (by dsimp only; omega))
  rw [canon_cols]
  split
  · next h => rw [carry2, u2_eq]; exact congrArg _ (Fin.ext (by dsimp only; omega))
  rw [canon_cols, dif_pos (by omega), carry0, u0_eq]
  exact congrArg _ (Fin.ext (by dsimp only; omega))

end Blk
/-- The first grid point carries in nothing but zeros. -/
theorem zeros (i : Fin 8) (e : Fin 5632) : k0_pay7 (F := Ideal) (ix2 i e) = 0 := by
  pointwise [k0_pay7]
end Cert.MergeIdeal.Mix
-- ==== Proof.Merge.Outs.lean ====
module

public import proofs.«01_k».proof.Proof.Merge.Ideal.Frame
public import proofs.«01_k».proof.Proof.Merge.Block
public import Idealize.ShloMosaic.Lib.Pipeline.ReadBack
public import Idealize.ShloMosaic.Lib.Pipeline.ValueKit

@[expose] public section
set_option maxRecDepth 4096
set_option maxHeartbeats 1600000
noncomputable section
/-! # The merge and the channel mixer: what a grid point leaves

A grid point leaves its block of the result and, both in the carried rows and in the second result, the last eight rows
of its up projection. The first grid point starts from zeros, any other from the rows the one before carried. -/
namespace Cert.MergeIdeal.Mix
open Idealize.ShloMosaic Idealize.ShloMosaic.TcCoe Idealize.ShloMosaic.Tactic Cert.MergeIdeal.Gen
variable (m : (ℓ : Loc nD τ sig) → Buf (Elt Ideal) ℓ) (c : Dev nD)

/-- The blocks of a grid point. -/
def blkAt (t : Fin cfg0.N) : Blk where
  x := iblk m c 0 t
  y := iblk m c 1 t
  bo := iblk m c 2 t
  g := iblk m c 3 t
  yb := iblk m c 4 t
  mg := iblk m c 5 t
  p := iblk m c 6 t
  lg := iblk m c 8 t
  lb := iblk m c 9 t
  bd := iblk m c 10 t
  wa := iblk m c 11 t
  wb := iblk m c 12 t
  wo := iblk m c 13 t
  n2 := iblk m c 14 t
  wu := iblk m c 15 t
  cw := iblk m c 16 t
  cb := iblk m c 17 t
  wd := iblk m c 18 t
  n3 := iblk m c 19 t
  wpe := iblk m c 20 t
  wpg := iblk m c 21 t
  fg := iblk m c 22 t

/-- The first grid point's block of the result. -/
theorem out_first (t : Fin cfg0.N) (h0 : t.val % 64 = 0) :
    (outsAt0 m c t.val t.isLt).1 = (blkAt m c t).out (k0_pay7 (F := Ideal)) := by
  rw [Gen.outsAt0_A m c t h0]
  dsimp only
  frame_open
  simp (disch := decide) only [↓ View.readCov_skip, ↓ View.readCov_cons_toLoadRect, ↓ View.readCov_fill]
  frame_out
  unfold Blk.out Blk.acc0 Blk.act1 Blk.conv0 Blk.conv1 Blk.D1 Blk.W0 Blk.W1 Blk.W2 Blk.W3 Blk.N Blk.R Blk.H Blk.A blkAt io
  dsimp only

/-- Any other grid point's. -/
theorem out_next (t : Fin cfg0.N) (h0 : ¬ t.val % 64 = 0) :
    (outsAt0 m c t.val t.isLt).1 = (blkAt m c t).out (outsAt0 m c (t.val - 1) (by omega)).2.2 := by
  rw [Gen.outsAt0_B m c t h0]
  dsimp only
  frame_open
  simp (disch := decide) only [↓ View.readCov_skip, ↓ View.readCov_cons_toLoadRect, ↓ View.readCov_fill]
  frame_out
  simp only [read_unread_whole]
  unfold Blk.out Blk.acc0 Blk.act1 Blk.conv0 Blk.conv1 Blk.D1 Blk.W0 Blk.W1 Blk.W2 Blk.W3 Blk.N Blk.R Blk.H Blk.A blkAt io
  dsimp only

/-- The first grid point's carried rows. -/
theorem carry_first (t : Fin cfg0.N) (h0 : t.val % 64 = 0) :
    ∃ L, (outsAt0 m c t.val t.isLt).2.2 = View.canon ((blkAt m c t).pieces L) := by
  rw [Gen.outsAt0_A m c t h0]
  dsimp only
  frame_open
  simp (disch := decide) only [↓ View.readCov_skip, ↓ View.readCov_cons_toLoadRect, ↓ View.readCov_fill]
  frame_out
  unfold Blk.pieces Blk.W0 Blk.W1 Blk.W2 Blk.W3 Blk.N Blk.R Blk.A blkAt
  dsimp only
  exact ⟨_, rfl⟩

/-- Any other grid point's. -/
theorem carry_next (t : Fin cfg0.N) (h0 : ¬ t.val % 64 = 0) :
    ∃ L, (outsAt0 m c t.val t.isLt).2.2 = View.canon ((blkAt m c t).pieces L) := by
  rw [Gen.outsAt0_B m c t h0]
  dsimp only
  frame_open
  simp (disch := decide) only [↓ View.readCov_skip, ↓ View.readCov_cons_toLoadRect, ↓ View.readCov_fill]
  frame_out
  unfold Blk.pieces Blk.W0 Blk.W1 Blk.W2 Blk.W3 Blk.N Blk.R Blk.A blkAt
  dsimp only
  exact ⟨_, rfl⟩

/-- The second result's block, of a grid point that is not the first: the carried rows, read back whole. -/
theorem tail_next (t : Fin cfg0.N) (h0 : ¬ t.val % 64 = 0) :
    ∃ L, (outsAt0 m c t.val t.isLt).2.1 = (View.whole cc0_scratch0).readCov ((blkAt m c t).pieces L)
      (Rect.unit ![0, 0] ![8, 5632] inb_S8x5632_S8x5632_0_0).toLoadRect := by
  rw [Gen.outsAt0_B m c t h0]
  dsimp only
  frame_open
  simp (disch := decide) only [↓ View.readCov_skip, ↓ View.readCov_cons_toLoadRect, ↓ View.readCov_fill]
  frame_out
  unfold Blk.pieces Blk.W0 Blk.W1 Blk.W2 Blk.W3 Blk.N Blk.R Blk.A blkAt
  dsimp only
  exact ⟨_, rfl⟩

/-- The carried rows are the last eight of the grid point's up projection. -/
theorem carry_eq (t : Fin cfg0.N) (i : Fin 8) (e : Fin 5632) :
    (outsAt0 m c t.val t.isLt).2.2 (ix2 i e) = (blkAt m c t).u ⟨248 + i.val, by omega⟩ e := by
  obtain ⟨L, h⟩ : ∃ L, (outsAt0 m c t.val t.isLt).2.2 = View.canon ((blkAt m c t).pieces L) :=
    if h0 : t.val % 64 = 0 then carry_first m c t h0 else carry_next m c t h0
  rw [h]
  exact (blkAt m c t).pieces_eq L i e

/-- The second result's block likewise. -/
theorem tail_eq (t : Fin cfg0.N) (h0 : ¬ t.val % 64 = 0) (i : Fin 8) (e : Fin 5632) :
    (outsAt0 m c t.val t.isLt).2.1 (ix2 i e) = (blkAt m c t).u ⟨248 + i.val, by omega⟩ e := by
  obtain ⟨L, h⟩ := tail_next m c t h0
  rw [h, View.readCov_eq_canon']
  refine Eq.trans (congrArg (View.canon _) (?_ : _ = ix2 i e)) ((blkAt m c t).pieces_eq L i e)
  funext k
  refine Fin.ext ?_
  refine k.cases ?_ fun k => ?_
  · show 0 + 1 * i.val = i.val; omega
  · obtain rfl : k = 0 := Subsingleton.elim _ _
    show 0 + 1 * e.val = e.val; omega
end Cert.MergeIdeal.Mix
-- ==== Proof.Merge.Heads.lean ====
module

public import proofs.«01_k».proof.Proof.Gen.MergeIdeal.Skeleton
public import Idealize.ShloMosaic.Lib.Pointwise
public import Idealize.ShloMosaic.Lib.IdealHost

@[expose] public section
set_option maxRecDepth 4096
set_option maxHeartbeats 400000
noncomputable section
/-! # The merge: the heads' normalisation

The kernel takes a head's mean as a product with a matrix that holds one where two columns are of the same head. -/
namespace Cert.MergeIdeal.Mix
open Idealize.ShloMosaic Idealize.ShloMosaic.TcCoe Idealize.ShloMosaic.Tactic Cert.MergeIdeal.Gen

/-- The mean of the head a column is in. -/
def headMean (v : Fin 512 → EReal) (e : Fin 512) : EReal :=
  Ideal.div (∑ d : Fin 64, v ⟨e.val / 64 * 64 + d.val, by omega⟩) (Ideal.ofBits FTy.f32 1115684864#32)

/-- An entry less its head's mean. -/
def headDev (v : Fin 512 → EReal) (e : Fin 512) : EReal := v e - headMean v e

/-- A normalised entry: less its head's mean, over the root of the head's variance. -/
def headNorm (v : Fin 512 → EReal) (e : Fin 512) : EReal :=
  headDev v e * Ideal.rsqrt (headMean (fun x => headDev v x * headDev v x) e + Ideal.ofBits FTy.f32 975685036#32)

/-- An entry that is a real number. -/
def IsReal (a : EReal) : Prop := ∃ r : ℝ, a = r

/-- A real number less itself is zero. -/
theorem IsReal.sub_self {a : EReal} (h : IsReal a) : a - a = 0 := by
  obtain ⟨r, rfl⟩ := h
  rw [← EReal.coe_sub, _root_.sub_self, EReal.coe_zero]

/-- A difference of real numbers is one. -/
theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- A product of real numbers is one. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- The word of 64. -/
theorem ofBits_64 : Ideal.ofBits FTy.f32 1115684864#32 = ((64 : ℝ) : EReal) := by
  simp [Ideal.ofBits, Ideal.ieee, -EReal.coe_mul]; norm_num
/-- The word of 1/64. -/
theorem ofBits_64th : Ideal.ofBits FTy.f32 1015021568#32 = ((1 / 64 : ℝ) : EReal) := by
  simp [Ideal.ofBits, Ideal.ieee, -EReal.coe_mul]; norm_num

/-- A mean by dividing is one by multiplying with 1/64. -/
theorem headMean_eq (v : Fin 512 → EReal) (e : Fin 512) :
    headMean v e = (∑ d : Fin 64, v ⟨e.val / 64 * 64 + d.val, by omega⟩) * Ideal.ofBits FTy.f32 1015021568#32 := by
  unfold headMean
  rw [ofBits_64, ofBits_64th, Ideal.div_coe (by norm_num)]

/-- The mean of real numbers is one. -/
theorem IsReal.headMean {v : Fin 512 → EReal} (h : ∀ e, IsReal (v e)) (e : Fin 512) : IsReal (headMean v e) := by
  rw [headMean_eq, ofBits_64th]
  refine IsReal.mul ?_ ⟨_, rfl⟩
  refine Finset.sum_induction _ IsReal ?_ ⟨0, EReal.coe_zero.symm⟩ fun d _ => h _
  rintro _ _ ⟨r, rfl⟩ ⟨s, rfl⟩
  exact ⟨r + s, (EReal.coe_add r s).symm⟩

/-- A sum over all columns that keeps those of one head. -/
theorem head_sum (f : Fin 512 → EReal) (e : Fin 512) :
    ∑ x : Fin 512, f x * (if x.val / 64 = e.val / 64 then 1 else 0) = ∑ d : Fin 64, f ⟨e.val / 64 * 64 + d.val, by omega⟩ := by
  refine (Finset.sum_of_injOn (fun d : Fin 64 => (⟨e.val / 64 * 64 + d.val, by omega⟩ : Fin 512)) ?_ (fun _ _ => Finset.mem_coe.2 (Finset.mem_univ _)) ?_ ?_).symm
  · intro a _ b _ h
    have := congrArg Fin.val h
    exact Fin.ext (by dsimp only at this; omega)
  · intro x _ hx
    rw [if_neg, mul_zero]
    intro h
    exact hx ⟨⟨x.val % 64, by omega⟩, Finset.mem_coe.2 (Finset.mem_univ _), Fin.ext (by dsimp only; omega)⟩
  · intro d _
    rw [if_pos (by dsimp only; omega), mul_one]

/-- The kernel's two products, of the rounded entries and of what rounding leaves, are the mean of real entries. -/
theorem head_two (f : Fin 512 → EReal) (hf : ∀ x, IsReal (f x)) (bd : Vec Ideal S512x512 .bf16)
    (hbd : ∀ j k, bd (ix2 j k) = if j.val / 64 = k.val / 64 then 1 else 0) (e : Fin 512) :
    (∑ x, f x * bd (ix2 x e) + ∑ x, (f x - f x) * bd (ix2 x e)) * Ideal.ofBits FTy.f32 1015021568#32 = headMean f e := by
  rw [headMean_eq, ← head_sum]
  have h0 : ∑ x, (f x - f x) * bd (ix2 x e) = 0 := Finset.sum_eq_zero fun x _ => by rw [(hf x).sub_self, zero_mul]
  rw [h0, add_zero]
  simp only [hbd]

/-- The normalised heads of a block of rows, with the bonus. -/
theorem pay2 (y : Vec Ideal S256x512 .f32) (bd : Vec Ideal S512x512 .bf16) (lg lb : Vec Ideal S1x512 .f32)
    (bo : Vec Ideal S256x512 .f32) (i : Fin 256) (hy : ∀ x, IsReal (y (ix2 i x)))
    (hbd : ∀ j k, bd (ix2 j k) = if j.val / 64 = k.val / 64 then 1 else 0) (e : Fin 512) :
    k0_pay2 (F := Ideal) y bd bd lg lb bo (ix2 i e)
      = headNorm (fun x => y (ix2 i x)) e * lg (ix2 0 e) + lb (ix2 0 e) + bo (ix2 i e) := by
  have hm := head_two _ hy bd hbd
  have hd : ∀ x, IsReal (headDev (fun x => y (ix2 i x)) x) := fun x => (hy x).sub (IsReal.headMean hy x)
  have hv := head_two _ (fun x => (hd x).mul (hd x)) bd hbd
  unfold headDev at hv
  unfold headNorm headDev
  rw [← hv e]
  simp only [← hm]
  pointwise [k0_pay2]
end Cert.MergeIdeal.Mix
-- ==== Proof.Merge.Spec.lean ====
module

public import proofs.«01_k».proof.Proof.Merge.Rows
public import proofs.«01_k».proof.Proof.Merge.Heads

@[expose] public section
noncomputable section
/-! # The merge and the channel mixer: the two results

Written once, in the arguments' entries; the kernel and the reference are each shown to hold them. -/
namespace Cert.MergeIdeal.Mix
open Idealize.ShloMosaic

/-- The arguments' entries. -/
structure In where
  x : Fin 16384 → Fin 1024 → EReal
  y : Fin 16384 → Fin 512 → EReal
  bo : Fin 16384 → Fin 512 → EReal
  g : Fin 16384 → Fin 512 → EReal
  yb : Fin 16384 → Fin 512 → EReal
  mg : Fin 16384 → Fin 2048 → EReal
  p : Fin 16384 → Fin 256 → EReal
  lg : Fin 512 → EReal
  lb : Fin 512 → EReal
  wa : Fin 512 → Fin 1024 → EReal
  wb : Fin 512 → Fin 1024 → EReal
  wo : Fin 1024 → Fin 1024 → EReal
  n2 : Fin 1024 → EReal
  wu : Fin 1024 → Fin 5632 → EReal
  cw : Fin 3 → Fin 5632 → EReal
  cb : Fin 5632 → EReal
  wd : Fin 2816 → Fin 1024 → EReal
  n3 : Fin 1024 → EReal
  wpe : Fin 256 → Fin 1024 → EReal
  wpg : Fin 1024 → Fin 1024 → EReal
  fg : Fin 1024 → EReal

namespace In

/-- The entries of the argument arrays. -/
def ofArgs (a0 : (⟨3, ![1, 16384, 1024]⟩ : Shape).Idx → EReal) (a1 : (⟨3, ![1, 16384, 512]⟩ : Shape).Idx → EReal)
    (a2 a3 a4 : (⟨2, ![16384, 512]⟩ : Shape).Idx → EReal) (a5 : (⟨2, ![16384, 2048]⟩ : Shape).Idx → EReal)
    (a6 : (⟨4, ![1, 1, 16384, 256]⟩ : Shape).Idx → EReal) (a7 a8 : (⟨2, ![1, 512]⟩ : Shape).Idx → EReal)
    (a9 a10 : (⟨3, ![1, 512, 1024]⟩ : Shape).Idx → EReal) (a11 : (⟨3, ![1, 1024, 1024]⟩ : Shape).Idx → EReal)
    (a12 : (⟨2, ![1, 1024]⟩ : Shape).Idx → EReal) (a13 : (⟨3, ![1, 1024, 5632]⟩ : Shape).Idx → EReal)
    (a14 : (⟨3, ![1, 3, 5632]⟩ : Shape).Idx → EReal) (a15 : (⟨2, ![1, 5632]⟩ : Shape).Idx → EReal)
    (a16 : (⟨3, ![1, 2816, 1024]⟩ : Shape).Idx → EReal) (a17 : (⟨2, ![1, 1024]⟩ : Shape).Idx → EReal)
    (a18 : (⟨3, ![1, 256, 1024]⟩ : Shape).Idx → EReal) (a19 : (⟨3, ![1, 1024, 1024]⟩ : Shape).Idx → EReal)
    (a20 : (⟨1, ![1024]⟩ : Shape).Idx → EReal) : In where
  x n k := a0 (ix3 0 n k)
  y n k := a1 (ix3 0 n k)
  bo n k := a2 (ix2 n k)
  g n k := a3 (ix2 n k)
  yb n k := a4 (ix2 n k)
  mg n k := a5 (ix2 n k)
  p n k := a6 (ix4 0 0 n k)
  lg k := a7 (ix2 0 k)
  lb k := a8 (ix2 0 k)
  wa j k := a9 (ix3 0 j k)
  wb j k := a10 (ix3 0 j k)
  wo j k := a11 (ix3 0 j k)
  n2 k := a12 (ix2 0 k)
  wu k e := a13 (ix3 0 k e)
  cw r e := a14 (ix3 0 r e)
  cb e := a15 (ix2 0 e)
  wd f e := a16 (ix3 0 f e)
  n3 e := a17 (ix2 0 e)
  wpe k e := a18 (ix3 0 k e)
  wpg k e := a19 (ix3 0 k e)
  fg e := a20 (ix1 e)

variable (I : In)

/-- A merged row. -/
def h (n : Fin 16384) (e : Fin 1024) : EReal :=
  hid (fun k => (headNorm (I.y n) k * I.lg k + I.lb k + I.bo n k) * I.g n k) (I.yb n) (I.mg n) (I.x n) I.wa I.wb I.wo e
/-- A row of the up projection. -/
def u (n : Fin 16384) (e : Fin 5632) : EReal := upRow (I.h n) I.n2 I.wu e
/-- The row `k` before, zero where there is none. -/
def prev (k : ℕ) (n : Fin 16384) (e : Fin 5632) : EReal := if h : n.val < k then 0 else I.u ⟨n.val - k, by omega⟩ e
/-- A convolved row. -/
def c (n : Fin 16384) (e : Fin 5632) : EReal := conv I.cb I.cw (I.prev 2 n) (I.prev 1 n) (I.u n) e
/-- A row of the first result. -/
def res (n : Fin 16384) (e : Fin 1024) : EReal := lastRow (I.h n) (I.c n) (I.p n) I.wd I.n3 I.wpe I.wpg I.fg e
/-- A row of the second result: one of the last eight of the up projection. -/
def tail (i : Fin 8) (e : Fin 5632) : EReal := I.u ⟨16376 + i.val, by omega⟩ e

end In
end Cert.MergeIdeal.Mix
-- ==== Proof.Merge.Ops.lean ====
module

public import proofs.«01_k».proof.Proof.Merge.Outs
public import proofs.«01_k».proof.Proof.Merge.Spec
public import Idealize.ShloMosaic.Lib.Pipeline.ValueKit
public import Idealize.ShloMosaic.Lib.Pointwise

@[expose] public section
set_option maxRecDepth 4096
set_option maxHeartbeats 1600000
noncomputable section
/-! # The merge and the channel mixer: the operands

The kernel's operands, and a grid point's blocks of them, hold the arguments' entries. -/
namespace Cert.MergeIdeal.Mix
open Idealize.ShloMosaic Idealize.ShloMosaic.TcCoe Idealize.ShloMosaic.Tactic Cert.MergeIdeal.Gen Idealize.ShloMosaic.Pipeline
variable (m : (ℓ : Loc nD τ sig) → Buf (Elt Ideal) ℓ) (c : Dev nD)

/-- The head of a column, as the printed floor division by 64 takes it. -/
def headOf : IVec S512 32 :=
  select
    (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

/-- It is the quotient. -/
theorem headOf_eq (i : Fin 512) : headOf (ix1 i) = BitVec.ofNat 32 (i.val / 64) := by
  revert i
  decide +kernel

/-- The matrix of heads, one entry: whether two columns are in the same head. -/
theorem bd_read (h : IVec S512 32) (j k : Fin 512) : (uitofp (F := Ideal) FTy.bf16
      (cmpi CmpIPredicate.eq
        (broadcastInDim S512x512 ![0, 1] bcast_S512x1_S512x512_0_1
          (broadcastInDim S512x1 ![0] bcast_S512_S512x1_0 h))
        (broadcastInDim S512x512 ![0, 1] bcast_S1x512_S512x512_0_1
          (broadcastInDim S1x512 ![1] bcast_S512_S1x512_1 h)))) (ix2 j k) = if h (ix1 j) = h (ix1 k) then 1 else 0 := by
  pointwise
  by_cases hh : h (ix1 j) = h (ix1 k)
  · simp only [IntOp.cmpi, hh, beq_self_eq_true, if_true]
    show ((((1 : ℕ) : ℝ)) : EReal) = 1
    norm_num
  · have hb : (h (ix1 j) == h (ix1 k)) = false := beq_eq_false_iff_ne.2 hh
    simp only [IntOp.cmpi, hb, hh, if_false]
    show ((((0 : ℕ) : ℝ)) : EReal) = 0
    norm_num

/-- The operand that holds the matrix of heads, as the host computes it. -/
theorem V_bd : V m c main_v11 = (uitofp (F := Ideal) FTy.bf16
      (cmpi CmpIPredicate.eq
        (broadcastInDim S512x512 ![0, 1] bcast_S512x1_S512x512_0_1
          (broadcastInDim S512x1 ![0] bcast_S512_S512x1_0 headOf))
        (broadcastInDim S512x512 ![0, 1] bcast_S1x512_S512x512_0_1
          (broadcastInDim S1x512 ![1] bcast_S512_S1x512_1 headOf))) : FVec Ideal S512x512 .bf16) := by
  unfold V
  simp only [hostOps0, hostOps0_1, hostOps0_2, List.flatten_cons, List.flatten_nil, List.cons_append, List.nil_append, List.append_nil]
  after_results
  rfl

/-- The matrix of heads is 1 within a head and 0 off it. -/
theorem bd_eq (j k : Fin 512) : V m c main_v11 (ix2 j k) = if j.val / 64 = k.val / 64 then (1 : EReal) else 0 := by
  rw [V_bd, bd_read, headOf_eq, headOf_eq]
  refine if_congr ?_ rfl rfl
  rw [← BitVec.toNat_inj, BitVec.toNat_ofNat, BitVec.toNat_ofNat]
  omega

/-- The rows of x, reshaped. -/
theorem rows_x (a : S1x16384x1024.Idx → EReal) (n : Fin 16384) (k : Fin 1024) :
    shapeCast S16384x1024 a shapeCasts_S1x16384x1024_S16384x1024 (ix2 n k) = a (ix3 0 n k) := by
  pointwise
/-- The rows of y, reshaped. -/
theorem rows_y (a : S1x16384x512.Idx → EReal) (n : Fin 16384) (k : Fin 512) :
    shapeCast S16384x512 a shapeCasts_S1x16384x512_S16384x512 (ix2 n k) = a (ix3 0 n k) := by
  pointwise
/-- The rows of the embedding, reshaped. -/
theorem rows_p (a : S1x1x16384x256.Idx → EReal) (n : Fin 16384) (k : Fin 256) :
    shapeCast S16384x256 (shapeCast S1x16384x256 a shapeCasts_S1x1x16384x256_S1x16384x256) shapeCasts_S1x16384x256_S16384x256 (ix2 n k) = a (ix4 0 0 n k) := by
  pointwise

/-- The kernel's operands of rows are the arguments, reshaped. -/
theorem V_rows : V m c main_v34 = shapeCast S16384x1024 (m ((c : Thread nD τ).loc main_arg0)) shapeCasts_S1x16384x1024_S16384x1024
    ∧ V m c main_v35 = shapeCast S16384x512 (m ((c : Thread nD τ).loc main_arg1)) shapeCasts_S1x16384x512_S16384x512
    ∧ V m c main_v37 = shapeCast S16384x256 (shapeCast S1x16384x256 (m ((c : Thread nD τ).loc main_arg6)) shapeCasts_S1x1x16384x256_S1x16384x256) shapeCasts_S1x16384x256_S16384x256
    ∧ V m c main_arg2 = m ((c : Thread nD τ).loc main_arg2)
    ∧ V m c main_arg3 = m ((c : Thread nD τ).loc main_arg3)
    ∧ V m c main_arg4 = m ((c : Thread nD τ).loc main_arg4)
    ∧ V m c main_arg5 = m ((c : Thread nD τ).loc main_arg5) := by
  unfold V
  simp only [hostOps0, hostOps0_1, hostOps0_2, List.flatten_cons, List.flatten_nil, List.cons_append, List.nil_append, List.append_nil]
  after_results
  exact ⟨rfl, rfl, rfl, rfl, rfl, rfl, rfl⟩

/-- The argument arrays' entries. -/
abbrev argIn : In := In.ofArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))

/-- Its operands of weights hold the arguments' entries. -/
theorem V_weights : (∀ k, V m c main_v1 (ix2 0 k) = (argIn m c).lg k) ∧ (∀ k, V m c main_v3 (ix2 0 k) = (argIn m c).lb k)
    ∧ (∀ j k, V m c main_v13 (ix2 j k) = (argIn m c).wa j k) ∧ (∀ j k, V m c main_v15 (ix2 j k) = (argIn m c).wb j k)
    ∧ (∀ j k, V m c main_v17 (ix2 j k) = (argIn m c).wo j k) ∧ (∀ k, V m c main_v19 (ix2 0 k) = (argIn m c).n2 k)
    ∧ (∀ k e, V m c main_v21 (ix2 k e) = (argIn m c).wu k e) ∧ (∀ r e, V m c main_v22 (ix2 r e) = (argIn m c).cw r e)
    ∧ (∀ e, V m c main_v24 (ix2 0 e) = (argIn m c).cb e) ∧ (∀ f e, V m c main_v26 (ix2 f e) = (argIn m c).wd f e)
    ∧ (∀ e, V m c main_v28 (ix2 0 e) = (argIn m c).n3 e) ∧ (∀ k e, V m c main_v30 (ix2 k e) = (argIn m c).wpe k e)
    ∧ (∀ k e, V m c main_v32 (ix2 k e) = (argIn m c).wpg k e) ∧ (∀ e, V m c main_v33 (ix2 0 e) = (argIn m c).fg e) := by
  unfold argIn In.ofArgs V
  simp only [hostOps0, hostOps0_1, hostOps0_2, List.flatten_cons, List.flatten_nil, List.cons_append, List.nil_append, List.append_nil]
  after_results
  refine ⟨fun _ => ?_, fun _ => ?_, fun _ _ => ?_, fun _ _ => ?_, fun _ _ => ?_, fun _ => ?_, fun _ _ => ?_, fun _ _ => ?_, fun _ => ?_, fun _ _ => ?_, fun _ => ?_, fun _ _ => ?_, fun _ _ => ?_, fun _ => ?_⟩ <;> pointwise

/-- Which block of each window a grid point holds. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0]
    ∧ win0_16.index t = ![0, 0] ∧ win0_17.index t = ![0, 0] ∧ win0_18.index t = ![0, 0] ∧ win0_19.index t = ![0, 0]
    ∧ win0_20.index t = ![0, 0] ∧ win0_21.index t = ![0, 0] ∧ win0_22.index t = ![0, 0] ∧ win0_23.index t = ![t.val, 0]
    ∧ win0_24.index t = ![0, 0] :=
  (by decide +kernel : ∀ t : Fin grid0.N, _)
/-- There are 64 grid points, and each holds 256 rows. -/
theorem row_lt (t : Fin cfg0.N) (q : Fin 256) : t.val * 256 + q.val < 16384 := by
  have h : t.val < 64 := t.isLt
  omega

/-- Row `q` of a grid point's block. -/
def rowAt (t : Fin cfg0.N) (q : Fin 256) : Fin 16384 := ⟨t.val * 256 + q.val, row_lt t q⟩

/-- Its place among all rows. -/
theorem rowAt_val (t : Fin cfg0.N) (q : Fin 256) : (rowAt t q).val = t.val * 256 + q.val := rfl

/-- A grid point's blocks: its rows of the operands of rows, and the operands of weights whole. -/
theorem B_rows (t : Fin cfg0.N) : (∀ i k, (blkAt m c t).x (ix2 i k) = V m c main_v34 (ix2 (rowAt t i) k))
    ∧ (∀ i k, (blkAt m c t).y (ix2 i k) = V m c main_v35 (ix2 (rowAt t i) k))
    ∧ (∀ i k, (blkAt m c t).bo (ix2 i k) = V m c main_arg2 (ix2 (rowAt t i) k))
    ∧ (∀ i k, (blkAt m c t).g (ix2 i k) = V m c main_arg3 (ix2 (rowAt t i) k))
    ∧ (∀ i k, (blkAt m c t).yb (ix2 i k) = V m c main_arg4 (ix2 (rowAt t i) k))
    ∧ (∀ i k, (blkAt m c t).mg (ix2 i k) = V m c main_arg5 (ix2 (rowAt t i) k))
    ∧ (∀ i k, (blkAt m c t).p (ix2 i k) = V m c main_v37 (ix2 (rowAt t i) k)) := by
  unfold blkAt
  dsimp only
  refine ⟨fun _ _ => ?_, fun _ _ => ?_, fun _ _ => ?_, fun _ _ => ?_, fun _ _ => ?_, fun _ _ => ?_, fun _ _ => ?_⟩ <;> blk_ext [iblk, idx t, rowAt_val]

/-- The operands of weights are whole at every grid point. -/
theorem B_weights (t : Fin cfg0.N) : (∀ k, (blkAt m c t).lg (ix2 0 k) = V m c main_v1 (ix2 0 k))
    ∧ (∀ k, (blkAt m c t).lb (ix2 0 k) = V m c main_v3 (ix2 0 k))
    ∧ (∀ k, (blkAt m c t).n2 (ix2 0 k) = V m c main_v19 (ix2 0 k))
    ∧ (∀ k, (blkAt m c t).cb (ix2 0 k) = V m c main_v24 (ix2 0 k))
    ∧ (∀ k, (blkAt m c t).n3 (ix2 0 k) = V m c main_v28 (ix2 0 k))
    ∧ (∀ k, (blkAt m c t).fg (ix2 0 k) = V m c main_v33 (ix2 0 k))
    ∧ (∀ j k, (blkAt m c t).bd (ix2 j k) = V m c main_v11 (ix2 j k))
    ∧ (∀ j k, (blkAt m c t).wa (ix2 j k) = V m c main_v13 (ix2 j k))
    ∧ (∀ j k, (blkAt m c t).wb (ix2 j k) = V m c main_v15 (ix2 j k))
    ∧ (∀ j k, (blkAt m c t).wo (ix2 j k) = V m c main_v17 (ix2 j k))
    ∧ (∀ j k, (blkAt m c t).wu (ix2 j k) = V m c main_v21 (ix2 j k))
    ∧ (∀ j k, (blkAt m c t).cw (ix2 j k) = V m c main_v22 (ix2 j k))
    ∧ (∀ j k, (blkAt m c t).wd (ix2 j k) = V m c main_v26 (ix2 j k))
    ∧ (∀ j k, (blkAt m c t).wpe (ix2 j k) = V m c main_v30 (ix2 j k))
    ∧ (∀ j k, (blkAt m c t).wpg (ix2 j k) = V m c main_v32 (ix2 j k)) := by
  unfold blkAt
  dsimp only
  refine ⟨fun _ => ?_, fun _ => ?_, fun _ => ?_, fun _ => ?_, fun _ => ?_, fun _ => ?_, fun _ _ => ?_, fun _ _ => ?_, fun _ _ => ?_, fun _ _ => ?_, fun _ _ => ?_, fun _ _ => ?_, fun _ _ => ?_, fun _ _ => ?_, fun _ _ => ?_⟩ <;> blk_ext [iblk, idx t]

variable (t : Fin cfg0.N)
/-- A grid point's rows are the arguments'. -/
theorem blk_x (i k) : (blkAt m c t).x (ix2 i k) = (argIn m c).x (rowAt t i) k :=
  ((B_rows m c t).1 i k).trans ((congrFun (V_rows m c).1 _).trans (rows_x _ _ _))
/-- A grid point's rows of y. -/
theorem blk_y (i k) : (blkAt m c t).y (ix2 i k) = (argIn m c).y (rowAt t i) k :=
  ((B_rows m c t).2.1 i k).trans ((congrFun (V_rows m c).2.1 _).trans (rows_y _ _ _))
/-- A grid point's rows of the bonus. -/
theorem blk_bo (i k) : (blkAt m c t).bo (ix2 i k) = (argIn m c).bo (rowAt t i) k :=
  ((B_rows m c t).2.2.1 i k).trans (congrFun (V_rows m c).2.2.2.1 _)
/-- A grid point's rows of the gate. -/
theorem blk_g (i k) : (blkAt m c t).g (ix2 i k) = (argIn m c).g (rowAt t i) k :=
  ((B_rows m c t).2.2.2.1 i k).trans (congrFun (V_rows m c).2.2.2.2.1 _)
/-- A grid point's rows of the second branch. -/
theorem blk_yb (i k) : (blkAt m c t).yb (ix2 i k) = (argIn m c).yb (rowAt t i) k :=
  ((B_rows m c t).2.2.2.2.1 i k).trans (congrFun (V_rows m c).2.2.2.2.2.1 _)
/-- A grid point's rows of the merge gates. -/
theorem blk_mg (i k) : (blkAt m c t).mg (ix2 i k) = (argIn m c).mg (rowAt t i) k :=
  ((B_rows m c t).2.2.2.2.2.1 i k).trans (congrFun (V_rows m c).2.2.2.2.2.2 _)
/-- A grid point's rows of the embedding. -/
theorem blk_p (i k) : (blkAt m c t).p (ix2 i k) = (argIn m c).p (rowAt t i) k :=
  ((B_rows m c t).2.2.2.2.2.2 i k).trans ((congrFun (V_rows m c).2.2.1 _).trans (rows_p _ _ _))
/-- A grid point holds the gain of the heads whole. -/
theorem blk_lg (k) : (blkAt m c t).lg (ix2 0 k) = (argIn m c).lg k :=
  ((B_weights m c t).1 k).trans ((V_weights m c).1 k)
/-- A grid point holds the offset of the heads whole. -/
theorem blk_lb (k) : (blkAt m c t).lb (ix2 0 k) = (argIn m c).lb k :=
  ((B_weights m c t).2.1 k).trans ((V_weights m c).2.1 k)
/-- A grid point holds the gain of the second norm whole. -/
theorem blk_n2 (k) : (blkAt m c t).n2 (ix2 0 k) = (argIn m c).n2 k :=
  ((B_weights m c t).2.2.1 k).trans ((V_weights m c).2.2.2.2.2.1 k)
/-- A grid point holds the offset of the convolution whole. -/
theorem blk_cb (k) : (blkAt m c t).cb (ix2 0 k) = (argIn m c).cb k :=
  ((B_weights m c t).2.2.2.1 k).trans ((V_weights m c).2.2.2.2.2.2.2.2.1 k)
/-- A grid point holds the gain of the third norm whole. -/
theorem blk_n3 (k) : (blkAt m c t).n3 (ix2 0 k) = (argIn m c).n3 k :=
  ((B_weights m c t).2.2.2.2.1 k).trans ((V_weights m c).2.2.2.2.2.2.2.2.2.2.1 k)
/-- A grid point holds the gain of the last norm whole. -/
theorem blk_fg (k) : (blkAt m c t).fg (ix2 0 k) = (argIn m c).fg k :=
  ((B_weights m c t).2.2.2.2.2.1 k).trans ((V_weights m c).2.2.2.2.2.2.2.2.2.2.2.2.2 k)
/-- A grid point holds the matrix of heads whole. -/
theorem blk_bd (j k) : (blkAt m c t).bd (ix2 j k) = if j.val / 64 = k.val / 64 then (1 : EReal) else 0 :=
  ((B_weights m c t).2.2.2.2.2.2.1 j k).trans (bd_eq m c j k)
/-- A grid point holds the weights of the first branch whole. -/
theorem blk_wa (j k) : (blkAt m c t).wa (ix2 j k) = (argIn m c).wa j k :=
  ((B_weights m c t).2.2.2.2.2.2.2.1 j k).trans ((V_weights m c).2.2.1 j k)
/-- A grid point holds the weights of the second branch whole. -/
theorem blk_wb (j k) : (blkAt m c t).wb (ix2 j k) = (argIn m c).wb j k :=
  ((B_weights m c t).2.2.2.2.2.2.2.2.1 j k).trans ((V_weights m c).2.2.2.1 j k)
/-- A grid point holds the weights of the output whole. -/
theorem blk_wo (j k) : (blkAt m c t).wo (ix2 j k) = (argIn m c).wo j k :=
  ((B_weights m c t).2.2.2.2.2.2.2.2.2.1 j k).trans ((V_weights m c).2.2.2.2.1 j k)
/-- A grid point holds the weights of the up projection whole. -/
theorem blk_wu (j k) : (blkAt m c t).wu (ix2 j k) = (argIn m c).wu j k :=
  ((B_weights m c t).2.2.2.2.2.2.2.2.2.2.1 j k).trans ((V_weights m c).2.2.2.2.2.2.1 j k)
/-- A grid point holds the weights of the convolution whole. -/
theorem blk_cw (j k) : (blkAt m c t).cw (ix2 j k) = (argIn m c).cw j k :=
  ((B_weights m c t).2.2.2.2.2.2.2.2.2.2.2.1 j k).trans ((V_weights m c).2.2.2.2.2.2.2.1 j k)
/-- A grid point holds the weights of the down projection whole. -/
theorem blk_wd (j k) : (blkAt m c t).wd (ix2 j k) = (argIn m c).wd j k :=
  ((B_weights m c t).2.2.2.2.2.2.2.2.2.2.2.2.1 j k).trans ((V_weights m c).2.2.2.2.2.2.2.2.2.1 j k)
/-- A grid point holds the weights of the embedding whole. -/
theorem blk_wpe (j k) : (blkAt m c t).wpe (ix2 j k) = (argIn m c).wpe j k :=
  ((B_weights m c t).2.2.2.2.2.2.2.2.2.2.2.2.2.1 j k).trans ((V_weights m c).2.2.2.2.2.2.2.2.2.2.2.1 j k)
/-- A grid point holds the weights of the gate of the embedding whole. -/
theorem blk_wpg (j k) : (blkAt m c t).wpg (ix2 j k) = (argIn m c).wpg j k :=
  ((B_weights m c t).2.2.2.2.2.2.2.2.2.2.2.2.2.2 j k).trans ((V_weights m c).2.2.2.2.2.2.2.2.2.2.2.2.1 j k)

end Cert.MergeIdeal.Mix
-- ==== Proof.Merge.Left.lean ====
module

public import proofs.«01_k».proof.Proof.Merge.Ops

@[expose] public section
set_option maxRecDepth 4096
set_option maxHeartbeats 1600000
noncomputable section
/-! # The merge and the channel mixer: the rows a grid point leaves -/
namespace Cert.MergeIdeal.Mix
open Idealize.ShloMosaic Idealize.ShloMosaic.TcCoe Idealize.ShloMosaic.Tactic Cert.MergeIdeal.Gen Idealize.ShloMosaic.Pipeline
variable (m : (ℓ : Loc nD τ sig) → Buf (Elt Ideal) ℓ) (c : Dev nD) (hy : ∀ n k, IsReal ((argIn m c).y n k))
include hy

/-- A grid point's merged rows. -/
theorem h_eq (t : Fin cfg0.N) (i : Fin 256) : (blkAt m c t).h i = (argIn m c).h (rowAt t i) := by
  have hA : ∀ k, (blkAt m c t).A (ix2 i k) = headNorm ((argIn m c).y (rowAt t i)) k * (argIn m c).lg k
      + (argIn m c).lb k + (argIn m c).bo (rowAt t i) k := fun k => by
    refine (pay2 _ _ _ _ _ i (fun x => ?_) (blk_bd m c t) k).trans ?_
    · rw [blk_y]; exact hy _ _
    · rw [blk_lg, blk_lb, blk_bo]
      exact congrArg (fun v => headNorm v k * _ + _ + _) (funext fun x => blk_y m c t i x)
  funext e
  unfold Blk.h In.h
  simp only [hA, blk_g, blk_yb, blk_mg, blk_x, blk_wa, blk_wb, blk_wo]

/-- Its rows of the up projection. -/
theorem u_eq (t : Fin cfg0.N) (i : Fin 256) : (blkAt m c t).u i = (argIn m c).u (rowAt t i) := by
  funext e
  unfold Blk.u In.u
  simp only [h_eq m c hy t i, blk_n2, blk_wu]

omit hy in
/-- Rows that are the same row. -/
theorem u_at (a b : Fin 16384) (e : Fin 5632) (h : a.val = b.val) : (argIn m c).u a e = (argIn m c).u b e :=
  congrArg (fun n => (argIn m c).u n e) (Fin.ext h)

/-- Its convolved rows, given the carried ones. -/
theorem conv_eq (t : Fin cfg0.N) (K : Vec Ideal S8x5632 .f32) (h0 : t.val = 0 → ∀ i e, K (ix2 i e) = 0)
    (h1 : t.val ≠ 0 → ∀ (i : Fin 8) e (n : Fin 16384), n.val + 8 = t.val * 256 + i.val → K (ix2 i e) = (argIn m c).u n e) (i : Fin 256) :
    (blkAt m c t).c K i = (argIn m c).c (rowAt t i) := by
  have hv := rowAt_val t i
  have ht : t.val < 64 := t.isLt
  have hK : ∀ (j : Fin 8) (k : ℕ) (e : Fin 5632), i.val < k → k ≤ 8 → j.val + k = 8 + i.val → K (ix2 j e) = (argIn m c).prev k (rowAt t i) e := by
    intro j k e hi hk hj
    unfold In.prev
    split
    · next h => exact h0 (by omega) j e
    · next h => exact h1 (by omega) j e _ (by dsimp only; omega)
  have hu : ∀ (k : ℕ) (e : Fin 5632) (hk : k ≤ i.val), (blkAt m c t).u ⟨i.val - k, by omega⟩ e = (argIn m c).prev k (rowAt t i) e := by
    intro k e hk
    rw [u_eq m c hy t]
    unfold In.prev
    rw [dif_neg (by omega)]
    exact u_at m c _ _ e (by rw [rowAt_val]; dsimp only; omega)
  funext e
  have s1 : shift1 i (K (ix2 7 e)) (fun i => (blkAt m c t).u i e) = (argIn m c).prev 1 (rowAt t i) e := by
    unfold shift1
    split
    · next h => exact hK 7 1 e (by omega) (by omega) (by show 7 + 1 = _; omega)
    · next h => exact hu 1 e (by omega)
  have s2 : shift2 i (K (ix2 6 e)) (K (ix2 7 e)) (fun i => (blkAt m c t).u i e) = (argIn m c).prev 2 (rowAt t i) e := by
    unfold shift2
    split
    · next h => exact hK 6 2 e (by omega) (by omega) (by show 6 + 2 = _; omega)
    · split
      · next h => exact hK 7 2 e (by omega) (by omega) (by show 7 + 2 = _; omega)
      · next h => exact hu 2 e (by omega)
  unfold Blk.c In.c conv
  beta_reduce
  rw [s1, s2, u_eq m c hy t]
  simp only [blk_cb, blk_cw]

/-- Its rows of the result, given the carried ones. -/
theorem row_eq (t : Fin cfg0.N) (K : Vec Ideal S8x5632 .f32) (h0 : t.val = 0 → ∀ i e, K (ix2 i e) = 0)
    (h1 : t.val ≠ 0 → ∀ (i : Fin 8) e (n : Fin 16384), n.val + 8 = t.val * 256 + i.val → K (ix2 i e) = (argIn m c).u n e)
    (i : Fin 256) (e : Fin 1024) : (blkAt m c t).out K (ix2 i e) = (argIn m c).res (rowAt t i) e := by
  rw [Blk.out_eq, conv_eq m c hy t K h0 h1, h_eq m c hy]
  unfold In.res
  simp only [blk_p, blk_wd, blk_n3, blk_wpe, blk_wpg, blk_fg]

/-- What a grid point leaves of the first result. -/
theorem left_eq (t : Fin cfg0.N) (i : Fin 256) (e : Fin 1024) :
    (outsAt0 m c t.val t.isLt).1 (ix2 i e) = (argIn m c).res (rowAt t i) e := by
  have ht : t.val < 64 := t.isLt
  by_cases h : t.val % 64 = 0
  · rw [out_first m c t h]
    exact row_eq m c hy t _ (fun _ i e => zeros i e) (fun hn => absurd (by omega) hn) i e
  · rw [out_next m c t h]
    refine row_eq m c hy t _ (fun hn => absurd hn (by omega)) (fun _ i e n hn => ?_) i e
    refine (carry_eq m c ⟨t.val - 1, by omega⟩ i e).trans ?_
    rw [u_eq m c hy]
    refine u_at m c _ _ e ?_
    rw [rowAt_val]
    dsimp only
    omega

/-- What the last grid point leaves of the second. -/
theorem tail_left (t : Fin cfg0.N) (h : t.val = 63) (i : Fin 8) (e : Fin 5632) :
    (outsAt0 m c t.val t.isLt).2.1 (ix2 i e) = (argIn m c).tail i e := by
  rw [tail_eq m c t (by omega), u_eq m c hy]
  refine u_at m c _ _ e ?_
  rw [rowAt_val]
  dsimp only
  omega
end Cert.MergeIdeal.Mix
-- ==== Proof.Merge.Arrays.lean ====
module

public import proofs.«01_k».proof.Proof.Merge.Left
public import proofs.«01_k».proof.Proof.Merge.Ideal.Value

@[expose] public section
set_option maxRecDepth 4096
set_option maxHeartbeats 1600000
noncomputable section
/-! # The merge and the channel mixer: the result arrays -/
namespace Cert.MergeIdeal.Mix
open Idealize.ShloMosaic Idealize.ShloMosaic.TcCoe Idealize.ShloMosaic.Tactic Cert.MergeIdeal.Gen Idealize.ShloMosaic.Pipeline
variable (m : (ℓ : Loc nD τ sig) → Buf (Elt Ideal) ℓ) (c : Dev nD)

/-- The first result. -/
def arr23 (y : S16384x1024.Idx) : EReal := (argIn m c).res (y 0) (y 1)
/-- The second result. -/
def arr24 (y : S8x5632.Idx) : EReal := (argIn m c).tail (y 0) (y 1)

/-- Where a grid point's block of the first result lies. -/
theorem emb23 (t : Fin cfg0.N) (y : S256x1024.Idx) : (((cfg0.win 23).blk t).view.emb y : S16384x1024.Idx) = ix2 (rowAt t (y 0)) (y 1) := by
  blk_ext [idx t, rowAt_val]
  rfl
/-- The second result is one block. -/
theorem emb24 (t : Fin cfg0.N) (y : S8x5632.Idx) : (((cfg0.win 24).blk t).view.emb y : S8x5632.Idx) = ix2 (y 0) (y 1) := by
  blk_ext [idx t]

variable (hy : ∀ n k, IsReal ((argIn m c).y n k))
include hy

/-- What a grid point leaves of the first result, as a part of it. -/
theorem left23 (t : Fin cfg0.N) : (dats m 0 c).after 23 t = (fun y => arr23 m c (ix2 (rowAt t (y 0)) (y 1)) : S256x1024.Idx → EReal) :=
  (after0_23 m c t).trans (funext fun y =>
    (congrArg (outsAt0 m c t.val t.isLt).1 (eq_ix2 y)).trans (left_eq m c hy t _ _))

/-- The first result after the run. -/
theorem res23 : (dats m 0 c).arrAt 23 cfg0.N = arr23 m c := by
  refine (dats m 0 c).arrAt_eq_of_covers 23 _ (by decide +kernel) fun t hf y => ?_
  rw [left23 m c hy]
  exact congrArg (arr23 m c) (emb23 t y).symm

/-- What the last grid point leaves of the second result. -/
theorem left24 (t : Fin cfg0.N) (h : t.val = 63) : (dats m 0 c).after 24 t = (fun y => arr24 m c (ix2 (y 0) (y 1)) : S8x5632.Idx → EReal) :=
  (after0_24 m c t).trans (funext fun y =>
    (congrArg (outsAt0 m c t.val t.isLt).2.1 (eq_ix2 y)).trans (tail_left m c hy t h _ _))

/-- The second result after the run. -/
theorem res24 : (dats m 0 c).arrAt 24 cfg0.N = arr24 m c := by
  refine (dats m 0 c).arrAt_eq_of_covers 24 _ (by decide +kernel) fun t hf y => ?_
  have h : t.val = 63 := by have := (flush0_24 t).1 hf; have := t.isLt; have : t.val < 64 := this; omega
  rw [left24 m c hy t h]
  exact congrArg (arr24 m c) (emb24 t y).symm
end Cert.MergeIdeal.Mix
-- ==== Proof.Merge.Finite.lean ====
module

public import proofs.«01_k».proof.Defs
public import proofs.«01_k».proof.Proof.Merge.Ops

@[expose] public section
noncomputable section
/-! # The merge and the channel mixer: the precondition says that every entry of y is a real number -/
namespace Cert.MergeIdeal.Mix
open Cert.MergeIdeal Cert.MergeIdeal.Gen Idealize.ShloMosaic Idealize.ShloMosaic.TcCoe Idealize.ShloMosaic.Tactic

/-- The precondition's one broadcast is of a scalar. -/
theorem preFacts : Cert.Pre_y_finite.Facts where
  bcast_S_S1x16384x512 := by decide +kernel

/-- A value whose difference with itself is zero is a real number. -/
theorem IsReal.of_sub_self (a : EReal) (h : Ideal.cmp .oeq (a - a) (Ideal.ofBits FTy.f32 0#32) = 1#1) : IsReal a := by
  have h0 : a - a = 0 := by
    by_contra hn
    rw [show Ideal.ofBits FTy.f32 0#32 = 0 by simp [Ideal.ofBits, Ideal.ieee]] at h
    unfold Ideal.cmp at h
    simp [hn] at h
  induction a with
  | bot => exact absurd h0 (by simp)
  | top => exact absurd h0 (by simp)
  | coe r => exact ⟨r, rfl⟩

/-- Under the precondition every entry of y is a real number. -/
theorem y_real (m : (ℓ : Loc nD τ sig) → Buf (Elt Ideal) ℓ) (hf : Cert.Pre_y_finite.Facts)
    (h : Cert.Pre_MergeIdeal_y_finite m) (c : Dev nD) (n : Fin 16384) (k : Fin 512) : IsReal ((argIn m c).y n k) :=
  IsReal.of_sub_self _ (congrFun (h c) (ix3 0 n k))
end Cert.MergeIdeal.Mix
-- ==== Proof.Merge.Ref.lean ====
module

public import proofs.«01_k».proof.Proof.Gen.MergeRefIdeal.Run
public import proofs.«01_k».proof.Proof.Merge.Spec
public import Idealize.ShloMosaic.Lib.Pointwise

@[expose] public section
set_option maxHeartbeats 400000
set_option maxRecDepth 4096
noncomputable section
/-! # The merge and the channel mixer: the reference's results -/
namespace Cert.MergeRefIdeal.Mix
open Cert.MergeRefIdeal Cert.MergeRefIdeal.Gen Idealize.ShloMosaic Idealize.ShloMosaic.TcCoe Idealize.ShloMosaic.Tactic Cert.MergeIdeal.Mix

/-- The head-wise view of the mixed rows. -/
abbrev t0 (a1 : FVec Ideal S1x16384x512 .f32) : FVec Ideal S16384x8x64 .f32 :=
  shapeCast _ a1 shapeCasts_S1x16384x512_S16384x8x64

/-- The means of the heads. -/
abbrev t4 (v0 : FVec Ideal S16384x8x64 .f32) : FVec Ideal S16384x8x1 .f32 :=
  Host.divf (broadcastInDim S16384x8x1 ![0, 1] bcast_S16384x8_S16384x8x1_0_1 (Host.reduceAdd v0 (constant S_ .f32 0x00000000#32) reducesTo_S16384x8x64_S16384x8_d2 h_S_)) (broadcastInDim S16384x8x1 ![] bcast_S_S16384x8x1 (constant S_ .f32 0x42800000#32))

/-- The rows less the means of their heads. -/
abbrev t6 (v0 : FVec Ideal S16384x8x64 .f32) (v4 : FVec Ideal S16384x8x1 .f32) : FVec Ideal S16384x8x64 .f32 :=
  subf v0 (broadcastInDim S16384x8x64 ![0, 1, 2] bcast_S16384x8x1_S16384x8x64_0_1_2 v4)

/-- The rows after the branches are merged. -/
abbrev t54 (v0 : FVec Ideal S16384x8x64 .f32) (v4 : FVec Ideal S16384x8x1 .f32) (v6 : FVec Ideal S16384x8x64 .f32) (a0 : FVec Ideal S1x16384x1024 .f32) (a2 : FVec Ideal S16384x512 .f32) (a3 : FVec Ideal S16384x512 .f32) (a4 : FVec Ideal S16384x512 .f32) (a5 : FVec Ideal S16384x2048 .f32) (a7 : FVec Ideal S1x512 .f32) (a8 : FVec Ideal S1x512 .f32) (a9 : FVec Ideal S1x512x1024 .f32) (a10 : FVec Ideal S1x512x1024 .f32) (a11 : FVec Ideal S1x1024x1024 .f32) : FVec Ideal S16384x1024 .f32 :=
  addf (shapeCast _ a0 shapeCasts_S1x16384x1024_S16384x1024) (Host.dotGeneral dot_S16384x1024_S1024x1024_S16384x1024_1_0_0_1_n_n none (addf (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 0] a5 slices_S16384x2048_S16384x1024_0_0))))) (Host.dotGeneral dot_S16384x512_S512x1024_S16384x1024_1_0_0_1_n_n none (mulf (addf (addf (mulf (shapeCast _ (mulf (subf v0 (broadcastInDim S16384x8x64 ![0, 1, 2] bcast_S16384x8x1_S16384x8x64_0_1_2 v4)) (broadcastInDim S16384x8x64 ![0, 1, 2] bcast_S16384x8x1_S16384x8x64_0_1_2 (Host.rsqrt (addf (Host.divf (broadcastInDim S16384x8x1 ![0, 1] bcast_S16384x8_S16384x8x1_0_1 (Host.reduceAdd (mulf v6 v6) (constant S_ .f32 0x00000000#32) reducesTo_S16384x8x64_S16384x8_d2 h_S_)) (broadcastInDim S16384x8x1 ![] bcast_S_S16384x8x1 (constant S_ .f32 0x42800000#32))) (broadcastInDim S16384x8x1 ![] bcast_S_S16384x8x1 (constant S_ .f32 0x3A27C5AC#32)))))) shapeCasts_S16384x8x64_S16384x512) (broadcastInDim S16384x512 ![0, 1] bcast_S1x512_S16384x512_0_1 (broadcastInDim S1x512 ![1] bcast_S512_S1x512_1 (shapeCast _ a7 shapeCasts_S1x512_S512)))) (broadcastInDim S16384x512 ![0, 1] bcast_S1x512_S16384x512_0_1 (broadcastInDim S1x512 ![1] bcast_S512_S1x512_1 (shapeCast _ a8 shapeCasts_S1x512_S512)))) a2) a3) (shapeCast _ a9 shapeCasts_S1x512x1024_S512x1024))) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 1024] a5 slices_S16384x2048_S16384x1024_0_1024))))) (Host.dotGeneral dot_S16384x512_S512x1024_S16384x1024_1_0_0_1_n_n none a4 (shapeCast _ a10 shapeCasts_S1x512x1024_S512x1024)))) (shapeCast _ a11 shapeCasts_S1x1024x1024_S1024x1024))

/-- The up projection. -/
abbrev t70 (v54 : FVec Ideal S16384x1024 .f32) (a12 : FVec Ideal S1x1024 .f32) (a13 : FVec Ideal S1x1024x5632 .f32) : FVec Ideal S16384x5632 .f32 :=
  Host.dotGeneral dot_S16384x1024_S1024x5632_S16384x5632_1_0_0_1_n_n none (mulf (mulf v54 (broadcastInDim S16384x1024 ![0, 1] bcast_S16384x1_S16384x1024_0_1 (Host.rsqrt (addf (Host.divf (broadcastInDim S16384x1 ![0] bcast_S16384_S16384x1_0 (Host.reduceAdd (mulf v54 v54) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ a12 shapeCasts_S1x1024_S1024)))) (shapeCast _ a13 shapeCasts_S1x1024x5632_S1024x5632)

/-- The up projection under two rows of zeros. -/
abbrev t72 (v70 : FVec Ideal S16384x5632 .f32) : FVec Ideal S16386x5632 .f32 :=
  concatenate S16386x5632 0 [⟨S2x5632, (broadcastInDim S2x5632 ![] bcast_S_S2x5632 (constant S_ .f32 0x00000000#32))⟩, ⟨S16384x5632, v70⟩] concatenates_S2x5632_S16384x5632_S16386x5632_d0

/-- The convolution. -/
abbrev t101 (v72 : FVec Ideal S16386x5632 .f32) (a14 : FVec Ideal S1x3x5632 .f32) (a15 : FVec Ideal S1x5632 .f32) : FVec Ideal S16384x5632 .f32 :=
  addf (broadcastInDim S16384x5632 ![0, 1] bcast_S1x5632_S16384x5632_0_1 (broadcastInDim S1x5632 ![1] bcast_S5632_S1x5632_1 (shapeCast _ a15 shapeCasts_S1x5632_S5632))) (addf (addf (addf (broadcastInDim S16384x5632 ![] bcast_S_S16384x5632 (constant S_ .f32 0x00000000#32)) (mulf (broadcastInDim S16384x5632 ![0, 1] bcast_S1x5632_S16384x5632_0_1 (broadcastInDim S1x5632 ![1] bcast_S5632_S1x5632_1 (shapeCast _ (extractStridedSlice S1x5632 ![0, 0] (shapeCast _ a14 shapeCasts_S1x3x5632_S3x5632) slices_S3x5632_S1x5632_0_0) shapeCasts_S1x5632_S5632))) (extractStridedSlice S16384x5632 ![0, 0] v72 slices_S16386x5632_S16384x5632_0_0))) (mulf (broadcastInDim S16384x5632 ![0, 1] bcast_S1x5632_S16384x5632_0_1 (broadcastInDim S1x5632 ![1] bcast_S5632_S1x5632_1 (shapeCast _ (extractStridedSlice S1x5632 ![1, 0] (shapeCast _ a14 shapeCasts_S1x3x5632_S3x5632) slices_S3x5632_S1x5632_1_0) shapeCasts_S1x5632_S5632))) (extractStridedSlice S16384x5632 ![1, 0] v72 slices_S16386x5632_S16384x5632_1_0))) (mulf (broadcastInDim S16384x5632 ![0, 1] bcast_S1x5632_S16384x5632_0_1 (broadcastInDim S1x5632 ![1] bcast_S5632_S1x5632_1 (shapeCast _ (extractStridedSlice S1x5632 ![2, 0] (shapeCast _ a14 shapeCasts_S1x3x5632_S3x5632) slices_S3x5632_S1x5632_2_0) shapeCasts_S1x5632_S5632))) (extractStridedSlice S16384x5632 ![2, 0] v72 slices_S16386x5632_S16384x5632_2_0)))

/-- The first half of the convolution. -/
abbrev t102 (v101 : FVec Ideal S16384x5632 .f32) : FVec Ideal S16384x2816 .f32 :=
  extractStridedSlice S16384x2816 ![0, 0] v101 slices_S16384x5632_S16384x2816_0_0

/-- The rows after the channel mixer. -/
abbrev t108 (v54 : FVec Ideal S16384x1024 .f32) (v101 : FVec Ideal S16384x5632 .f32) (v102 : FVec Ideal S16384x2816 .f32) (a16 : FVec Ideal S1x2816x1024 .f32) : FVec Ideal S16384x1024 .f32 :=
  addf v54 (Host.dotGeneral dot_S16384x2816_S2816x1024_S16384x1024_1_0_0_1_n_n none (mulf (mulf v102 (Host.divf (broadcastInDim S16384x2816 ![] bcast_S_S16384x2816 (constant S_ .f32 0x3F800000#32)) (addf (broadcastInDim S16384x2816 ![] bcast_S_S16384x2816 (constant S_ .f32 0x3F800000#32)) (Host.exp (Host.negf v102))))) (extractStridedSlice S16384x2816 ![0, 2816] v101 slices_S16384x5632_S16384x2816_0_2816)) (shapeCast _ a16 shapeCasts_S1x2816x1024_S2816x1024))

/-- The rows after the gated embedding. -/
abbrev t136 (v108 : FVec Ideal S16384x1024 .f32) (a6 : FVec Ideal S1x1x16384x256 .f32) (a17 : FVec Ideal S1x1024 .f32) (a18 : FVec Ideal S1x256x1024 .f32) (a19 : FVec Ideal S1x1024x1024 .f32) : FVec Ideal S16384x1024 .f32 :=
  addf v108 (mulf (Host.dotGeneral dot_S16384x256_S256x1024_S16384x1024_1_0_0_1_n_n none (shapeCast _ (shapeCast _ a6 shapeCasts_S1x1x16384x256_S1x16384x256) shapeCasts_S1x16384x256_S16384x256) (shapeCast _ a18 shapeCasts_S1x256x1024_S256x1024)) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (Host.dotGeneral dot_S16384x1024_S1024x1024_S16384x1024_1_0_0_1_n_n none (mulf (mulf v108 (broadcastInDim S16384x1024 ![0, 1] bcast_S16384x1_S16384x1024_0_1 (Host.rsqrt (addf (Host.divf (broadcastInDim S16384x1 ![0] bcast_S16384_S16384x1_0 (Host.reduceAdd (mulf v108 v108) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ a17 shapeCasts_S1x1024_S1024)))) (shapeCast _ a19 shapeCasts_S1x1024x1024_S1024x1024)))))))

/-- The result. -/
abbrev tF (v136 : FVec Ideal S16384x1024 .f32) (a20 : FVec Ideal S1024 .f32) : FVec Ideal S16384x1024 .f32 :=
  mulf (mulf v136 (broadcastInDim S16384x1024 ![0, 1] bcast_S16384x1_S16384x1024_0_1 (Host.rsqrt (addf (Host.divf (broadcastInDim S16384x1 ![0] bcast_S16384_S16384x1_0 (Host.reduceAdd (mulf v136 v136) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a20))

/-- A head's mean. -/
theorem r4 (v0 : FVec Ideal S16384x8x64 .f32) (n : Fin 16384) (h : Fin 8) :
    t4 v0 (ix3 n h 0) = Ideal.div (∑ x, v0 (ix3 n h x)) (Ideal.ofBits FTy.f32 1115684864#32) := by
  unfold t4
  pointwise
/-- A head's entry. -/
theorem r0 (a1 : FVec Ideal S1x16384x512 .f32) (n : Fin 16384) (h : Fin 8) (d : Fin 64) :
    t0 a1 (ix3 n h d) = a1 (ix3 0 n ⟨h.val * 64 + d.val, by omega⟩) := by
  unfold t0
  pointwise
/-- A head's entry less the mean. -/
theorem r6 (v0 : FVec Ideal S16384x8x64 .f32) (v4 : FVec Ideal S16384x8x1 .f32) (n : Fin 16384) (h : Fin 8) (d : Fin 64) :
    t6 v0 v4 (ix3 n h d) = v0 (ix3 n h d) - v4 (ix3 n h 0) := by
  unfold t6
  pointwise

/-- A normalised entry, from the heads, their means and their deviations. -/
def refNorm (v0 : FVec Ideal S16384x8x64 .f32) (v4 : FVec Ideal S16384x8x1 .f32) (v6 : FVec Ideal S16384x8x64 .f32) (n : Fin 16384) (j : Fin 512) : EReal :=
  (v0 (ix3 n ⟨j.val / 64, by omega⟩ ⟨j.val % 64, by omega⟩) - v4 (ix3 n ⟨j.val / 64, by omega⟩ 0))
    * Ideal.rsqrt (Ideal.div (∑ d, v6 (ix3 n ⟨j.val / 64, by omega⟩ d) * v6 (ix3 n ⟨j.val / 64, by omega⟩ d)) (Ideal.ofBits FTy.f32 1115684864#32)
      + Ideal.ofBits FTy.f32 975685036#32)

/-- A merged row. -/
theorem r54 (v0 v4 v6 a0 a2 a3 a4 a5 a7 a8 a9 a10 a11) (n : Fin 16384) (e : Fin 1024) :
    t54 v0 v4 v6 a0 a2 a3 a4 a5 a7 a8 a9 a10 a11 (ix2 n e)
      = hid (fun k => (refNorm v0 v4 v6 n k * a7 (ix2 0 k) + a8 (ix2 0 k) + a2 (ix2 n k)) * a3 (ix2 n k)) (fun k => a4 (ix2 n k))
        (fun k => a5 (ix2 n k)) (fun k => a0 (ix3 0 n k)) (fun j k => a9 (ix3 0 j k)) (fun j k => a10 (ix3 0 j k)) (fun j k => a11 (ix3 0 j k)) e := by
  unfold t54 hid refNorm Ideal.logistic
  pointwise
/-- A row of the up projection. -/
theorem r70 (v54 a12 a13) (n : Fin 16384) (e : Fin 5632) :
    t70 v54 a12 a13 (ix2 n e) = upRow (fun k => v54 (ix2 n k)) (fun k => a12 (ix2 0 k)) (fun k e => a13 (ix3 0 k e)) e := by
  unfold t70 upRow rmsRow
  pointwise
/-- A row of the up projection under two rows of zeros. -/
theorem r72 (v70) (n : Fin 16386) (e : Fin 5632) :
    t72 v70 (ix2 n e) = if h : n.val < 2 then 0 else v70 (ix2 ⟨n.val - 2, by omega⟩ e) := by
  unfold t72
  pointwise
/-- A convolved row. -/
theorem r101 (v72 a14 a15) (n : Fin 16384) (e : Fin 5632) :
    t101 v72 a14 a15 (ix2 n e) = conv (fun e => a15 (ix2 0 e)) (fun r e => a14 (ix3 0 r e)) (fun e => v72 (ix2 ⟨n.val, by omega⟩ e))
      (fun e => v72 (ix2 ⟨1 + n.val, by omega⟩ e)) (fun e => v72 (ix2 ⟨2 + n.val, by omega⟩ e)) e := by
  unfold t101 conv
  rw [add_assoc, add_assoc, ← add_assoc (_ * _)]
  pointwise
/-- A row after the channel mixer. -/
theorem r108 (v54 v101 a16) (n : Fin 16384) (e : Fin 1024) :
    t108 v54 v101 (t102 v101) a16 (ix2 n e) = v54 (ix2 n e) + ∑ f, act (fun e => v101 (ix2 n e)) f * a16 (ix3 0 f e) := by
  unfold t108 t102 act Ideal.logistic
  pointwise
/-- A row after the gated embedding. -/
theorem r136 (v108 a6 a17 a18 a19) (n : Fin 16384) (e : Fin 1024) (h a : Fin 1024 → EReal) (hv : ∀ e, v108 (ix2 n e) = h e + a e) :
    t136 v108 a6 a17 a18 a19 (ix2 n e) = mixed h a (fun k => a6 (ix4 0 0 n k)) (fun k e => a18 (ix3 0 k e)) (fun e => a17 (ix2 0 e))
      (fun k e => a19 (ix3 0 k e)) e := by
  unfold t136 mixed rmsRow Ideal.logistic
  simp only [← hv]
  pointwise
/-- A row of the result. -/
theorem rF (v136 a20) (n : Fin 16384) (e : Fin 1024) :
    tF v136 a20 (ix2 n e) = rmsRow (fun k => v136 (ix2 n k)) (fun k => a20 (ix1 k)) e := by
  unfold tF rmsRow
  pointwise
/-- The last eight rows. -/
theorem rT (v70 : FVec Ideal S16384x5632 .f32) (i : Fin 8) (e : Fin 5632) :
    extractStridedSlice S8x5632 ![16376, 0] v70 slices_S16384x5632_S8x5632_16376_0 (ix2 i e) = v70 (ix2 ⟨16376 + i.val, by omega⟩ e) := by
  pointwise

end Cert.MergeRefIdeal.Mix
-- ==== Proof.Merge.RefVal.lean ====
module

public import proofs.«01_k».proof.Proof.Merge.Ref

@[expose] public section
set_option maxHeartbeats 400000
set_option maxRecDepth 8192
noncomputable section
/-! # The merge and the channel mixer: the reference's results are the specification's -/
namespace Cert.MergeRefIdeal.Mix
open Cert.MergeRefIdeal Cert.MergeRefIdeal.Gen Cert.MergeRefIdeal.Value Idealize.ShloMosaic Idealize.ShloMosaic.TcCoe Idealize.ShloMosaic.Tactic Cert.MergeIdeal.Mix
variable (V : Valuation τ sig (Elt Ideal))

/-- The argument arrays' entries. -/
abbrev refIn : In := In.ofArgs (V (Proc.devRef .tc main_arg0)) (V (Proc.devRef .tc main_arg1)) (V (Proc.devRef .tc main_arg2))
  (V (Proc.devRef .tc main_arg3)) (V (Proc.devRef .tc main_arg4)) (V (Proc.devRef .tc main_arg5)) (V (Proc.devRef .tc main_arg6))
  (V (Proc.devRef .tc main_arg7)) (V (Proc.devRef .tc main_arg8)) (V (Proc.devRef .tc main_arg9)) (V (Proc.devRef .tc main_arg10))
  (V (Proc.devRef .tc main_arg11)) (V (Proc.devRef .tc main_arg12)) (V (Proc.devRef .tc main_arg13)) (V (Proc.devRef .tc main_arg14))
  (V (Proc.devRef .tc main_arg15)) (V (Proc.devRef .tc main_arg16)) (V (Proc.devRef .tc main_arg17)) (V (Proc.devRef .tc main_arg18))
  (V (Proc.devRef .tc main_arg19)) (V (Proc.devRef .tc main_arg20))

/-- A head's mean is that of the specification. -/
theorem mean_eq (a1 : FVec Ideal S1x16384x512 .f32) (n : Fin 16384) (j : Fin 512) :
    t4 (t0 a1) (ix3 n ⟨j.val / 64, by omega⟩ 0) = headMean (fun k => a1 (ix3 0 n k)) j :=
  (r4 ..).trans (congrArg (Ideal.div · _) (Finset.sum_congr rfl fun d _ => r0 ..))

/-- A deviation likewise. -/
theorem dev_eq (a1 : FVec Ideal S1x16384x512 .f32) (n : Fin 16384) (j : Fin 512) (d : Fin 64) :
    t6 (t0 a1) (t4 (t0 a1)) (ix3 n ⟨j.val / 64, by omega⟩ d)
      = headDev (fun k => a1 (ix3 0 n k)) ⟨j.val / 64 * 64 + d.val, by omega⟩ := by
  have h := mean_eq a1 n ⟨j.val / 64 * 64 + d.val, by omega⟩
  have hq : (⟨(⟨j.val / 64 * 64 + d.val, by omega⟩ : Fin 512).val / 64, by omega⟩ : Fin 8) = ⟨j.val / 64, by omega⟩ :=
    Fin.ext (by dsimp only; omega)
  rw [hq] at h
  rw [r6, r0, h]
  rfl

/-- A normalised entry likewise. -/
theorem norm_eq (a1 : FVec Ideal S1x16384x512 .f32) (n : Fin 16384) (j : Fin 512) :
    refNorm (t0 a1) (t4 (t0 a1)) (t6 (t0 a1) (t4 (t0 a1))) n j = headNorm (fun k => a1 (ix3 0 n k)) j := by
  have hj : (⟨j.val / 64 * 64 + j.val % 64, by omega⟩ : Fin 512) = j := Fin.ext (by dsimp only; omega)
  have h0 : t0 a1 (ix3 n ⟨j.val / 64, by omega⟩ ⟨j.val % 64, by omega⟩) = a1 (ix3 0 n j) :=
    (r0 ..).trans (congrArg (fun k => a1 (ix3 0 n k)) hj)
  unfold refNorm headNorm
  rw [h0, mean_eq]
  refine congrArg (fun s => _ * Ideal.rsqrt (Ideal.div s _ + _)) (Finset.sum_congr rfl fun d _ => ?_)
  rw [dev_eq]

/-- The merged rows. -/
theorem v54_eq (n : Fin 16384) (e : Fin 1024) : res_main_v54 V (ix2 n e) = (refIn V).h n e := by
  refine (r54 (t0 (V (Proc.devRef .tc main_arg1))) (t4 (t0 (V (Proc.devRef .tc main_arg1))))
    (t6 (t0 (V (Proc.devRef .tc main_arg1))) (t4 (t0 (V (Proc.devRef .tc main_arg1))))) (V (Proc.devRef .tc main_arg0))
    (V (Proc.devRef .tc main_arg2)) (V (Proc.devRef .tc main_arg3)) (V (Proc.devRef .tc main_arg4)) (V (Proc.devRef .tc main_arg5))
    (V (Proc.devRef .tc main_arg7)) (V (Proc.devRef .tc main_arg8)) (V (Proc.devRef .tc main_arg9)) (V (Proc.devRef .tc main_arg10))
    (V (Proc.devRef .tc main_arg11)) n e).trans ?_
  simp only [norm_eq]
  rfl

/-- The up projection. -/
theorem v70_eq (n : Fin 16384) (e : Fin 5632) : res_main_v70 V (ix2 n e) = (refIn V).u n e := by
  refine (r70 (res_main_v54 V) (V (Proc.devRef .tc main_arg12)) (V (Proc.devRef .tc main_arg13)) n e).trans ?_
  simp only [v54_eq]
  rfl

/-- The up projection with two rows of zeros before it. -/
theorem v72_eq (k : ℕ) (hk : k ≤ 2) (n : Fin 16384) (e : Fin 5632) (j : Fin 16386) (hj : j.val = 2 - k + n.val) :
    res_main_v72 V (ix2 j e) = (refIn V).prev k n e := by
  refine (r72 (res_main_v70 V) j e).trans ?_
  unfold In.prev
  by_cases h : n.val < k
  · rw [dif_pos h, dif_pos (by omega)]
  · rw [dif_neg h, dif_neg (by omega), v70_eq]
    exact congrArg (fun n => (refIn V).u n e) (Fin.ext (by dsimp only; omega))

/-- The convolved rows. -/
theorem v101_eq (n : Fin 16384) (e : Fin 5632) : res_main_v101 V (ix2 n e) = (refIn V).c n e := by
  refine (r101 (res_main_v72 V) (V (Proc.devRef .tc main_arg14)) (V (Proc.devRef .tc main_arg15)) n e).trans ?_
  have h0 := fun e => v72_eq V 2 (by omega) n e ⟨n.val, by omega⟩ (by dsimp only; omega)
  have h1 := fun e => v72_eq V 1 (by omega) n e ⟨1 + n.val, by omega⟩ (by dsimp only)
  have h2 := fun e => v72_eq V 0 (by omega) n e ⟨2 + n.val, by omega⟩ (by dsimp only)
  have h3 : (refIn V).prev 0 n = (refIn V).u n := rfl
  simp only [h0, h1, h2, h3]
  rfl

/-- The rows after the channel mixer. -/
theorem v108_eq (n : Fin 16384) (e : Fin 1024) :
    res_main_v108 V (ix2 n e) = (refIn V).h n e + ∑ f, act ((refIn V).c n) f * (refIn V).wd f e := by
  refine (r108 (res_main_v54 V) (res_main_v101 V) (V (Proc.devRef .tc main_arg16)) n e).trans ?_
  simp only [v54_eq, v101_eq]
  rfl

/-- The rows after the added embedding. -/
theorem v136_eq (n : Fin 16384) (e : Fin 1024) :
    res_main_v136 V (ix2 n e) = mixed ((refIn V).h n) (fun e => ∑ f, act ((refIn V).c n) f * (refIn V).wd f e) ((refIn V).p n)
      (refIn V).wpe (refIn V).n3 (refIn V).wpg e :=
  r136 (res_main_v108 V) (V (Proc.devRef .tc main_arg6)) (V (Proc.devRef .tc main_arg17)) (V (Proc.devRef .tc main_arg18))
    (V (Proc.devRef .tc main_arg19)) n e _ _ (v108_eq V n)

/-- The reference's first result is the specification's. -/
theorem ref_first : (tF (res_main_v136 V) (V (Proc.devRef .tc main_arg20)) : S16384x1024.Idx → EReal)
    = fun y => (refIn V).res (y 0) (y 1) := by
  funext y
  obtain ⟨n, e, rfl⟩ : ∃ (n : Fin 16384) (e : Fin 1024), y = ix2 n e := ⟨y 0, y 1, eq_ix2 y⟩
  refine (rF (res_main_v136 V) (V (Proc.devRef .tc main_arg20)) n e).trans ?_
  simp only [v136_eq]
  rfl

/-- The reference's second result is the specification's. -/
theorem ref_tail : (extractStridedSlice S8x5632 ![16376, 0] (res_main_v70 V) slices_S16384x5632_S8x5632_16376_0 : S8x5632.Idx → EReal)
    = fun y => (refIn V).tail (y 0) (y 1) := by
  funext y
  obtain ⟨i, e, rfl⟩ : ∃ (i : Fin 8) (e : Fin 5632), y = ix2 i e := ⟨y 0, y 1, eq_ix2 y⟩
  exact (rT (res_main_v70 V) i e).trans (v70_eq V _ e)

end Cert.MergeRefIdeal.Mix
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Scan.Value
public import proofs.«01_k».proof.Proof.Scan.Ref
public import proofs.«01_k».proof.Proof.Proj.Value
public import proofs.«01_k».proof.Proof.Proj.Ref
public import proofs.«01_k».proof.Proof.Merge.Printed.Frame
public import proofs.«01_k».proof.Proof.Merge.Ideal.Frame
public import proofs.«01_k».proof.Proof.Merge.Ideal.Value
public import proofs.«01_k».proof.Proof.Gen.MergeRefIdeal.Run
public import proofs.«01_k».proof.Proof.Merge.Arrays
public import proofs.«01_k».proof.Proof.Merge.Finite
public import proofs.«01_k».proof.Proof.Merge.RefVal

@[expose] public section

noncomputable section

namespace Cert.Proof

open Idealize.ShloMosaic Idealize.SL.Sem

/-- The reference terminates, leaves its arguments unchanged, and has no semaphore. -/
theorem ref_quiescent : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- The recurrence step: kernel and reference end with equal outputs and equal new states. -/
theorem scan_algebraic : Cert.algebraic_KernelIdeal_ReferenceIdeal := by
  intro m g m' g' _ hm
  refine ⟨fun c => Cert.KernelIdeal.Scan.arrY m c, fun c => Cert.KernelIdeal.Scan.arrS m c, ?_, ?_⟩
  · refine (θ_run _ _ _).mono (fun r h c => ?_) (Cert.KernelIdeal.Value.run_blocks m g)
    exact ⟨(h c).1.trans (Cert.KernelIdeal.Scan.y_eq m c), (h c).2.1.trans (Cert.KernelIdeal.Scan.s_eq m c), (h c).2.2⟩
  · refine (θ_run _ _ _).mono (fun r h c => ?_) (Cert.ReferenceIdeal.Value.run m' g')
    obtain ⟨h0, h1, h2, h3, h4, h5, h6⟩ := hm c
    refine ⟨(h c).1.trans ?_, (h c).2.1.trans ?_, (h c).2.2⟩
    · rw [h0, h1, h2, h3, h4, h5, h6]
      exact Cert.ReferenceIdeal.Scan.ref_y ..
    · rw [h1, h2, h3, h4, h5, h6]
      exact Cert.ReferenceIdeal.Scan.ref_s ..

/-- The projection's reference terminates, leaves its arguments unchanged, and has no semaphore. -/
theorem proj_ref_quiescent : Cert.quiescent_ProjRefIdeal := fun m ρ _ =>
  (θ_run Cert.ProjRefIdeal.defs _ _).mono (fun r h => ⟨fun c => (h c).2.2.2.2.2.2.2.2.2.2.2, sem_eq_zero_of_no_sems (by decide) r.2⟩)
    (Cert.ProjRefIdeal.Value.run m ρ)

/-- The input projection: kernel and reference end with equal results, all eleven of them. -/
theorem proj_algebraic : Cert.algebraic_ProjIdeal_ProjRefIdeal := by
  intro m g m' g' _ hm
  refine ⟨fun c => Cert.ProjIdeal.Proj.arr3 m c, fun c => Cert.ProjIdeal.Proj.arr4 m c, fun c => Cert.ProjIdeal.Proj.arr5 m c, fun c => Cert.ProjIdeal.Proj.arr6 m c, fun c => Cert.ProjIdeal.Proj.arr7 m c, fun c => Cert.ProjIdeal.Proj.arr8 m c, fun c => Cert.ProjIdeal.Proj.arr9 m c, fun c => Cert.ProjIdeal.Proj.arr10 m c, fun c => Cert.ProjIdeal.Proj.arr11 m c, fun c => Cert.ProjIdeal.Proj.arr12 m c, fun c => Cert.ProjIdeal.Proj.arr13 m c, ?_, ?_⟩
  · refine (θ_run _ _ _).mono (fun r h c => ?_) (Cert.ProjIdeal.Value.run_blocks m g)
    exact ⟨((h c).1).trans (Cert.ProjIdeal.Proj.res3 m c), ((h c).2.1).trans (Cert.ProjIdeal.Proj.res4 m c), ((h c).2.2.1).trans (Cert.ProjIdeal.Proj.res5 m c), ((h c).2.2.2.1).trans (Cert.ProjIdeal.Proj.res6 m c), ((h c).2.2.2.2.1).trans (Cert.ProjIdeal.Proj.res7 m c), ((h c).2.2.2.2.2.1).trans (Cert.ProjIdeal.Proj.res8 m c), ((h c).2.2.2.2.2.2.1).trans (Cert.ProjIdeal.Proj.res9 m c), ((h c).2.2.2.2.2.2.2.1).trans (Cert.ProjIdeal.Proj.res10 m c), ((h c).2.2.2.2.2.2.2.2.1).trans (Cert.ProjIdeal.Proj.res11 m c), ((h c).2.2.2.2.2.2.2.2.2.1).trans (Cert.ProjIdeal.Proj.res12 m c), ((h c).2.2.2.2.2.2.2.2.2.2.1).trans (Cert.ProjIdeal.Proj.res13 m c), (h c).2.2.2.2.2.2.2.2.2.2.2⟩
  · refine (θ_run _ _ _).mono (fun r h c => ?_) (Cert.ProjRefIdeal.Value.run m' g')
    obtain ⟨h0, h1, h2⟩ := hm c
    have hP := Cert.ProjRefIdeal.Proj.ref_proj (m ((c.tc : Thread Cert.ProjIdeal.nD Cert.ProjIdeal.τ).loc Cert.ProjIdeal.main_arg0))
      (m ((c.tc : Thread Cert.ProjIdeal.nD Cert.ProjIdeal.τ).loc Cert.ProjIdeal.main_arg1))
      (m ((c.tc : Thread Cert.ProjIdeal.nD Cert.ProjIdeal.τ).loc Cert.ProjIdeal.main_arg2))
    refine ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, ((h c).2.2.2.2.2.2.2.1).trans ?_, ((h c).2.2.2.2.2.2.2.2.1).trans ?_, ((h c).2.2.2.2.2.2.2.2.2.1).trans ?_, ((h c).2.2.2.2.2.2.2.2.2.2.1).trans ?_, (h c).2.2.2.2.2.2.2.2.2.2.2⟩ <;> rw [h0, h1, h2]
    · exact Cert.ProjRefIdeal.Proj.ref3 _ _ hP
    · exact Cert.ProjRefIdeal.Proj.ref4 _ _ hP
    · exact Cert.ProjRefIdeal.Proj.ref5 _ _ hP
    · exact Cert.ProjRefIdeal.Proj.ref6 _ _ hP
    · exact Cert.ProjRefIdeal.Proj.ref7 _ _ hP
    · exact Cert.ProjRefIdeal.Proj.ref8 _ _ hP
    · exact Cert.ProjRefIdeal.Proj.ref9 _ _ hP
    · exact Cert.ProjRefIdeal.Proj.ref10 _ _ hP
    · exact Cert.ProjRefIdeal.Proj.ref11 _ _ hP
    · exact Cert.ProjRefIdeal.Proj.ref12 _ _ hP
    · exact Cert.ProjRefIdeal.Proj.ref13 _ _ hP

/-- The merge's reference terminates, leaves its arguments unchanged, and has no semaphore. -/
theorem merge_ref_quiescent : Cert.quiescent_MergeRefIdeal := fun m ρ _ =>
  (θ_run Cert.MergeRefIdeal.defs _ _).mono (fun r h => ⟨fun c => (h c).2.2, sem_eq_zero_of_no_sems (by decide) r.2⟩)
    (Cert.MergeRefIdeal.Value.run m ρ)

/-- The merge and the channel mixer: kernel and reference end with equal results, when every entry of y is finite. -/
theorem merge_algebraic : Cert.algebraic_MergeIdeal_MergeRefIdeal_pre_y_finite (hPre_y_finite := Cert.MergeIdeal.Mix.preFacts) := by
  intro m g m' g' hp hm
  refine ⟨fun c => Cert.MergeIdeal.Mix.arr23 m c, fun c => Cert.MergeIdeal.Mix.arr24 m c, ?_, ?_⟩
  · refine (θ_run _ _ _).mono (fun r h c => ?_) (Cert.MergeIdeal.Value.run_blocks m g)
    have hy := Cert.MergeIdeal.Mix.y_real m Cert.MergeIdeal.Mix.preFacts hp c
    exact ⟨(h c).1.trans (Cert.MergeIdeal.Mix.res23 m c hy), (h c).2.1.trans (Cert.MergeIdeal.Mix.res24 m c hy), (h c).2.2⟩
  · refine (θ_run _ _ _).mono (fun r h c => ?_) (Cert.MergeRefIdeal.Value.run m' g')
    obtain ⟨h0, h1, h2, h3, h4, h5, h6, h7, h8, h9, h10, h11, h12, h13, h14, h15, h16, h17, h18, h19, h20⟩ := hm c
    have hin : Cert.MergeRefIdeal.Mix.refIn (Idealize.ShloMosaic.StableHlo.launchContents m' c) = Cert.MergeIdeal.Mix.argIn m c := by
      change Cert.MergeIdeal.Mix.In.ofArgs (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6)) (m' ((c.tc : Thread Cert.MergeRefIdeal.nD Cert.MergeRefIdeal.τ).loc Cert.MergeRefIdeal.main_arg7)) (m' ((c.tc : Thread Cert.MergeRefIdeal.nD Cert.MergeRefIdeal.τ).loc Cert.MergeRefIdeal.main_arg8)) (m' ((c.tc : Thread Cert.MergeRefIdeal.nD Cert.MergeRefIdeal.τ).loc Cert.MergeRefIdeal.main_arg9)) (m' ((c.tc : Thread Cert.MergeRefIdeal.nD Cert.MergeRefIdeal.τ).loc Cert.MergeRefIdeal.main_arg10)) (m' ((c.tc : Thread Cert.MergeRefIdeal.nD Cert.MergeRefIdeal.τ).loc Cert.MergeRefIdeal.main_arg11)) (m' ((c.tc : Thread Cert.MergeRefIdeal.nD Cert.MergeRefIdeal.τ).loc Cert.MergeRefIdeal.main_arg12)) (m' ((c.tc : Thread Cert.MergeRefIdeal.nD Cert.MergeRefIdeal.τ).loc Cert.MergeRefIdeal.main_arg13)) (m' ((c.tc : Thread Cert.MergeRefIdeal.nD Cert.MergeRefIdeal.τ).loc Cert.MergeRefIdeal.main_arg14)) (m' ((c.tc : Thread Cert.MergeRefIdeal.nD Cert.MergeRefIdeal.τ).loc Cert.MergeRefIdeal.main_arg15)) (m' ((c.tc : Thread Cert.MergeRefIdeal.nD Cert.MergeRefIdeal.τ).loc Cert.MergeRefIdeal.main_arg16)) (m' ((c.tc : Thread Cert.MergeRefIdeal.nD Cert.MergeRefIdeal.τ).loc Cert.MergeRefIdeal.main_arg17)) (m' ((c.tc : Thread Cert.MergeRefIdeal.nD Cert.MergeRefIdeal.τ).loc Cert.MergeRefIdeal.main_arg18)) (m' ((c.tc : Thread Cert.MergeRefIdeal.nD Cert.MergeRefIdeal.τ).loc Cert.MergeRefIdeal.main_arg19)) (m' ((c.tc : Thread Cert.MergeRefIdeal.nD Cert.MergeRefIdeal.τ).loc Cert.MergeRefIdeal.main_arg20)) = _
      rw [h0, h1, h2, h3, h4, h5, h6, h7, h8, h9, h10, h11, h12, h13, h14, h15, h16, h17, h18, h19, h20]
    refine ⟨(h c).1.trans ?_, (h c).2.1.trans ?_, (h c).2.2⟩
    · refine (Cert.MergeRefIdeal.Mix.ref_first _).trans ?_
      rw [hin]
      rfl
    · refine (Cert.MergeRefIdeal.Mix.ref_tail _).trans ?_
      rw [hin]
      rfl

/-- The certificate. -/
theorem claim : Cert.Claim := ⟨Cert.Kernel.Gen.facts, Cert.KernelIdeal.Gen.facts, Cert.ReferenceIdeal.Gen.facts,
  Cert.Proj.Gen.facts, Cert.ProjIdeal.Gen.facts, Cert.ProjRefIdeal.Gen.facts,
  Cert.Merge.Gen.facts, Cert.MergeIdeal.Gen.facts, Cert.MergeRefIdeal.Gen.facts, Cert.MergeIdeal.Mix.preFacts,
  fun m ρ _ => Cert.Kernel.Gen.frame m ρ, fun m ρ _ => Cert.KernelIdeal.Gen.frame m ρ,
  ref_quiescent,
  fun m ρ _ => Cert.Proj.Gen.frame m ρ, fun m ρ _ => Cert.ProjIdeal.Gen.frame m ρ,
  proj_ref_quiescent,
  fun m ρ _ => Cert.Merge.Gen.frame m ρ, fun m ρ _ => Cert.MergeIdeal.Gen.frame m ρ, fun m ρ _ => Cert.MergeIdeal.Gen.frame m ρ,
  merge_ref_quiescent, fun m ρ _ => merge_ref_quiescent m ρ trivial,
  trivial, scan_algebraic, trivial, proj_algebraic, trivial, merge_algebraic⟩

end Cert.Proof

end
